-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_LatDx (m : (ℓ : Loc Cert.LatDx.nD Cert.LatDx.τ Cert.LatDx.sig) → Buf (Elt Bits) ℓ) : Prop :=
  True

def Pre_LatDxIdeal (m : (ℓ : Loc Cert.LatDxIdeal.nD Cert.LatDxIdeal.τ Cert.LatDxIdeal.sig) → Buf (Elt Ideal) ℓ) : Prop :=
  True

def Pre_LatDxRefIdeal (m : (ℓ : Loc Cert.LatDxRefIdeal.nD Cert.LatDxRefIdeal.τ Cert.LatDxRefIdeal.sig) → Buf (Elt Ideal) ℓ) : Prop :=
  True

def Pre_LatDw (m : (ℓ : Loc Cert.LatDw.nD Cert.LatDw.τ Cert.LatDw.sig) → Buf (Elt Bits) ℓ) : Prop :=
  True

def Pre_LatDwIdeal (m : (ℓ : Loc Cert.LatDwIdeal.nD Cert.LatDwIdeal.τ Cert.LatDwIdeal.sig) → Buf (Elt Ideal) ℓ) : Prop :=
  True

def Pre_LatDwRefIdeal (m : (ℓ : Loc Cert.LatDwRefIdeal.nD Cert.LatDwRefIdeal.τ Cert.LatDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_LatDx [hLatDx : Cert.LatDx.Facts] : Prop :=
  ∀ (m : (ℓ : Loc Cert.LatDx.nD Cert.LatDx.τ Cert.LatDx.sig) → Buf (Elt Bits) ℓ) (g : Dev Cert.LatDx.nD → PrngReg), Pre_LatDx m →
    θ_run (Cert.LatDx.defs (F := Bits)) (onTc (τ := Cert.LatDx.τ) (Cert.LatDx.main (F := Bits))) ⟨m, fun _ => 0, g⟩ (fun r => (∀ c : Dev Cert.LatDx.nD,
      r.2.mem ((c.tc : Thread Cert.LatDx.nD Cert.LatDx.τ).loc Cert.LatDx.main_arg0) = m ((c.tc : Thread Cert.LatDx.nD Cert.LatDx.τ).loc Cert.LatDx.main_arg0)
      ∧ r.2.mem ((c.tc : Thread Cert.LatDx.nD Cert.LatDx.τ).loc Cert.LatDx.main_arg1) = m ((c.tc : Thread Cert.LatDx.nD Cert.LatDx.τ).loc Cert.LatDx.main_arg1)
      ∧ r.2.mem ((c.tc : Thread Cert.LatDx.nD Cert.LatDx.τ).loc Cert.LatDx.main_arg2) = m ((c.tc : Thread Cert.LatDx.nD Cert.LatDx.τ).loc Cert.LatDx.main_arg2))
      ∧ r.2.sem = fun _ => 0)

def quiescent_LatDxIdeal [hLatDxIdeal : Cert.LatDxIdeal.Facts] : Prop :=
  ∀ (m : (ℓ : Loc Cert.LatDxIdeal.nD Cert.LatDxIdeal.τ Cert.LatDxIdeal.sig) → Buf (Elt Ideal) ℓ) (g : Dev Cert.LatDxIdeal.nD → PrngReg), Pre_LatDxIdeal m →
    θ_run (Cert.LatDxIdeal.defs (F := Ideal)) (onTc (τ := Cert.LatDxIdeal.τ) (Cert.LatDxIdeal.main (F := Ideal))) ⟨m, fun _ => 0, g⟩ (fun r => (∀ c : Dev Cert.LatDxIdeal.nD,
      r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
      ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1)
      ∧ r.2.mem ((c.tc : Thread Cert.LatDxIdeal.nD Cert.LatDxIdeal.τ).loc Cert.LatDxIdeal.main_arg2) = m ((c.tc : Thread Cert.LatDxIdeal.nD Cert.LatDxIdeal.τ).loc Cert.LatDxIdeal.main_arg2))
      ∧ r.2.sem = fun _ => 0)

def quiescent_LatDxRefIdeal [hLatDxRefIdeal : Cert.LatDxRefIdeal.Facts] : Prop :=
  ∀ (m : (ℓ : Loc Cert.LatDxRefIdeal.nD Cert.LatDxRefIdeal.τ Cert.LatDxRefIdeal.sig) → Buf (Elt Ideal) ℓ) (g : Dev Cert.LatDxRefIdeal.nD → PrngReg), Pre_LatDxRefIdeal m →
    θ_run (Cert.LatDxRefIdeal.defs (F := Ideal)) (onTc (τ := Cert.LatDxRefIdeal.τ) (Cert.LatDxRefIdeal.main (F := Ideal))) ⟨m, fun _ => 0, g⟩ (fun r => (∀ c : Dev Cert.LatDxRefIdeal.nD,
      r.2.mem ((c.tc : Thread Cert.LatDxRefIdeal.nD Cert.LatDxRefIdeal.τ).loc Cert.LatDxRefIdeal.main_arg0) = m ((c.tc : Thread Cert.LatDxRefIdeal.nD Cert.LatDxRefIdeal.τ).loc Cert.LatDxRefIdeal.main_arg0)
      ∧ r.2.mem ((c.tc : Thread Cert.LatDxRefIdeal.nD Cert.LatDxRefIdeal.τ).loc Cert.LatDxRefIdeal.main_arg1) = m ((c.tc : Thread Cert.LatDxRefIdeal.nD Cert.LatDxRefIdeal.τ).loc Cert.LatDxRefIdeal.main_arg1)
      ∧ r.2.mem ((c.tc : Thread Cert.LatDxRefIdeal.nD Cert.LatDxRefIdeal.τ).loc Cert.LatDxRefIdeal.main_arg2) = m ((c.tc : Thread Cert.LatDxRefIdeal.nD Cert.LatDxRefIdeal.τ).loc Cert.LatDxRefIdeal.main_arg2))
      ∧ r.2.sem = fun _ => 0)

def quiescent_LatDw [hLatDw : Cert.LatDw.Facts] : Prop :=
  ∀ (m : (ℓ : Loc Cert.LatDw.nD Cert.LatDw.τ Cert.LatDw.sig) → Buf (Elt Bits) ℓ) (g : Dev Cert.LatDw.nD → PrngReg), Pre_LatDw m →
    θ_run (Cert.LatDw.defs (F := Bits)) (onTc (τ := Cert.LatDw.τ) (Cert.LatDw.main (F := Bits))) ⟨m, fun _ => 0, g⟩ (fun r => (∀ c : Dev Cert.LatDw.nD,
      r.2.mem ((c.tc : Thread Cert.LatDw.nD Cert.LatDw.τ).loc Cert.LatDw.main_arg0) = m ((c.tc : Thread Cert.LatDw.nD Cert.LatDw.τ).loc Cert.LatDw.main_arg0)
      ∧ r.2.mem ((c.tc : Thread Cert.LatDw.nD Cert.LatDw.τ).loc Cert.LatDw.main_arg1) = m ((c.tc : Thread Cert.LatDw.nD Cert.LatDw.τ).loc Cert.LatDw.main_arg1)
      ∧ r.2.mem ((c.tc : Thread Cert.LatDw.nD Cert.LatDw.τ).loc Cert.LatDw.main_arg2) = m ((c.tc : Thread Cert.LatDw.nD Cert.LatDw.τ).loc Cert.LatDw.main_arg2))
      ∧ r.2.sem = fun _ => 0)

def quiescent_LatDwIdeal [hLatDwIdeal : Cert.LatDwIdeal.Facts] : Prop :=
  ∀ (m : (ℓ : Loc Cert.LatDwIdeal.nD Cert.LatDwIdeal.τ Cert.LatDwIdeal.sig) → Buf (Elt Ideal) ℓ) (g : Dev Cert.LatDwIdeal.nD → PrngReg), Pre_LatDwIdeal m →
    θ_run (Cert.LatDwIdeal.defs (F := Ideal)) (onTc (τ := Cert.LatDwIdeal.τ) (Cert.LatDwIdeal.main (F := Ideal))) ⟨m, fun _ => 0, g⟩ (fun r => (∀ c : Dev Cert.LatDwIdeal.nD,
      r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
      ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
      ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ r.2.sem = fun _ => 0)

def quiescent_LatDwRefIdeal [hLatDwRefIdeal : Cert.LatDwRefIdeal.Facts] : Prop :=
  ∀ (m : (ℓ : Loc Cert.LatDwRefIdeal.nD Cert.LatDwRefIdeal.τ Cert.LatDwRefIdeal.sig) → Buf (Elt Ideal) ℓ) (g : Dev Cert.LatDwRefIdeal.nD → PrngReg), Pre_LatDwRefIdeal m →
    θ_run (Cert.LatDwRefIdeal.defs (F := Ideal)) (onTc (τ := Cert.LatDwRefIdeal.τ) (Cert.LatDwRefIdeal.main (F := Ideal))) ⟨m, fun _ => 0, g⟩ (fun r => (∀ c : Dev Cert.LatDwRefIdeal.nD,
      r.2.mem ((c.tc : Thread Cert.LatDwRefIdeal.nD Cert.LatDwRefIdeal.τ).loc Cert.LatDwRefIdeal.main_arg0) = m ((c.tc : Thread Cert.LatDwRefIdeal.nD Cert.LatDwRefIdeal.τ).loc Cert.LatDwRefIdeal.main_arg0)
      ∧ r.2.mem ((c.tc : Thread Cert.LatDwRefIdeal.nD Cert.LatDwRefIdeal.τ).loc Cert.LatDwRefIdeal.main_arg1) = m ((c.tc : Thread Cert.LatDwRefIdeal.nD Cert.LatDwRefIdeal.τ).loc Cert.LatDwRefIdeal.main_arg1)
      ∧ r.2.mem ((c.tc : Thread Cert.LatDwRefIdeal.nD Cert.LatDwRefIdeal.τ).loc Cert.LatDwRefIdeal.main_arg2) = m ((c.tc : Thread Cert.LatDwRefIdeal.nD Cert.LatDwRefIdeal.τ).loc Cert.LatDwRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v4) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v5) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v5) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v2) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v0) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1))

def preserves_LatDx_LatDxIdeal : Prop :=
  True

def algebraic_LatDxIdeal_LatDxRefIdeal [hLatDxIdeal : Cert.LatDxIdeal.Facts] [hLatDxRefIdeal : Cert.LatDxRefIdeal.Facts] : Prop :=
  ∀ (m : (ℓ : Loc Cert.LatDxIdeal.nD Cert.LatDxIdeal.τ Cert.LatDxIdeal.sig) → Buf (Elt Ideal) ℓ) (g : Dev Cert.LatDxIdeal.nD → PrngReg)
    (m' : (ℓ : Loc Cert.LatDxRefIdeal.nD Cert.LatDxRefIdeal.τ Cert.LatDxRefIdeal.sig) → Buf (Elt Ideal) ℓ) (g' : Dev Cert.LatDxRefIdeal.nD → PrngReg), Pre_LatDxIdeal m →
    (∀ c : Dev Cert.LatDxIdeal.nD,
      m' ((c.tc : Thread Cert.LatDxRefIdeal.nD Cert.LatDxRefIdeal.τ).loc Cert.LatDxRefIdeal.main_arg0) = m ((c.tc : Thread Cert.LatDxIdeal.nD Cert.LatDxIdeal.τ).loc Cert.LatDxIdeal.main_arg0)
      ∧ m' ((c.tc : Thread Cert.LatDxRefIdeal.nD Cert.LatDxRefIdeal.τ).loc Cert.LatDxRefIdeal.main_arg1) = m ((c.tc : Thread Cert.LatDxIdeal.nD Cert.LatDxIdeal.τ).loc Cert.LatDxIdeal.main_arg1)
      ∧ m' ((c.tc : Thread Cert.LatDxRefIdeal.nD Cert.LatDxRefIdeal.τ).loc Cert.LatDxRefIdeal.main_arg2) = m ((c.tc : Thread Cert.LatDxIdeal.nD Cert.LatDxIdeal.τ).loc Cert.LatDxIdeal.main_arg2)) →
    ∃ (v0 : (c : Dev Cert.LatDxIdeal.nD) → Buf (Elt Ideal) ((c.tc : Thread Cert.LatDxIdeal.nD Cert.LatDxIdeal.τ).loc Cert.LatDxIdeal.main_v1)),
      θ_run (Cert.LatDxIdeal.defs (F := Ideal)) (onTc (τ := Cert.LatDxIdeal.τ) (Cert.LatDxIdeal.main (F := Ideal))) ⟨m, fun _ => 0, g⟩ (fun r => ∀ c : Dev Cert.LatDxIdeal.nD,
          r.2.mem ((c.tc : Thread Cert.LatDxIdeal.nD Cert.LatDxIdeal.τ).loc Cert.LatDxIdeal.main_v1) = v0 c
          ∧ r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
          ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1)
          ∧ r.2.mem ((c.tc : Thread Cert.LatDxIdeal.nD Cert.LatDxIdeal.τ).loc Cert.LatDxIdeal.main_arg2) = m ((c.tc : Thread Cert.LatDxIdeal.nD Cert.LatDxIdeal.τ).loc Cert.LatDxIdeal.main_arg2))
      ∧ θ_run (Cert.LatDxRefIdeal.defs (F := Ideal)) (onTc (τ := Cert.LatDxRefIdeal.τ) (Cert.LatDxRefIdeal.main (F := Ideal))) ⟨m', fun _ => 0, g'⟩ (fun r => ∀ c : Dev Cert.LatDxRefIdeal.nD,
          r.2.mem ((c.tc : Thread Cert.LatDxRefIdeal.nD Cert.LatDxRefIdeal.τ).loc Cert.LatDxRefIdeal.main_v4) = v0 c
          ∧ r.2.mem ((c.tc : Thread Cert.LatDxRefIdeal.nD Cert.LatDxRefIdeal.τ).loc Cert.LatDxRefIdeal.main_arg0) = m' ((c.tc : Thread Cert.LatDxRefIdeal.nD Cert.LatDxRefIdeal.τ).loc Cert.LatDxRefIdeal.main_arg0)
          ∧ r.2.mem ((c.tc : Thread Cert.LatDxRefIdeal.nD Cert.LatDxRefIdeal.τ).loc Cert.LatDxRefIdeal.main_arg1) = m' ((c.tc : Thread Cert.LatDxRefIdeal.nD Cert.LatDxRefIdeal.τ).loc Cert.LatDxRefIdeal.main_arg1)
          ∧ r.2.mem ((c.tc : Thread Cert.LatDxRefIdeal.nD Cert.LatDxRefIdeal.τ).loc Cert.LatDxRefIdeal.main_arg2) = m' ((c.tc : Thread Cert.LatDxRefIdeal.nD Cert.LatDxRefIdeal.τ).loc Cert.LatDxRefIdeal.main_arg2))

def preserves_LatDw_LatDwIdeal : Prop :=
  True

def algebraic_LatDwIdeal_LatDwRefIdeal [hLatDwIdeal : Cert.LatDwIdeal.Facts] [hLatDwRefIdeal : Cert.LatDwRefIdeal.Facts] : Prop :=
  ∀ (m : (ℓ : Loc Cert.LatDwIdeal.nD Cert.LatDwIdeal.τ Cert.LatDwIdeal.sig) → Buf (Elt Ideal) ℓ) (g : Dev Cert.LatDwIdeal.nD → PrngReg)
    (m' : (ℓ : Loc Cert.LatDwRefIdeal.nD Cert.LatDwRefIdeal.τ Cert.LatDwRefIdeal.sig) → Buf (Elt Ideal) ℓ) (g' : Dev Cert.LatDwRefIdeal.nD → PrngReg), Pre_LatDwIdeal m →
    (∀ c : Dev Cert.LatDwIdeal.nD,
      m' ((c.tc : Thread Cert.LatDwRefIdeal.nD Cert.LatDwRefIdeal.τ).loc Cert.LatDwRefIdeal.main_arg0) = m ((c.tc : Thread Cert.LatDwIdeal.nD Cert.LatDwIdeal.τ).loc Cert.LatDwIdeal.main_arg0)
      ∧ m' ((c.tc : Thread Cert.LatDwRefIdeal.nD Cert.LatDwRefIdeal.τ).loc Cert.LatDwRefIdeal.main_arg1) = m ((c.tc : Thread Cert.LatDwIdeal.nD Cert.LatDwIdeal.τ).loc Cert.LatDwIdeal.main_arg1)
      ∧ m' ((c.tc : Thread Cert.LatDwRefIdeal.nD Cert.LatDwRefIdeal.τ).loc Cert.LatDwRefIdeal.main_arg2) = m ((c.tc : Thread Cert.LatDwIdeal.nD Cert.LatDwIdeal.τ).loc Cert.LatDwIdeal.main_arg2)) →
    ∃ (v0 : (c : Dev Cert.LatDwIdeal.nD) → Buf (Elt Ideal) ((c.tc : Thread Cert.LatDwIdeal.nD Cert.LatDwIdeal.τ).loc Cert.LatDwIdeal.main_v1)),
      θ_run (Cert.LatDwIdeal.defs (F := Ideal)) (onTc (τ := Cert.LatDwIdeal.τ) (Cert.LatDwIdeal.main (F := Ideal))) ⟨m, fun _ => 0, g⟩ (fun r => ∀ c : Dev Cert.LatDwIdeal.nD,
          r.2.mem ((c.tc : Thread Cert.LatDwIdeal.nD Cert.LatDwIdeal.τ).loc Cert.LatDwIdeal.main_v1) = v0 c
          ∧ r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
          ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
          ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ θ_run (Cert.LatDwRefIdeal.defs (F := Ideal)) (onTc (τ := Cert.LatDwRefIdeal.τ) (Cert.LatDwRefIdeal.main (F := Ideal))) ⟨m', fun _ => 0, g'⟩ (fun r => ∀ c : Dev Cert.LatDwRefIdeal.nD,
          r.2.mem ((c.tc : Thread Cert.LatDwRefIdeal.nD Cert.LatDwRefIdeal.τ).loc Cert.LatDwRefIdeal.main_v4) = v0 c
          ∧ r.2.mem ((c.tc : Thread Cert.LatDwRefIdeal.nD Cert.LatDwRefIdeal.τ).loc Cert.LatDwRefIdeal.main_arg0) = m' ((c.tc : Thread Cert.LatDwRefIdeal.nD Cert.LatDwRefIdeal.τ).loc Cert.LatDwRefIdeal.main_arg0)
          ∧ r.2.mem ((c.tc : Thread Cert.LatDwRefIdeal.nD Cert.LatDwRefIdeal.τ).loc Cert.LatDwRefIdeal.main_arg1) = m' ((c.tc : Thread Cert.LatDwRefIdeal.nD Cert.LatDwRefIdeal.τ).loc Cert.LatDwRefIdeal.main_arg1)
          ∧ r.2.mem ((c.tc : Thread Cert.LatDwRefIdeal.nD Cert.LatDwRefIdeal.τ).loc Cert.LatDwRefIdeal.main_arg2) = m' ((c.tc : Thread Cert.LatDwRefIdeal.nD Cert.LatDwRefIdeal.τ).loc Cert.LatDwRefIdeal.main_arg2))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hLat : Cert.Lat.Facts) (hLatIdeal : Cert.LatIdeal.Facts) (hLatRefIdeal : Cert.LatRefIdeal.Facts) (hLatDx : Cert.LatDx.Facts) (hLatDxIdeal : Cert.LatDxIdeal.Facts) (hLatDxRefIdeal : Cert.LatDxRefIdeal.Facts) (hLatDw : Cert.LatDw.Facts) (hLatDwIdeal : Cert.LatDwIdeal.Facts) (hLatDwRefIdeal : Cert.LatDwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Lat (hLat := hLat)
    ∧ quiescent_LatIdeal (hLatIdeal := hLatIdeal)
    ∧ quiescent_LatRefIdeal (hLatRefIdeal := hLatRefIdeal)
    ∧ quiescent_LatDx (hLatDx := hLatDx)
    ∧ quiescent_LatDxIdeal (hLatDxIdeal := hLatDxIdeal)
    ∧ quiescent_LatDxRefIdeal (hLatDxRefIdeal := hLatDxRefIdeal)
    ∧ quiescent_LatDw (hLatDw := hLatDw)
    ∧ quiescent_LatDwIdeal (hLatDwIdeal := hLatDwIdeal)
    ∧ quiescent_LatDwRefIdeal (hLatDwRefIdeal := hLatDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_Lat_LatIdeal
    ∧ algebraic_LatIdeal_LatRefIdeal (hLatIdeal := hLatIdeal) (hLatRefIdeal := hLatRefIdeal)
    ∧ preserves_LatDx_LatDxIdeal
    ∧ algebraic_LatDxIdeal_LatDxRefIdeal (hLatDxIdeal := hLatDxIdeal) (hLatDxRefIdeal := hLatDxRefIdeal)
    ∧ preserves_LatDw_LatDwIdeal
    ∧ algebraic_LatDwIdeal_LatDwRefIdeal (hLatDwIdeal := hLatDwIdeal) (hLatDwRefIdeal := hLatDwRefIdeal)
-- ==== Pre_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x192 .f32) (main_arg2 : FVec F S4096x8x128 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x192 .f32 := Host.absf main_arg1
  let main_cst_0 : FVec F S_ .f32 := constant S_ .f32 0x7F800000#32
  let main_v5 : FVec F S4096x8x192 .f32 := broadcastInDim S4096x8x192 ![] bcast_S_S4096x8x192 main_cst_0
  let main_v6 : IVec S4096x8x192 1 := cmpf .olt main_v4 main_v5
  let main_c_1 : IVec S_ 1 := constantI S_ 1 1#1
  let main_v7 : IVec S_ 1 := (fun x v => Host.reduce IntOp.andi x v reducesTo_S4096x8x192_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Kernel.lean ====
abbrev S4096x8x192 : Shape := ⟨3, ![4096, 8, 192]⟩
abbrev S4096x8x128 : Shape := ⟨3, ![4096, 8, 128]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x256 : Shape := ⟨3, ![4096, 8, 256]⟩
abbrev S4096x2048 : Shape := ⟨2, ![4096, 2048]⟩
abbrev S4096x8x64 : Shape := ⟨3, ![4096, 8, 64]⟩
abbrev S4096x1024 : Shape := ⟨2, ![4096, 1024]⟩
abbrev S8x1x4096 : Shape := ⟨3, ![8, 1, 4096]⟩
abbrev S4096x512 : Shape := ⟨2, ![4096, 512]⟩
abbrev S4096x256 : Shape := ⟨2, ![4096, 256]⟩
abbrev S2x1x4096 : Shape := ⟨3, ![2, 1, 4096]⟩
abbrev S512x512 : Shape := ⟨2, ![512, 512]⟩
abbrev S512x256 : Shape := ⟨2, ![512, 256]⟩
abbrev S512x128 : Shape := ⟨2, ![512, 128]⟩
abbrev S1x1x512 : Shape := ⟨3, ![1, 1, 512]⟩
abbrev S1x512 : Shape := ⟨2, ![1, 512]⟩

abbrev nBuf : Space → Nat
  | .hbm => 61
  | .vmem => 18
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S_, .f32⟩
  | .hbm, ⟨5, _⟩ => ⟨S4096x8x192, .f32⟩
  | .hbm, ⟨6, _⟩ => ⟨S4096x8x192, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x128x4096, .f32⟩
  | .hbm, ⟨34, _⟩ => ⟨S4096x8x128, .f32⟩
  | .hbm, ⟨35, _⟩ => ⟨S4096x8x128, .f32⟩
  | .hbm, ⟨36, _⟩ => ⟨S_, .f32⟩
  | .hbm, ⟨37, _⟩ => ⟨S4096x8, .f32⟩
  | .hbm, ⟨38, _⟩ => ⟨S_, .f32⟩
  | .hbm, ⟨39, _⟩ => ⟨S4096x8x128, .f32⟩
  | .hbm, ⟨40, _⟩ => ⟨S4096x8x256, .f32⟩
  | .hbm, ⟨41, _⟩ => ⟨S4096x2048, .f32⟩
  | .hbm, ⟨42, _⟩ => ⟨S4096x2048, .bf16⟩
  | .hbm, ⟨43, _⟩ => ⟨S_, .f32⟩
  | .hbm, ⟨44, _⟩ => ⟨S4096x8x64, .f32⟩
  | .hbm, ⟨45, _⟩ => ⟨S4096x8x256, .f32⟩
  | .hbm, ⟨46, _⟩ => ⟨S4096x2048, .f32⟩
  | .hbm, ⟨47, _⟩ => ⟨S4096x2048, .bf16⟩
  | .hbm, ⟨48, _⟩ => ⟨S_, .f32⟩
  | .hbm, ⟨49, _⟩ => ⟨S4096x8x64, .f32⟩
  | .hbm, ⟨50, _⟩ => ⟨S4096x8x256, .f32⟩
  | .hbm, ⟨51, _⟩ => ⟨S4096x2048, .f32⟩
  | .hbm, ⟨52, _⟩ => ⟨S4096x2048, .bf16⟩
  | .hbm, ⟨53, _⟩ => ⟨S4096x1024, .f32⟩
  | .hbm, ⟨54, _⟩ => ⟨S4096x1024, .bf16⟩
  | .hbm, ⟨55, _⟩ => ⟨S8x1x4096, .f32⟩
  | .hbm, ⟨56, _⟩ => ⟨S8x4096, .f32⟩
  | .hbm, ⟨57, _⟩ => ⟨S8x1x4096, .f32⟩
  | .hbm, ⟨58, _⟩ => ⟨S4096x2048, .f32⟩
  | .hbm, ⟨59, _⟩ => ⟨S4096x2048, .f32⟩
  | .hbm, ⟨60, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S4096x256, .bf16⟩
  | .local _ .vmem, ⟨4, _⟩ => ⟨S2x1x4096, .f32⟩
  | .local _ .vmem, ⟨5, _⟩ => ⟨S2x1x4096, .f32⟩
  | .local _ .vmem, ⟨6, _⟩ => ⟨S2x1x4096, .f32⟩
  | .local _ .vmem, ⟨7, _⟩ => ⟨S2x1x4096, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4096x512, .f32⟩
  | .local _ .vmem, ⟨13, _⟩ => ⟨S4096x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  v33
def k0_off1 (i : grid0.Coords) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v35 : Index := Scalar.indexCast v34
  let c0_17 : Index := 0#32
  ![v35.toNat, 0]
def k0_off2 (i : grid0.Coords) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v38 : Index := Scalar.indexCast v34
  let c0_18 : Index := 0#32
  ![v38.toNat, 0]
def k0_off3 (i : grid0.Coords) : Fin 3 → Nat :=
  let c0_20 : Index := 0#32
  let c0_21 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v42 : Index := Scalar.indexCast v34
  ![0, 0, v42.toNat]
def k0_off4 (i : grid0.Coords) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v79 : Index := Scalar.indexCast v34
  let c256_33 : Index := 256#32
  ![v79.toNat, 256]
def k0_off5 (i : grid0.Coords) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v82 : Index := Scalar.indexCast v34
  let c128 : Index := 128#32
  ![v82.toNat, 128]
def k0_off6 (i : grid0.Coords) : Fin 3 → Nat :=
  let c1 : Index := 1#32
  let c0_35 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c512_i32 : BitVec 32 := 512#32
  let v33 : BitVec 32 := Scalar.muli v31 c512_i32
  let v34 : BitVec 32 := v33
  let v86 : Index := Scalar.indexCast v34
  ![1, 0, v86.toNat]
@[reducible] def k0_t1_loop (i : grid0.Coords) : Scf.Loop 32 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_48 : BitVec 32 := 1#32
  ⟨v32, v127, c1_i32_48⟩
def k0_mult2 (i : grid0.Coords) (k0_t1 : Fin (k0_t1_loop i).trips) : BitVec 32 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  v134
def k0_off7 (i : grid0.Coords) (k0_t1 : Fin (k0_t1_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v136 : Index := Scalar.indexCast v135
  let c0_59 : Index := 0#32
  ![v136.toNat, 0]
def k0_off8 (i : grid0.Coords) (k0_t1 : Fin (k0_t1_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v139 : Index := Scalar.indexCast v135
  let c0_60 : Index := 0#32
  ![v139.toNat, 0]
def k0_off9 (i : grid0.Coords) (k0_t1 : Fin (k0_t1_loop i).trips) : Fin 3 → Nat :=
  let c0_62 : Index := 0#32
  let c0_63 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v143 : Index := Scalar.indexCast v135
  ![0, 0, v143.toNat]
def k0_off10 (i : grid0.Coords) (k0_t1 : Fin (k0_t1_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v169 : Index := Scalar.indexCast v135
  let c256_72 : Index := 256#32
  ![v169.toNat, 256]
def k0_off11 (i : grid0.Coords) (k0_t1 : Fin (k0_t1_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v172 : Index := Scalar.indexCast v135
  let c128_73 : Index := 128#32
  ![v172.toNat, 128]
def k0_off12 (i : grid0.Coords) (k0_t1 : Fin (k0_t1_loop i).trips) : Fin 3 → Nat :=
  let c1_75 : Index := 1#32
  let c0_76 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c1_i32_48 : BitVec 32 := 1#32
  let arg11 : BitVec 32 := Scf.iv v32 c1_i32_48 k0_t1
  let c512_i32_58 : BitVec 32 := 512#32
  let v134 : BitVec 32 := Scalar.muli arg11 c512_i32_58
  let v135 : BitVec 32 := v134
  let v176 : Index := Scalar.indexCast v135
  ![1, 0, v176.toNat]
@[reducible] def k0_t2_loop (i : grid0.Coords) : Scf.Loop 32 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let v124 : BitVec 32 := Scalar.addi v32 v123
  let c1_i32_49 : BitVec 32 := 1#32
  ⟨v127, v124, c1_i32_49⟩
def k0_mult3 (i : grid0.Coords) (k0_t2 : Fin (k0_t2_loop i).trips) : BitVec 32 :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  v134
def k0_off13 (i : grid0.Coords) (k0_t2 : Fin (k0_t2_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v136 : Index := Scalar.indexCast v135
  let c0_59 : Index := 0#32
  ![v136.toNat, 0]
def k0_off14 (i : grid0.Coords) (k0_t2 : Fin (k0_t2_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v139 : Index := Scalar.indexCast v135
  let c0_60 : Index := 0#32
  ![v139.toNat, 0]
def k0_off15 (i : grid0.Coords) (k0_t2 : Fin (k0_t2_loop i).trips) : Fin 3 → Nat :=
  let c0_62 : Index := 0#32
  let c0_63 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v143 : Index := Scalar.indexCast v135
  ![0, 0, v143.toNat]
def k0_off16 (i : grid0.Coords) (k0_t2 : Fin (k0_t2_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v169 : Index := Scalar.indexCast v135
  let c256_72 : Index := 256#32
  ![v169.toNat, 256]
def k0_off17 (i : grid0.Coords) (k0_t2 : Fin (k0_t2_loop i).trips) : Fin 2 → Nat :=
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v172 : Index := Scalar.indexCast v135
  let c128_73 : Index := 128#32
  ![v172.toNat, 128]
def k0_off18 (i : grid0.Coords) (k0_t2 : Fin (k0_t2_loop i).trips) : Fin 3 → Nat :=
  let c1_75 : Index := 1#32
  let c0_76 : Index := 0#32
  let arg1 : BitVec 32 := BitVec.ofNat 32 (i 1).val
  let c0_i32_10 : BitVec 32 := 0#32
  let v16 : BitVec 1 := Scalar.cmpi .sgt arg1 c0_i32_10
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c1_i32 : BitVec 32 := 1#32
  let c0_i32_12 : BitVec 32 := 0#32
  let v21 : BitVec 1 := Scalar.cmpi .sgt c1_i32 c0_i32_12
  let v22 : BitVec 32 := Scalar.extui v21
  let c0_i32_13 : BitVec 32 := 0#32
  let v23 : BitVec 1 := Scalar.cmpi .slt c1_i32 c0_i32_13
  let v24 : BitVec 32 := Scalar.extui v23
  let v25 : BitVec 32 := Scalar.subi v22 v24
  let v26 : BitVec 1 := Scalar.cmpi .ne v20 v25
  let v27 : BitVec 32 := Scalar.remsi arg1 c1_i32
  let c0_i32_14 : BitVec 32 := 0#32
  let v28 : BitVec 1 := Scalar.cmpi .ne v27 c0_i32_14
  let v29 : BitVec 1 := Scalar.andi v26 v28
  let v15 : BitVec 32 := Scalar.divsi arg1 c1_i32
  let c1_i32_15 : BitVec 32 := 1#32
  let v30 : BitVec 32 := Scalar.subi v15 c1_i32_15
  let v31 : BitVec 32 := Scalar.select v29 v30 v15
  let c1_i32_16 : BitVec 32 := 1#32
  let v32 : BitVec 32 := Scalar.addi v31 c1_i32_16
  let c8_i32 : BitVec 32 := 8#32
  let v123 : BitVec 32 := Scalar.subi c8_i32 v32
  let c1_i32_47 : BitVec 32 := 1#32
  let v125 : BitVec 32 := Scalar.divsi v123 c1_i32_47
  let v126 : BitVec 32 := Scalar.muli v125 c1_i32_47
  let v127 : BitVec 32 := Scalar.addi v32 v126
  let c1_i32_49 : BitVec 32 := 1#32
  let arg11 : BitVec 32 := Scf.iv v127 c1_i32_49 k0_t2
  let c512_i32_58 : BitVec 32 := 512#32
  let v134 : BitVec 32 := Scalar.muli arg11 c512_i32_58
  let v135 : BitVec 32 := v134
  let v176 : Index := Scalar.indexCast v135
  ![1, 0, v176.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x8x192 : Shape := ⟨3, ![4096, 8, 192]⟩
abbrev S4096x8x128 : Shape := ⟨3, ![4096, 8, 128]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S4096x8x256 : Shape := ⟨3, ![4096, 8, 256]⟩
abbrev S4096x2048 : Shape := ⟨2, ![4096, 2048]⟩
abbrev S4096x1024 : Shape := ⟨2, ![4096, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S_, .f32⟩
  | .hbm, ⟨5, _⟩ => ⟨S4096x8x192, .f32⟩
  | .hbm, ⟨6, _⟩ => ⟨S4096x8x192, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S8x128x4096, .f32⟩
  | .hbm, ⟨63, _⟩ => ⟨S8x4096x4096, .f32⟩
  | .hbm, ⟨64, _⟩ => ⟨S8x128x4096, .f32⟩
  | .hbm, ⟨65, _⟩ => ⟨S4096x8x128, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S8x4096x192, .f32⟩
  | .hbm, ⟨84, _⟩ => ⟨S4096x8x192, .f32⟩
  | .hbm, ⟨85, _⟩ => ⟨S8x4096x192, .f32⟩
  | .hbm, ⟨86, _⟩ => ⟨S4096x8x192, .f32⟩
  | .hbm, ⟨87, _⟩ => ⟨S_, .i32⟩
  | .hbm, ⟨88, _⟩ => ⟨S_, .f32⟩
  | .hbm, ⟨89, _⟩ => ⟨S4096x8x256, .f32⟩
  | .hbm, ⟨90, _⟩ => ⟨S4096x2048, .f32⟩
  | .hbm, ⟨91, _⟩ => ⟨S_, .i32⟩
  | .hbm, ⟨92, _⟩ => ⟨S_, .f32⟩
  | .hbm, ⟨93, _⟩ => ⟨S4096x8x256, .f32⟩
  | .hbm, ⟨94, _⟩ => ⟨S4096x2048, .f32⟩
  | .hbm, ⟨95, _⟩ => ⟨S4096x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_call3_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S4096x5632 : Shape := ⟨2, ![4096, 5632]⟩
abbrev S1024x1408 : Shape := ⟨2, ![1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | .hbm, ⟨4, _⟩ => ⟨S1024x5632, .bf16⟩
  | .hbm, ⟨5, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x5632, .bf16⟩
  | .hbm, ⟨5, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | .hbm, ⟨7, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S2816x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Lat.lean ====
abbrev S4096x1024 : Shape := ⟨2, ![4096, 1024]⟩
abbrev S1024x384 : Shape := ⟨2, ![1024, 384]⟩
abbrev S4096x384 : Shape := ⟨2, ![4096, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x1024, .bf16⟩
  | .hbm, ⟨3, _⟩ => ⟨S1024x384, .bf16⟩
  | .hbm, ⟨4, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatRefIdeal.lean ====
abbrev S4096x1024 : Shape := ⟨2, ![4096, 1024]⟩
abbrev S1024x384 : Shape := ⟨2, ![1024, 384]⟩
abbrev S4096x384 : Shape := ⟨2, ![4096, 384]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LatDx.lean ====
abbrev S4096x1024 : Shape := ⟨2, ![4096, 1024]⟩
abbrev S1024x384 : Shape := ⟨2, ![1024, 384]⟩
abbrev S4096x384 : Shape := ⟨2, ![4096, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | .hbm, ⟨3, _⟩ => ⟨S1024x384, .bf16⟩
  | .hbm, ⟨4, _⟩ => ⟨S4096x1024, .bf16⟩
  | .local _ .vmem, ⟨0, _⟩ => ⟨S1024x384, .f32⟩
  | .local _ .vmem, ⟨1, _⟩ => ⟨S1024x384, .f32⟩
  | .local _ .vmem, ⟨2, _⟩ => ⟨S1024x384, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDxRefIdeal.lean ====
abbrev S4096x1024 : Shape := ⟨2, ![4096, 1024]⟩
abbrev S1024x384 : Shape := ⟨2, ![1024, 384]⟩
abbrev S4096x384 : Shape := ⟨2, ![4096, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | .hbm, ⟨3, _⟩ => ⟨S4096x384, .f32⟩
  | .hbm, ⟨4, _⟩ => ⟨S384x1024, .f32⟩
  | .hbm, ⟨5, _⟩ => ⟨S1024x384, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatDw.lean ====
abbrev S4096x1024 : Shape := ⟨2, ![4096, 1024]⟩
abbrev S1024x384 : Shape := ⟨2, ![1024, 384]⟩
abbrev S4096x384 : Shape := ⟨2, ![4096, 384]⟩
abbrev S2048x1024 : Shape := ⟨2, ![2048, 1024]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | .hbm, ⟨3, _⟩ => ⟨S4096x1024, .bf16⟩
  | .hbm, ⟨4, _⟩ => ⟨S1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .f32⟩
  | .local _ .vmem, ⟨3, _⟩ => ⟨S2048x384, .f32⟩
  | .local _ .vmem, ⟨4, _⟩ => ⟨S1024x384, .bf16⟩
  | .local _ .vmem, ⟨5, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatDwRefIdeal.lean ====
abbrev S4096x1024 : Shape := ⟨2, ![4096, 1024]⟩
abbrev S1024x384 : Shape := ⟨2, ![1024, 384]⟩
abbrev S4096x384 : Shape := ⟨2, ![4096, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x384, .f32⟩
  | .hbm, ⟨2, _⟩ => ⟨S4096x384, .f32⟩
  | .hbm, ⟨3, _⟩ => ⟨S4096x384, .f32⟩
  | .hbm, ⟨4, _⟩ => ⟨S384x1024, .f32⟩
  | .hbm, ⟨5, _⟩ => ⟨S1024x384, .f32⟩
  | .hbm, ⟨6, _⟩ => ⟨S4096x1024, .f32⟩
  | .hbm, ⟨7, _⟩ => ⟨S1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Blocks.lean ====
/- The attention gradient at one grid point, as sums over the entries of the blocks the point is given,
   and the values of the kernel's vector operations in these terms. -/
module

public import proofs.«01_k».proof.Proof.Gen.KernelIdeal.Skeleton
public import Idealize.ShloMosaic.Lib.Pipeline.ValueKit
public import Idealize.ShloMosaic.Lib.Pointwise
public import Idealize.ShloMosaic.Lib.WordCmp

@[expose] public section
set_option maxRecDepth 16384
noncomputable section
namespace Cert.KernelIdeal.Att
open Idealize.ShloMosaic Idealize.ShloMosaic.TcCoe Idealize.SL.Sem
open Cert.KernelIdeal Cert.KernelIdeal.Gen

/-- Row `r` of block `n`: of the eight blocks of 512 rows of the sequence. -/
def row (n : Fin 8) (r : Fin 512) : Fin 4096 := ⟨512 * n.val + r.val, by omega⟩
/-- Column `d` of the half `h` of a 512-wide block (two heads, 256 columns each). -/
def col (h : Fin 2) (d : Fin 256) : Fin 512 := ⟨256 * h.val + d.val, by omega⟩
/-- Column `d` of the first 128 columns of the half `h` of a 512-wide block. -/
def xcol (h : Fin 2) (d : Fin 128) : Fin 512 := ⟨256 * h.val + d.val, by omega⟩
/-- Column `d` of the half `h` of a 256-wide block (two heads, 128 columns each). -/
def vcol (h : Fin 2) (d : Fin 128) : Fin 256 := ⟨128 * h.val + d.val, by omega⟩

section Defs
variable (x0 : FVec Ideal S4096x512 .bf16) (x1 : FVec Ideal S4096x256 .bf16) (x2 x3 : FVec Ideal S2x1x4096 .f32)
  (x4 x5 : FVec Ideal S512x512 .bf16)

/-- The attention weight of query row `R` at key row `a` of key block `j`, for the head `h` of the block's two:
    the exponential of the score minus the row's log-sum, and 0 where the key comes after the query. -/
def wt (j : Fin 8) (h : Fin 2) (a : Fin 512) (R : Fin 4096) : EReal :=
  if 512 * j.val + a.val ≤ R.val then
    Ideal.exp (∑ d : Fin 256, x4 (ix2 a (col h d)) * x0 (ix2 R (col h d)) - x2 (ix3 h 0 R)) else 0

/-- The gradient of the score of that pair: the weight times what the value product's gradient gives there,
    less the row's `delta`. -/
def ds (j : Fin 8) (h : Fin 2) (a : Fin 512) (R : Fin 4096) : EReal :=
  wt x0 x2 x4 j h a R * (∑ d : Fin 128, x5 (ix2 a (xcol h d)) * x1 (ix2 R (vcol h d)) - x3 (ix3 h 0 R))

theorem ds_of_lt {j : Fin 8} {h : Fin 2} {a : Fin 512} {R : Fin 4096} (hR : R.val < 512 * j.val) :
    ds x0 x1 x2 x3 x4 x5 j h a R = 0 := by
  unfold ds wt; rw [if_neg (by omega), zero_mul]
theorem wt_of_lt {j : Fin 8} {h : Fin 2} {a : Fin 512} {R : Fin 4096} (hR : R.val < 512 * j.val) :
    wt x0 x2 x4 j h a R = 0 := by
  unfold wt; rw [if_neg (by omega)]

end Defs

section Tiles
variable {x0 : FVec Ideal S4096x512 .bf16} {x1 : FVec Ideal S4096x256 .bf16} {x2 x3 : FVec Ideal S2x1x4096 .f32}
  {x4 x5 : FVec Ideal S512x512 .bf16}
  {j n : Fin 8} {h : Fin 2}
  {k : FVec Ideal S512x256 .bf16} {v : FVec Ideal S512x128 .bf16}
  {q : FVec Ideal S512x256 .bf16} {w : FVec Ideal S512x128 .bf16} {l e : FVec Ideal S1x1x512 .f32}
  (hk : ∀ a d, k (ix2 a d) = x4 (ix2 a (col h d))) (hv : ∀ a d, v (ix2 a d) = x5 (ix2 a (xcol h d)))
  (hq : ∀ b d, q (ix2 b d) = x0 (ix2 (row n b) (col h d))) (hw : ∀ b d, w (ix2 b d) = x1 (ix2 (row n b) (vcol h d)))
  (hl : ∀ b, l (ix3 0 0 b) = x2 (ix3 h 0 (row n b))) (he : ∀ b, e (ix3 0 0 b) = x3 (ix3 h 0 (row n b)))
include hk hv hq hw hl he

/-- The weight where the query block comes after the key block: no mask. -/
theorem wt_far (hn : j.val < n.val) (a b : Fin 512) :
    wt x0 x2 x4 j h a (row n b) = Ideal.exp (∑ d : Fin 256, k (ix2 a d) * q (ix2 b d) - l (ix3 0 0 b)) := by
  unfold wt
  rw [if_pos (show 512 * j.val + a.val ≤ (row n b).val from by show _ ≤ 512 * n.val + b.val; omega), hl]
  simp only [hk, hq]
/-- The weight in the block on the diagonal. -/
theorem wt_near (hn : n = j) (a b : Fin 512) :
    wt x0 x2 x4 j h a (row n b)
      = if a.val ≤ b.val then Ideal.exp (∑ d : Fin 256, k (ix2 a d) * q (ix2 b d) - l (ix3 0 0 b)) else 0 := by
  unfold wt
  rw [hl]
  simp only [hk, hq]
  refine if_congr ?_ rfl rfl
  show 512 * j.val + a.val ≤ 512 * n.val + b.val ↔ _
  rw [hn]; omega
/-- The gradient of the scores, from the weight. -/
theorem ds_eq (a b : Fin 512) :
    ds x0 x1 x2 x3 x4 x5 j h a (row n b) = wt x0 x2 x4 j h a (row n b) * (∑ d : Fin 128, v (ix2 a d) * w (ix2 b d) - e (ix3 0 0 b)) := by
  unfold ds; rw [he]; simp only [hv, hw]

/-- A trip's addition to the values' gradient, first head. -/
theorem pay15_eq (hn : j.val < n.val) (g : FVec Ideal S512x128 .f32) (a : Fin 512) (b : Fin 128) :
    k0_pay15 (F := Ideal) k g q w l (ix2 a b) = g (ix2 a b) + ∑ r, wt x0 x2 x4 j h a (row n r) * x1 (ix2 (row n r) (vcol h b)) := by
  pointwise [k0_pay15, k0_pay13, k0_pay12, k0_pay11]
  simp only [wt_far hk hv hq hw hl he hn, hw]
/-- A trip's addition to the keys' gradient, first head. -/
theorem pay16_eq (hn : j.val < n.val) (g : FVec Ideal S512x256 .f32) (a : Fin 512) (b : Fin 256) :
    k0_pay16 (F := Ideal) k v g q w l e (ix2 a b)
      = g (ix2 a b) + ∑ r, ds x0 x1 x2 x3 x4 x5 j h a (row n r) * x0 (ix2 (row n r) (col h b)) := by
  pointwise [k0_pay16, k0_pay14, k0_pay13, k0_pay12, k0_pay11]
  simp only [ds_eq hk hv hq hw hl he, wt_far hk hv hq hw hl he hn, ← hq]
/-- A trip's addition to the queries' gradient, first head. -/
theorem pay17_eq (hn : j.val < n.val) (g : FVec Ideal S512x256 .f32) (b : Fin 512) (d : Fin 256) :
    k0_pay17 (F := Ideal) k v q w l e g (ix2 b d)
      = g (ix2 b d) + ∑ a, ds x0 x1 x2 x3 x4 x5 j h a (row n b) * x4 (ix2 a (col h d)) := by
  pointwise [k0_pay17, k0_pay14, k0_pay13, k0_pay12, k0_pay11]
  simp only [ds_eq hk hv hq hw hl he, wt_far hk hv hq hw hl he hn, ← hk]
/-- A trip's addition to the values' gradient, second head. -/
theorem pay3_eq (hn : j.val < n.val) (g : FVec Ideal S512x128 .f32) (a : Fin 512) (b : Fin 128) :
    k0_pay3 (F := Ideal) k g (k0_pay18 q) (k0_pay19 w) (constant S512x512 .f32 0x00000000#32) l (ix2 a b)
      = g (ix2 a b) + ∑ r, wt x0 x2 x4 j h a (row n r) * x1 (ix2 (row n r) (vcol h b)) := by
  pointwise [k0_pay3, k0_pay1, k0_pay18, k0_pay19]
  simp only [wt_far hk hv hq hw hl he hn, hw]
/-- A trip's addition to the keys' gradient, second head. -/
theorem pay4_eq (hn : j.val < n.val) (g : FVec Ideal S512x256 .f32) (a : Fin 512) (b : Fin 256) :
    k0_pay4 (F := Ideal) k v g (k0_pay18 q) (k0_pay19 w) (constant S512x512 .f32 0x00000000#32) l e (ix2 a b)
      = g (ix2 a b) + ∑ r, ds x0 x1 x2 x3 x4 x5 j h a (row n r) * x0 (ix2 (row n r) (col h b)) := by
  pointwise [k0_pay4, k0_pay2, k0_pay1, k0_pay18, k0_pay19]
  simp only [ds_eq hk hv hq hw hl he, wt_far hk hv hq hw hl he hn, ← hq]
/-- A trip's addition to the queries' gradient, second head. -/
theorem pay5_eq (hn : j.val < n.val) (g : FVec Ideal S512x256 .f32) (b : Fin 512) (d : Fin 256) :
    k0_pay5 (F := Ideal) k v (k0_pay18 q) (k0_pay19 w) (constant S512x512 .f32 0x00000000#32) l e g (ix2 b d)
      = g (ix2 b d) + ∑ a, ds x0 x1 x2 x3 x4 x5 j h a (row n b) * x4 (ix2 a (col h d)) := by
  pointwise [k0_pay5, k0_pay2, k0_pay1, k0_pay18, k0_pay19]
  simp only [ds_eq hk hv hq hw hl he, wt_far hk hv hq hw hl he hn, ← hk]

omit hk hv hq hw hl he in
/-- The mask of the block on the diagonal: the comparison of the two rows, on words. -/
theorem mask_word (j : Fin 8) (a b : Fin 512) (X : EReal) :
    Scalar.select (IntOp.cmpi CmpIPredicate.sle (IntOp.addi (Scalar.muli (BitVec.ofNat 32 j.val) 512#32) (BitVec.ofNat 32 a.val))
        (IntOp.addi (Scalar.muli (BitVec.ofNat 32 j.val) 512#32) (BitVec.ofNat 32 b.val))) X 0
      = if a.val ≤ b.val then X else (0 : EReal) := by
  have hh : (IntOp.cmpi CmpIPredicate.sle (IntOp.addi (Scalar.muli (BitVec.ofNat 32 j.val) 512#32) (BitVec.ofNat 32 a.val))
        (IntOp.addi (Scalar.muli (BitVec.ofNat 32 j.val) 512#32) (BitVec.ofNat 32 b.val)) = 1#1) ↔ a.val ≤ b.val := by
    show IntOp.cmpi .sle (IntOp.addi (IntOp.muli (BitVec.ofNat 32 j.val) (BitVec.ofNat 32 512)) (BitVec.ofNat 32 a.val))
        (IntOp.addi (IntOp.muli (BitVec.ofNat 32 j.val) (BitVec.ofNat 32 512)) (BitVec.ofNat 32 b.val)) = 1#1 ↔ _
    rw [WordCmp.muli_ofNat, WordCmp.addi_ofNat, WordCmp.addi_ofNat, WordCmp.cmpi_sle_ofNat (by omega) (by omega)]
    by_cases hab : a.val ≤ b.val <;> simp [hab, ← Fin.val_fin_le]
  by_cases hab : a.val ≤ b.val
  · rw [if_pos hab]; exact if_pos (hh.mpr hab)
  · rw [if_neg hab]; exact if_neg fun h => hab (hh.mp h)

/-- The first trip's addition to the values' gradient, first head. -/
theorem pay42_eq (hn : n = j) (g : FVec Ideal S512x128 .f32) (a : Fin 512) (b : Fin 128) :
    k0_pay42 (F := Ideal) (BitVec.ofNat 32 j.val) k g (BitVec.ofNat 32 j.val) q w l (ix2 a b)
      = g (ix2 a b) + ∑ r, wt x0 x2 x4 j h a (row n r) * x1 (ix2 (row n r) (vcol h b)) := by
  pointwise [k0_pay42, k0_pay40, k0_pay39, k0_pay38]
  simp only [wt_near hk hv hq hw hl he hn, hw, mask_word, ite_mul, zero_mul]
/-- The first trip's addition to the keys' gradient, first head. -/
theorem pay43_eq (hn : n = j) (g : FVec Ideal S512x256 .f32) (a : Fin 512) (b : Fin 256) :
    k0_pay43 (F := Ideal) (BitVec.ofNat 32 j.val) k v g (BitVec.ofNat 32 j.val) q w l e (ix2 a b)
      = g (ix2 a b) + ∑ r, ds x0 x1 x2 x3 x4 x5 j h a (row n r) * x0 (ix2 (row n r) (col h b)) := by
  pointwise [k0_pay43, k0_pay41, k0_pay40, k0_pay39, k0_pay38]
  simp only [ds_eq hk hv hq hw hl he, wt_near hk hv hq hw hl he hn, ← hq, mask_word, ite_mul, zero_mul]
/-- The first trip's addition to the queries' gradient, first head. -/
theorem pay44_eq (hn : n = j) (g : FVec Ideal S512x256 .f32) (b : Fin 512) (d : Fin 256) :
    k0_pay44 (F := Ideal) (BitVec.ofNat 32 j.val) k v (BitVec.ofNat 32 j.val) q w l e g (ix2 b d)
      = g (ix2 b d) + ∑ a, ds x0 x1 x2 x3 x4 x5 j h a (row n b) * x4 (ix2 a (col h d)) := by
  pointwise [k0_pay44, k0_pay41, k0_pay40, k0_pay39, k0_pay38]
  simp only [ds_eq hk hv hq hw hl he, wt_near hk hv hq hw hl he hn, ← hk, mask_word, ite_mul, zero_mul]
/-- The first trip's addition to the values' gradient, second head. -/
theorem pay49_eq (hn : n = j) (g : FVec Ideal S512x128 .f32) (a : Fin 512) (b : Fin 128) :
    k0_pay49 (F := Ideal) (BitVec.ofNat 32 j.val) k g (BitVec.ofNat 32 j.val) q w l (ix2 a b)
      = g (ix2 a b) + ∑ r, wt x0 x2 x4 j h a (row n r) * x1 (ix2 (row n r) (vcol h b)) := by
  pointwise [k0_pay49, k0_pay47, k0_pay46, k0_pay45]
  simp only [wt_near hk hv hq hw hl he hn, hw, mask_word, ite_mul, zero_mul]
/-- The first trip's addition to the keys' gradient, second head. -/
theorem pay50_eq (hn : n = j) (g : FVec Ideal S512x256 .f32) (a : Fin 512) (b : Fin 256) :
    k0_pay50 (F := Ideal) (BitVec.ofNat 32 j.val) k v g (BitVec.ofNat 32 j.val) q w l e (ix2 a b)
      = g (ix2 a b) + ∑ r, ds x0 x1 x2 x3 x4 x5 j h a (row n r) * x0 (ix2 (row n r) (col h b)) := by
  pointwise [k0_pay50, k0_pay48, k0_pay47, k0_pay46, k0_pay45]
  simp only [ds_eq hk hv hq hw hl he, wt_near hk hv hq hw hl he hn, ← hq, mask_word, ite_mul, zero_mul]
/-- The first trip's addition to the queries' gradient, second head. -/
theorem pay51_eq (hn : n = j) (g : FVec Ideal S512x256 .f32) (b : Fin 512) (d : Fin 256) :
    k0_pay51 (F := Ideal) (BitVec.ofNat 32 j.val) k v (BitVec.ofNat 32 j.val) q w l e g (ix2 b d)
      = g (ix2 b d) + ∑ a, ds x0 x1 x2 x3 x4 x5 j h a (row n b) * x4 (ix2 a (col h d)) := by
  pointwise [k0_pay51, k0_pay48, k0_pay47, k0_pay46, k0_pay45]
  simp only [ds_eq hk hv hq hw hl he, wt_near hk hv hq hw hl he hn, ← hk, mask_word, ite_mul, zero_mul]

end Tiles
end Cert.KernelIdeal.Att
end
end
-- ==== Proof.Offs.lean ====
/- Where the kernel's loads and stores fall: the offsets at a grid point, the loops' trip counts, and a load read
   at an index. -/
module

public import proofs.«01_k».proof.Proof.Blocks
public import proofs.«01_k».proof.Proof.Gen.KernelIdeal.Frame
public import proofs.«01_k».proof.Proof.Gen.KernelIdeal.Loops
public import Idealize.ShloMosaic.Lib.WritesUnit

@[expose] public section
set_option maxRecDepth 16384
noncomputable section
namespace Cert.KernelIdeal.Att
open Idealize.ShloMosaic Idealize.ShloMosaic.TcCoe Idealize.SL.Sem
open Cert.KernelIdeal Cert.KernelIdeal.Gen

/-- The key block of a grid point. -/
def kb (i : grid0.Coords) : Fin 8 := ⟨(i 1).val, (i 1).isLt⟩

theorem trips1 : ∀ i : grid0.Coords, (k0_t1_loop i).trips = 7 - (i 1).val := by decide +kernel
theorem trips2 (i : grid0.Coords) : (k0_t2_loop i).trips = 0 := Nat.le_zero.mp (k0_t2_abs i).2.1

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![0, 0, 512 * (i 1).val] := by decide +kernel
theorem off4_eq : ∀ i : grid0.Coords, k0_off4 i = ![512 * (i 1).val, 256] := by decide +kernel
theorem off5_eq : ∀ i : grid0.Coords, k0_off5 i = ![512 * (i 1).val, 128] := by decide +kernel
theorem off6_eq : ∀ i : grid0.Coords, k0_off6 i = ![1, 0, 512 * (i 1).val] := by decide +kernel
theorem off7_eq : ∀ (i : grid0.Coords) (k : Fin (k0_t1_loop i).trips), k0_off7 i k = ![512 * ((i 1).val + 1 + k.val), 0] := by
  decide +kernel
theorem off8_eq : ∀ (i : grid0.Coords) (k : Fin (k0_t1_loop i).trips), k0_off8 i k = ![512 * ((i 1).val + 1 + k.val), 0] := by
  decide +kernel
theorem off9_eq : ∀ (i : grid0.Coords) (k : Fin (k0_t1_loop i).trips), k0_off9 i k = ![0, 0, 512 * ((i 1).val + 1 + k.val)] := by
  decide +kernel
theorem off10_eq : ∀ (i : grid0.Coords) (k : Fin (k0_t1_loop i).trips), k0_off10 i k = ![512 * ((i 1).val + 1 + k.val), 256] := by
  decide +kernel
theorem off11_eq : ∀ (i : grid0.Coords) (k : Fin (k0_t1_loop i).trips), k0_off11 i k = ![512 * ((i 1).val + 1 + k.val), 128] := by
  decide +kernel
theorem off12_eq : ∀ (i : grid0.Coords) (k : Fin (k0_t1_loop i).trips), k0_off12 i k = ![1, 0, 512 * ((i 1).val + 1 + k.val)] := by
  decide +kernel

/-- The query block of trip `k` of the loop over the blocks after the diagonal. -/
def qb (i : grid0.Coords) (k : Fin (k0_t1_loop i).trips) : Fin 8 :=
  ⟨(i 1).val + 1 + k.val, by have := lt_of_lt_of_eq k.isLt (trips1 i); omega⟩
theorem kb_lt_qb (i : grid0.Coords) (k : Fin (k0_t1_loop i).trips) : (kb i).val < (qb i k).val := by
  show (i 1).val < (i 1).val + 1 + k.val
  omega

/-- A load from a rank-2 buffer at offset `(o, p)`, at an index. -/
theorem load2 {φ : EltTy} {N D n d : ℕ} (m : Memref sig .tc .vmem ⟨2, ![N, D]⟩ φ) (f : BufTy.Contents (Elt Ideal) m.view.ty)
    {off : Fin 2 → ℕ} {o p : ℕ} (h : off = ![o, p]) (inb : ∀ a, off a + (![n, d] : Fin 2 → ℕ) a ≤ (⟨2, ![N, D]⟩ : Shape).size a)
    (b : Fin n) (c : Fin d) (R : Fin N) (C : Fin D) (hR : R.val = o + b.val) (hC : C.val = p + c.val) :
    View.readAt (Elt Ideal) m.view (Rect.unit (s := ⟨2, ![N, D]⟩) off ![n, d] inb).toLoadRect f (ix2 b c)
      = m.view.read (Elt Ideal) f (ix2 R C) := by
  subst h
  rw [View.readAt_eq_ld]
  refine View.ld_unit_apply_of _ _ _ _ _ _ fun a => ?_
  fin_cases a
  · exact hR
  · exact hC
/-- A load of one row of a rank-3 buffer's head `h`, at an index. -/
theorem load3 {φ : EltTy} {H N n : ℕ} (m : Memref sig .tc .vmem ⟨3, ![H, 1, N]⟩ φ) (f : BufTy.Contents (Elt Ideal) m.view.ty)
    {off : Fin 3 → ℕ} {g p : ℕ} (h : off = ![g, 0, p]) (inb : ∀ a, off a + (![1, 1, n] : Fin 3 → ℕ) a ≤ (⟨3, ![H, 1, N]⟩ : Shape).size a)
    (b : Fin n) (G : Fin H) (R : Fin N) (hG : G.val = g) (hR : R.val = p + b.val) :
    View.readAt (Elt Ideal) m.view (Rect.unit (s := ⟨3, ![H, 1, N]⟩) off ![1, 1, n] inb).toLoadRect f (ix3 0 0 b)
      = m.view.read (Elt Ideal) f (ix3 G 0 R) := by
  subst h
  rw [View.readAt_eq_ld]
  refine View.ld_unit_apply_of _ _ _ _ _ _ fun a => ?_
  fin_cases a
  · exact hG
  · rfl
  · exact hR

/-- The 512 × 256 block a buffer of 4096 × 512 holds at `off`. -/
abbrev ldQ {e : EltTy} (m : Memref sig .tc .vmem S4096x512 e) (f : BufTy.Contents (Elt Ideal) m.view.ty) (off : Fin 2 → ℕ)
    (inb : ∀ a, off a + S512x256.size a ≤ S4096x512.size a) : Vec Ideal S512x256 e :=
  View.readAt (Elt Ideal) m.view (Rect.unit (s := S4096x512) off S512x256.size inb).toLoadRect f
/-- The 512 × 128 block a buffer of 4096 × 256 holds at `off`. -/
abbrev ldW {e : EltTy} (m : Memref sig .tc .vmem S4096x256 e) (f : BufTy.Contents (Elt Ideal) m.view.ty) (off : Fin 2 → ℕ)
    (inb : ∀ a, off a + S512x128.size a ≤ S4096x256.size a) : Vec Ideal S512x128 e :=
  View.readAt (Elt Ideal) m.view (Rect.unit (s := S4096x256) off S512x128.size inb).toLoadRect f
/-- The 512 numbers a buffer of 2 × 1 × 4096 holds at `off`. -/
abbrev ldL {e : EltTy} (m : Memref sig .tc .vmem S2x1x4096 e) (f : BufTy.Contents (Elt Ideal) m.view.ty) (off : Fin 3 → ℕ)
    (inb : ∀ a, off a + S1x1x512.size a ≤ S2x1x4096.size a) : Vec Ideal S1x1x512 e :=
  View.readAt (Elt Ideal) m.view (Rect.unit (s := S2x1x4096) off S1x1x512.size inb).toLoadRect f

section Pieces
variable {e : EltTy} {N D n d : ℕ} (m : Memref sig .tc .vmem ⟨2, ![N, D]⟩ e) (f : BufTy.Contents (Elt Ideal) m.view.ty)
  {off : Fin 2 → ℕ} {o p : ℕ} (h : off = ![o, p]) (inb : ∀ a, off a + (![n, d] : Fin 2 → ℕ) a ≤ (⟨2, ![N, D]⟩ : Shape).size a)
  (w : Vec Ideal ⟨2, ![n, d]⟩ e) (L : List (View.Piece (Elt Ideal) ⟨2, ![N, D]⟩ e)) (R : Fin N) (C : Fin D)
include h
/-- An index in the last stored block reads what was stored there. -/
theorem hit2 (r : Fin n) (c : Fin d) (hR : R.val = o + r.val) (hC : C.val = p + c.val) :
    m.view.read (Elt Ideal) (m.view.writes (Elt Ideal) f (⟨Rect.unit (s := ⟨2, ![N, D]⟩) off ![n, d] inb, w⟩ :: L)) (ix2 R C)
      = w (ix2 r c) :=
  View.read_writes_cons_unit_of_mem m.view f inb w L (ix2 R C) (ix2 r c) h fun a => by
    fin_cases a
    · exact hR
    · exact hC
/-- An index in other rows than the last stored block's reads what the stores before left. -/
theorem missRow (hR : R.val < o ∨ o + n ≤ R.val) :
    m.view.read (Elt Ideal) (m.view.writes (Elt Ideal) f (⟨Rect.unit (s := ⟨2, ![N, D]⟩) off ![n, d] inb, w⟩ :: L)) (ix2 R C)
      = m.view.read (Elt Ideal) (m.view.writes (Elt Ideal) f L) (ix2 R C) :=
  View.read_writes_cons_unit_of_not_mem m.view f inb w L (ix2 R C) h 0 hR
/-- An index in other columns than the last stored block's reads what the stores before left. -/
theorem missCol (hC : C.val < p ∨ p + d ≤ C.val) :
    m.view.read (Elt Ideal) (m.view.writes (Elt Ideal) f (⟨Rect.unit (s := ⟨2, ![N, D]⟩) off ![n, d] inb, w⟩ :: L)) (ix2 R C)
      = m.view.read (Elt Ideal) (m.view.writes (Elt Ideal) f L) (ix2 R C) :=
  View.read_writes_cons_unit_of_not_mem m.view f inb w L (ix2 R C) h 1 hC
end Pieces
end Cert.KernelIdeal.Att
end
end
-- ==== Proof.Trip.lean ====
/- One trip of the loop over the query blocks after the diagonal: what it adds to the four carried sums and to the
   queries' gradient. -/
module

public import proofs.«01_k».proof.Proof.Offs

@[expose] public section
set_option maxRecDepth 16384
noncomputable section
namespace Cert.KernelIdeal.Att
open Idealize.ShloMosaic Idealize.ShloMosaic.TcCoe Idealize.SL.Sem
open Cert.KernelIdeal Cert.KernelIdeal.Gen

variable (𝒱 : Variants) (c : Dev nD) (bd : Option 𝒱.V) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole)
  (v4 v6 : FVec Ideal S512x256 .bf16) (v8 v10 : FVec Ideal S512x128 .bf16) (v32 : BitVec 32)
  (x0 : FVec Ideal S4096x512 .bf16) (x1 : FVec Ideal S4096x256 .bf16) (x2 x3 : FVec Ideal S2x1x4096 .f32)
  (x4 x5 : FVec Ideal S512x512 .bf16)
  (k : Fin (k0_t1_loop i).trips)
  (acc : FVec Ideal S512x256 .f32 × FVec Ideal S512x128 .f32 × FVec Ideal S512x256 .f32 × FVec Ideal S512x128 .f32)
  (f : BufTy.Contents (Elt Ideal) arg8.view.ty)

/-- The four sums a trip carries on, over the blocks it loads. -/
theorem tripR_eq :
    tripR_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f
      = (k0_pay16 v4 v8 acc.1 (ldQ arg2 (harg2.unread x0) (k0_off7 i k) (k0_off7_inb i k)) (ldW arg3 (harg3.unread x1) (k0_off8 i k) (k0_off8_inb i k)) (ldL arg4 (harg4.unread x2) (k0_off9 i k) (k0_off9_inb i k)) (ldL arg5 (harg5.unread x3) (k0_off9 i k) (k0_off9_inb i k)),
        k0_pay15 v4 acc.2.1 (ldQ arg2 (harg2.unread x0) (k0_off7 i k) (k0_off7_inb i k)) (ldW arg3 (harg3.unread x1) (k0_off8 i k) (k0_off8_inb i k)) (ldL arg4 (harg4.unread x2) (k0_off9 i k) (k0_off9_inb i k)),
        k0_pay4 v6 v10 acc.2.2.1 (k0_pay18 (ldQ arg2 (harg2.unread x0) (k0_off10 i k) (k0_off10_inb i k))) (k0_pay19 (ldW arg3 (harg3.unread x1) (k0_off11 i k) (k0_off11_inb i k))) (constant S512x512 .f32 0x00000000#32) (ldL arg4 (harg4.unread x2) (k0_off12 i k) (k0_off12_inb i k)) (ldL arg5 (harg5.unread x3) (k0_off12 i k) (k0_off12_inb i k)),
        k0_pay3 v6 acc.2.2.2 (k0_pay18 (ldQ arg2 (harg2.unread x0) (k0_off10 i k) (k0_off10_inb i k))) (k0_pay19 (ldW arg3 (harg3.unread x1) (k0_off11 i k) (k0_off11_inb i k))) (constant S512x512 .f32 0x00000000#32) (ldL arg4 (harg4.unread x2) (k0_off12 i k) (k0_off12_inb i k))) := by
  unfold tripR_k0_t1 trip_k0_t1
  dsimp only [trip_k0_t1.sl.r, trip_k0_t1.sl.r_1, trip_k0_t1.sl.r_2, trip_k0_t1.sl.r_3, trip_k0_t1.sl.cst_74]

/-- The two pieces a trip writes to the queries' gradient: the second head's last. -/
theorem tripL_eq :
    tripL_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f
      = [⟨Rect.unit (s := S4096x512) (k0_off10 i k) S512x256.size (k0_off10_inb i k), k0_pay5 v6 v10 (k0_pay18 (ldQ arg2 (harg2.unread x0) (k0_off10 i k) (k0_off10_inb i k))) (k0_pay19 (ldW arg3 (harg3.unread x1) (k0_off11 i k) (k0_off11_inb i k))) (constant S512x512 .f32 0x00000000#32) (ldL arg4 (harg4.unread x2) (k0_off12 i k) (k0_off12_inb i k)) (ldL arg5 (harg5.unread x3) (k0_off12 i k) (k0_off12_inb i k)) (ldQ arg8 f (k0_off10 i k) (k0_off10_inb i k))⟩,
         ⟨Rect.unit (s := S4096x512) (k0_off7 i k) S512x256.size (k0_off7_inb i k), k0_pay17 v4 v8 (ldQ arg2 (harg2.unread x0) (k0_off7 i k) (k0_off7_inb i k)) (ldW arg3 (harg3.unread x1) (k0_off8 i k) (k0_off8_inb i k)) (ldL arg4 (harg4.unread x2) (k0_off9 i k) (k0_off9_inb i k)) (ldL arg5 (harg5.unread x3) (k0_off9 i k) (k0_off9_inb i k)) (ldQ arg8 f (k0_off7 i k) (k0_off7_inb i k))⟩] := by
  unfold tripL_k0_t1 trip_k0_t1
  dsimp only [trip_k0_t1.sl.r_2, trip_k0_t1.sl.r_3, trip_k0_t1.sl.cst_74, trip_k0_t1.sl.v196]

variable {v4 v6 v8 v10 x4 x5}
  (h4 : ∀ a d, v4 (ix2 a d) = x4 (ix2 a (col 0 d))) (h6 : ∀ a d, v6 (ix2 a d) = x4 (ix2 a (col 1 d)))
  (h8 : ∀ a d, v8 (ix2 a d) = x5 (ix2 a (xcol 0 d))) (h10 : ∀ a d, v10 (ix2 a d) = x5 (ix2 a (xcol 1 d)))

theorem ld_q0 (b : Fin 512) (d : Fin 256) : (ldQ arg2 (harg2.unread x0) (k0_off7 i k) (k0_off7_inb i k)) (ix2 b d) = x0 (ix2 (row (qb i k) b) (col 0 d)) := by
  exact (load2 arg2 _ (off7_eq i k) _ b d (row (qb i k) b) (col 0 d) rfl rfl).trans (congrFun (harg2.read_unread _) _)
theorem ld_q1 (b : Fin 512) (d : Fin 256) : (ldQ arg2 (harg2.unread x0) (k0_off10 i k) (k0_off10_inb i k)) (ix2 b d) = x0 (ix2 (row (qb i k) b) (col 1 d)) := by
  exact (load2 arg2 _ (off10_eq i k) _ b d (row (qb i k) b) (col 1 d) rfl rfl).trans (congrFun (harg2.read_unread _) _)
theorem ld_w0 (b : Fin 512) (d : Fin 128) : (ldW arg3 (harg3.unread x1) (k0_off8 i k) (k0_off8_inb i k)) (ix2 b d) = x1 (ix2 (row (qb i k) b) (vcol 0 d)) := by
  exact (load2 arg3 _ (off8_eq i k) _ b d (row (qb i k) b) (vcol 0 d) rfl rfl).trans (congrFun (harg3.read_unread _) _)
theorem ld_w1 (b : Fin 512) (d : Fin 128) : (ldW arg3 (harg3.unread x1) (k0_off11 i k) (k0_off11_inb i k)) (ix2 b d) = x1 (ix2 (row (qb i k) b) (vcol 1 d)) := by
  exact (load2 arg3 _ (off11_eq i k) _ b d (row (qb i k) b) (vcol 1 d) rfl rfl).trans (congrFun (harg3.read_unread _) _)
theorem ld_l0 (b : Fin 512) : (ldL arg4 (harg4.unread x2) (k0_off9 i k) (k0_off9_inb i k)) (ix3 0 0 b) = x2 (ix3 0 0 (row (qb i k) b)) := by
  exact (load3 arg4 _ (off9_eq i k) _ b 0 (row (qb i k) b) rfl rfl).trans (congrFun (harg4.read_unread _) _)
theorem ld_e0 (b : Fin 512) : (ldL arg5 (harg5.unread x3) (k0_off9 i k) (k0_off9_inb i k)) (ix3 0 0 b) = x3 (ix3 0 0 (row (qb i k) b)) := by
  exact (load3 arg5 _ (off9_eq i k) _ b 0 (row (qb i k) b) rfl rfl).trans (congrFun (harg5.read_unread _) _)
theorem ld_l1 (b : Fin 512) : (ldL arg4 (harg4.unread x2) (k0_off12 i k) (k0_off12_inb i k)) (ix3 0 0 b) = x2 (ix3 1 0 (row (qb i k) b)) := by
  exact (load3 arg4 _ (off12_eq i k) _ b 1 (row (qb i k) b) rfl rfl).trans (congrFun (harg4.read_unread _) _)
theorem ld_e1 (b : Fin 512) : (ldL arg5 (harg5.unread x3) (k0_off12 i k) (k0_off12_inb i k)) (ix3 0 0 b) = x3 (ix3 1 0 (row (qb i k) b)) := by
  exact (load3 arg5 _ (off12_eq i k) _ b 1 (row (qb i k) b) rfl rfl).trans (congrFun (harg5.read_unread _) _)

include h4 h6 h8 h10
/-- A trip adds its query block's terms to the four sums. -/
theorem tripR_apply :
    (∀ a b, (tripR_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f).1 (ix2 a b)
      = acc.1 (ix2 a b) + ∑ r, ds x0 x1 x2 x3 x4 x5 (kb i) 0 a (row (qb i k) r) * x0 (ix2 (row (qb i k) r) (col 0 b)))
    ∧ (∀ a b, (tripR_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f).2.1 (ix2 a b)
      = acc.2.1 (ix2 a b) + ∑ r, wt x0 x2 x4 (kb i) 0 a (row (qb i k) r) * x1 (ix2 (row (qb i k) r) (vcol 0 b)))
    ∧ (∀ a b, (tripR_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f).2.2.1 (ix2 a b)
      = acc.2.2.1 (ix2 a b) + ∑ r, ds x0 x1 x2 x3 x4 x5 (kb i) 1 a (row (qb i k) r) * x0 (ix2 (row (qb i k) r) (col 1 b)))
    ∧ (∀ a b, (tripR_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f).2.2.2 (ix2 a b)
      = acc.2.2.2 (ix2 a b) + ∑ r, wt x0 x2 x4 (kb i) 1 a (row (qb i k) r) * x1 (ix2 (row (qb i k) r) (vcol 1 b))) := by
  rw [tripR_eq]
  have hn := kb_lt_qb i k
  refine ⟨fun a b => ?_, fun a b => ?_, fun a b => ?_, fun a b => ?_⟩
  · exact pay16_eq h4 h8 (ld_q0 i arg2 harg2 x0 k) (ld_w0 i arg3 harg3 x1 k) (ld_l0 i arg4 harg4 x2 k) (ld_e0 i arg5 harg5 x3 k) hn _ a b
  · exact pay15_eq h4 h8 (ld_q0 i arg2 harg2 x0 k) (ld_w0 i arg3 harg3 x1 k) (ld_l0 i arg4 harg4 x2 k) (ld_e0 i arg5 harg5 x3 k) hn _ a b
  · exact pay4_eq h6 h10 (ld_q1 i arg2 harg2 x0 k) (ld_w1 i arg3 harg3 x1 k) (ld_l1 i arg4 harg4 x2 k) (ld_e1 i arg5 harg5 x3 k) hn _ a b
  · exact pay3_eq h6 h10 (ld_q1 i arg2 harg2 x0 k) (ld_w1 i arg3 harg3 x1 k) (ld_l1 i arg4 harg4 x2 k) (ld_e1 i arg5 harg5 x3 k) hn _ a b

/-- A trip adds to the queries' gradient in its query block's rows, and nothing elsewhere. -/
theorem tripL_apply (n : Fin 8) (r : Fin 512) (h : Fin 2) (d : Fin 256) :
    arg8.view.read (Elt Ideal) (arg8.view.writes (Elt Ideal) f (tripL_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) k acc f)) (ix2 (row n r) (col h d))
      = arg8.view.read (Elt Ideal) f (ix2 (row n r) (col h d))
        + if n = qb i k then ∑ a, ds x0 x1 x2 x3 x4 x5 (kb i) h a (row n r) * x4 (ix2 a (col h d)) else 0 := by
  rw [tripL_eq]
  have hn := kb_lt_qb i k
  by_cases hnq : n = qb i k
  · rw [if_pos hnq]; subst hnq
    have hh : h = 0 ∨ h = 1 := by omega
    rcases hh with rfl | rfl
    · refine (missCol arg8 f (off10_eq i k) _ _ _ _ _ (by left; show 256 * 0 + d.val < 256; omega)).trans ?_
      refine (hit2 arg8 f (off7_eq i k) _ _ _ _ _ r d rfl rfl).trans ?_
      refine (pay17_eq h4 h8 (ld_q0 i arg2 harg2 x0 k) (ld_w0 i arg3 harg3 x1 k) (ld_l0 i arg4 harg4 x2 k) (ld_e0 i arg5 harg5 x3 k) hn _ r d).trans ?_
      exact congrArg (· + _) (load2 arg8 _ (off7_eq i k) _ r d (row (qb i k) r) (col 0 d) rfl rfl)
    · refine (hit2 arg8 f (off10_eq i k) _ _ _ _ _ r d rfl rfl).trans ?_
      refine (pay5_eq h6 h10 (ld_q1 i arg2 harg2 x0 k) (ld_w1 i arg3 harg3 x1 k) (ld_l1 i arg4 harg4 x2 k) (ld_e1 i arg5 harg5 x3 k) hn _ r d).trans ?_
      exact congrArg (· + _) (load2 arg8 _ (off10_eq i k) _ r d (row (qb i k) r) (col 1 d) rfl rfl)
  · rw [if_neg hnq, add_zero]
    have hne : n.val ≠ (i 1).val + 1 + k.val := fun e => hnq (Fin.ext e)
    have hr := r.isLt
    have hside : ∀ o : ℕ, o = (i 1).val + 1 + k.val → (512 * n.val + r.val < 512 * o ∨ 512 * o + 512 ≤ 512 * n.val + r.val) := by omega
    exact (missRow arg8 f (off10_eq i k) _ _ _ _ _ (hside _ rfl)).trans (missRow arg8 f (off7_eq i k) _ _ _ _ _ (hside _ rfl))
end Cert.KernelIdeal.Att
end
end
-- ==== Proof.Loop.lean ====
/- The loop over the query blocks after the diagonal: what the four carried sums and the queries' gradient are
   after any number of trips. -/
module

public import proofs.«01_k».proof.Proof.Trip

@[expose] public section
set_option maxRecDepth 16384
noncomputable section
namespace Cert.KernelIdeal.Att
open Idealize.ShloMosaic Idealize.ShloMosaic.TcCoe Idealize.SL.Sem
open Cert.KernelIdeal Cert.KernelIdeal.Gen

/-- One more block joins a sum over the blocks `j+1 … j+k`. -/
theorem sum_upto_succ (T : Fin 8 → EReal) (j k : ℕ) (m : Fin 8) (hm : m.val = j + 1 + k) :
    (∑ n : Fin 8, if j < n.val ∧ n.val ≤ j + (k + 1) then T n else 0)
      = (∑ n : Fin 8, if j < n.val ∧ n.val ≤ j + k then T n else 0) + T m := by
  have e : T m = ∑ n : Fin 8, if n = m then T n else 0 := by
    rw [Finset.sum_ite_eq' Finset.univ m T, if_pos (Finset.mem_univ m)]
  rw [e, ← Finset.sum_add_distrib]
  refine Finset.sum_congr rfl fun n _ => ?_
  by_cases h : n = m
  · subst h; rw [if_pos (by omega), if_neg (by omega), if_pos rfl, zero_add]
  · have h' : n.val ≠ m.val := fun e => h (Fin.ext e)
    rw [if_neg h, add_zero]
    by_cases h2 : j < n.val ∧ n.val ≤ j + k
    · rw [if_pos h2, if_pos (by omega)]
    · rw [if_neg h2, if_neg (by omega)]

/-- The block on the diagonal and all after it make the whole sum, when the blocks before add nothing. -/
theorem sum_all (T : Fin 8 → EReal) (j : Fin 8) (h0 : ∀ n : Fin 8, n.val < j.val → T n = 0) :
    T j + (∑ n : Fin 8, if j.val < n.val ∧ n.val ≤ j.val + (7 - j.val) then T n else 0) = ∑ n, T n := by
  have e : T j = ∑ n : Fin 8, if n = j then T n else 0 := by
    rw [Finset.sum_ite_eq' Finset.univ j T, if_pos (Finset.mem_univ j)]
  rw [e, ← Finset.sum_add_distrib]
  refine Finset.sum_congr rfl fun n _ => ?_
  by_cases h : n = j
  · subst h; rw [if_pos rfl, if_neg (by omega), add_zero]
  · have h' : n.val ≠ j.val := fun e => h (Fin.ext e)
    rw [if_neg h, zero_add]
    by_cases h2 : j.val < n.val
    · rw [if_pos (by omega)]
    · rw [if_neg (by omega), h0 n (by omega)]

/-- A sum over the 4096 rows, block by block. -/
theorem sum_rows (f : Fin 4096 → EReal) : ∑ R, f R = ∑ n : Fin 8, ∑ r : Fin 512, f (row n r) := by
  rw [Fin.sum_univ_tiles 8 512 rfl f]
  refine Finset.sum_congr rfl fun n _ => Finset.sum_congr rfl fun r _ => congrArg f (Fin.ext ?_)
  show n.val * 512 + r.val = 512 * n.val + r.val
  omega

variable (𝒱 : Variants) (c : Dev nD) (bd : Option 𝒱.V) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole)
  {v4 v6 : FVec Ideal S512x256 .bf16} {v8 v10 : FVec Ideal S512x128 .bf16} (v32 : BitVec 32)
  (x0 : FVec Ideal S4096x512 .bf16) (x1 : FVec Ideal S4096x256 .bf16) (x2 x3 : FVec Ideal S2x1x4096 .f32)
  {x4 x5 : FVec Ideal S512x512 .bf16}
  (G : BufTy.Contents (Elt Ideal) arg8.view.ty)
  (init : FVec Ideal S512x256 .f32 × FVec Ideal S512x128 .f32 × FVec Ideal S512x256 .f32 × FVec Ideal S512x128 .f32)
  (h4 : ∀ a d, v4 (ix2 a d) = x4 (ix2 a (col 0 d))) (h6 : ∀ a d, v6 (ix2 a d) = x4 (ix2 a (col 1 d)))
  (h8 : ∀ a d, v8 (ix2 a d) = x5 (ix2 a (xcol 0 d))) (h10 : ∀ a d, v10 (ix2 a d) = x5 (ix2 a (xcol 1 d)))
include h4 h6 h8 h10

/-- After `k` trips each of the four sums has gained the terms of the `k` blocks after the diagonal one. -/
theorem stR_apply (k : ℕ) (hk : k ≤ (k0_t1_loop i).trips) :
    (∀ a b, (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1.1 (ix2 a b)
      = init.1 (ix2 a b) + ∑ n : Fin 8, if (i 1).val < n.val ∧ n.val ≤ (i 1).val + k then ∑ r, ds x0 x1 x2 x3 x4 x5 (kb i) 0 a (row n r) * x0 (ix2 (row n r) (col 0 b)) else 0)
    ∧ (∀ a b, (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1.2.1 (ix2 a b)
      = init.2.1 (ix2 a b) + ∑ n : Fin 8, if (i 1).val < n.val ∧ n.val ≤ (i 1).val + k then ∑ r, wt x0 x2 x4 (kb i) 0 a (row n r) * x1 (ix2 (row n r) (vcol 0 b)) else 0)
    ∧ (∀ a b, (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1.2.2.1 (ix2 a b)
      = init.2.2.1 (ix2 a b) + ∑ n : Fin 8, if (i 1).val < n.val ∧ n.val ≤ (i 1).val + k then ∑ r, ds x0 x1 x2 x3 x4 x5 (kb i) 1 a (row n r) * x0 (ix2 (row n r) (col 1 b)) else 0)
    ∧ (∀ a b, (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1.2.2.2 (ix2 a b)
      = init.2.2.2 (ix2 a b) + ∑ n : Fin 8, if (i 1).val < n.val ∧ n.val ≤ (i 1).val + k then ∑ r, wt x0 x2 x4 (kb i) 1 a (row n r) * x1 (ix2 (row n r) (vcol 1 b)) else 0) := by
  induction k with
  | zero =>
    refine ⟨fun a b => ?_, fun a b => ?_, fun a b => ?_, fun a b => ?_⟩ <;>
    · rw [Finset.sum_eq_zero fun n _ => if_neg (by omega), add_zero]
      rfl
  | succ k ih =>
    obtain ⟨e1, e2, e3, e4⟩ := ih (Nat.le_of_succ_le hk)
    have t := tripR_apply 𝒱 c bd i arg2 harg2 arg3 harg3 arg4 harg4 arg5 harg5 arg6 harg6 arg7 harg7 arg8 harg8 arg9 harg9 arg10 harg10 v32 x0 x1 x2 x3 ⟨k, hk⟩
      (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1 (arg8.view.writes (Elt Ideal) G (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).2) h4 h6 h8 h10
    obtain ⟨t1, t2, t3, t4⟩ := t
    have hs := st_k0_t1_succ (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init ⟨k, hk⟩
    dsimp only at hs
    rw [hs]
    refine ⟨fun a b => ?_, fun a b => ?_, fun a b => ?_, fun a b => ?_⟩
    · rw [sum_upto_succ (fun n => ∑ r, ds x0 x1 x2 x3 x4 x5 (kb i) 0 a (row n r) * x0 (ix2 (row n r) (col 0 b))) (i 1).val k (qb i ⟨k, hk⟩) rfl, ← add_assoc, ← e1 a b]
      exact t1 a b
    · rw [sum_upto_succ (fun n => ∑ r, wt x0 x2 x4 (kb i) 0 a (row n r) * x1 (ix2 (row n r) (vcol 0 b))) (i 1).val k (qb i ⟨k, hk⟩) rfl, ← add_assoc, ← e2 a b]
      exact t2 a b
    · rw [sum_upto_succ (fun n => ∑ r, ds x0 x1 x2 x3 x4 x5 (kb i) 1 a (row n r) * x0 (ix2 (row n r) (col 1 b))) (i 1).val k (qb i ⟨k, hk⟩) rfl, ← add_assoc, ← e3 a b]
      exact t3 a b
    · rw [sum_upto_succ (fun n => ∑ r, wt x0 x2 x4 (kb i) 1 a (row n r) * x1 (ix2 (row n r) (vcol 1 b))) (i 1).val k (qb i ⟨k, hk⟩) rfl, ← add_assoc, ← e4 a b]
      exact t4 a b

/-- After `k` trips the queries' gradient has gained, in the rows of those blocks, the key block's terms. -/
theorem stL_apply (k : ℕ) (hk : k ≤ (k0_t1_loop i).trips) (n : Fin 8) (r : Fin 512) (h : Fin 2) (d : Fin 256) :
    arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).2) (ix2 (row n r) (col h d))
      = arg8.view.read (Elt Ideal) G (ix2 (row n r) (col h d))
        + if (i 1).val < n.val ∧ n.val ≤ (i 1).val + k then ∑ a, ds x0 x1 x2 x3 x4 x5 (kb i) h a (row n r) * x4 (ix2 a (col h d)) else 0 := by
  induction k with
  | zero =>
    rw [if_neg (by omega), add_zero]
    rfl
  | succ k ih =>
    have e := ih (Nat.le_of_succ_le hk)
    have hs := st_k0_t1_succ (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init ⟨k, hk⟩
    dsimp only at hs
    rw [hs]
    dsimp only
    rw [View.writes_append]
    refine (tripL_apply 𝒱 c bd i arg2 harg2 arg3 harg3 arg4 harg4 arg5 harg5 arg6 harg6 arg7 harg7 arg8 harg8 arg9 harg9 arg10 harg10 v32 x0 x1 x2 x3 ⟨k, hk⟩ (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init k).1 _ h4 h6 h8 h10 n r h d).trans ?_
    rw [e, add_assoc]
    refine congrArg (_ + ·) ?_
    have hq : (qb i ⟨k, hk⟩).val = (i 1).val + 1 + k := rfl
    by_cases hn : n = qb i ⟨k, hk⟩
    · have hv : n.val = (i 1).val + 1 + k := by rw [hn]; rfl
      rw [if_pos hn, if_neg (by omega), if_pos (by omega), zero_add]
    · have hv : n.val ≠ (i 1).val + 1 + k := fun e => hn (Fin.ext e)
      rw [if_neg hn, add_zero]
      by_cases h2 : (i 1).val < n.val ∧ n.val ≤ (i 1).val + k
      · rw [if_pos h2, if_pos (by omega)]
      · rw [if_neg h2, if_neg (by omega)]
end Cert.KernelIdeal.Att
end
end
-- ==== Proof.Point.lean ====
/- What one grid point leaves in its three result blocks, as whole sums over the sequence, and how the blocks
   the loop leaves come to these sums. -/
module

public import proofs.«01_k».proof.Proof.Loop

@[expose] public section
set_option maxRecDepth 16384
noncomputable section
namespace Cert.KernelIdeal.Att
open Idealize.ShloMosaic Idealize.ShloMosaic.TcCoe Idealize.SL.Sem
open Cert.KernelIdeal Cert.KernelIdeal.Gen

/-- Which half of a 512-wide block a column is in. -/
def hd (C : Fin 512) : Fin 2 := ⟨C.val / 256, by omega⟩
/-- Which half of a 256-wide block a column is in. -/
def hv (C : Fin 256) : Fin 2 := ⟨C.val / 128, by omega⟩
theorem hd_col (h : Fin 2) (d : Fin 256) : hd (col h d) = h := Fin.ext (by show (256 * h.val + d.val) / 256 = h.val; omega)
theorem hv_vcol (h : Fin 2) (d : Fin 128) : hv (vcol h d) = h := Fin.ext (by show (128 * h.val + d.val) / 128 = h.val; omega)

theorem exists_row (R : Fin 4096) : ∃ n r, R = row n r :=
  ⟨⟨R.val / 512, by omega⟩, ⟨R.val % 512, by omega⟩, Fin.ext (by show R.val = 512 * (R.val / 512) + R.val % 512; omega)⟩
theorem exists_col (C : Fin 512) : ∃ h d, C = col h d :=
  ⟨hd C, ⟨C.val % 256, by omega⟩, Fin.ext (by show C.val = 256 * (C.val / 256) + C.val % 256; omega)⟩
theorem exists_vcol (C : Fin 256) : ∃ h d, C = vcol h d :=
  ⟨hv C, ⟨C.val % 128, by omega⟩, Fin.ext (by show C.val = 128 * (C.val / 128) + C.val % 128; omega)⟩

section Outs
variable (x0 : FVec Ideal S4096x512 .bf16) (x1 : FVec Ideal S4096x256 .bf16) (x2 x3 : FVec Ideal S2x1x4096 .f32)
  (x4 x5 : FVec Ideal S512x512 .bf16) (j : Fin 8)
/-- What key block `j` adds to the queries' gradient. -/
def dqAdd (R : Fin 4096) (C : Fin 512) : EReal := ∑ a : Fin 512, ds x0 x1 x2 x3 x4 x5 j (hd C) a R * x4 (ix2 a C)
/-- The keys' gradient in key block `j`. -/
def dkOut : FVec Ideal S512x512 .f32 := fun y => ∑ R : Fin 4096, ds x0 x1 x2 x3 x4 x5 j (hd (y 1)) (y 0) R * x0 (ix2 R (y 1))
/-- The values' gradient in key block `j`. -/
def dvOut : FVec Ideal S512x256 .f32 := fun y => ∑ R : Fin 4096, wt x0 x2 x4 j (hv (y 1)) (y 0) R * x1 (ix2 R (y 1))
end Outs

section Loop
variable (𝒱 : Variants) (c : Dev nD) (bd : Option 𝒱.V) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole)
  {v4 v6 : FVec Ideal S512x256 .bf16} {v8 v10 : FVec Ideal S512x128 .bf16} (v32 : BitVec 32)
  (x0 : FVec Ideal S4096x512 .bf16) (x1 : FVec Ideal S4096x256 .bf16) (x2 x3 : FVec Ideal S2x1x4096 .f32)
  {x4 x5 : FVec Ideal S512x512 .bf16}
  (G : BufTy.Contents (Elt Ideal) arg8.view.ty)
  (init : FVec Ideal S512x256 .f32 × FVec Ideal S512x128 .f32 × FVec Ideal S512x256 .f32 × FVec Ideal S512x128 .f32)
  (h4 : ∀ a d, v4 (ix2 a d) = x4 (ix2 a (col 0 d))) (h6 : ∀ a d, v6 (ix2 a d) = x4 (ix2 a (col 1 d)))
  (h8 : ∀ a d, v8 (ix2 a d) = x5 (ix2 a (xcol 0 d))) (h10 : ∀ a d, v10 (ix2 a d) = x5 (ix2 a (xcol 1 d)))
include h4 h6 h8 h10

/-- The first head's keys' gradient when the loop is over. -/
theorem dk0_end (hi : ∀ (a : Fin 512) (b : Fin 256), init.1 (ix2 a b) = ∑ r, ds x0 x1 x2 x3 x4 x5 (kb i) 0 a (row (kb i) r) * x0 (ix2 (row (kb i) r) (col 0 b)))
    (a : Fin 512) (b : Fin 256) :
    (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init (k0_t1_loop i).trips).1.1 (ix2 a b) = dkOut x0 x1 x2 x3 x4 x5 (kb i) (ix2 a (col 0 b)) := by
  obtain ⟨e1, e2, e3, e4⟩ := stR_apply 𝒱 c bd i arg2 harg2 arg3 harg3 arg4 harg4 arg5 harg5 arg6 harg6 arg7 harg7 arg8 harg8 arg9 harg9 arg10 harg10 v32 x0 x1 x2 x3 G init h4 h6 h8 h10 (k0_t1_loop i).trips le_rfl
  rw [e1, hi]
  have ht := trips1 i
  have s := sum_all (fun n => ∑ r, ds x0 x1 x2 x3 x4 x5 (kb i) 0 a (row n r) * x0 (ix2 (row n r) (col 0 b))) (kb i) (fun n hn =>
    Finset.sum_eq_zero fun r _ => by rw [ds_of_lt x0 x1 x2 x3 x4 x5 (show 512 * n.val + r.val < 512 * (kb i).val by omega), zero_mul])
  rw [ht]
  refine s.trans ?_
  rw [← sum_rows fun R => ds x0 x1 x2 x3 x4 x5 (kb i) 0 a R * x0 (ix2 R (col 0 b))]
  unfold dkOut
  refine Finset.sum_congr rfl fun R _ => ?_
  show _ = ds x0 x1 x2 x3 x4 x5 (kb i) (hd (col 0 b)) a R * x0 (ix2 R (col 0 b))
  rw [hd_col]

/-- The first head's values' gradient when the loop is over. -/
theorem dv0_end (hi : ∀ (a : Fin 512) (b : Fin 128), init.2.1 (ix2 a b) = ∑ r, wt x0 x2 x4 (kb i) 0 a (row (kb i) r) * x1 (ix2 (row (kb i) r) (vcol 0 b)))
    (a : Fin 512) (b : Fin 128) :
    (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init (k0_t1_loop i).trips).1.2.1 (ix2 a b) = dvOut x0 x1 x2 x4 (kb i) (ix2 a (vcol 0 b)) := by
  obtain ⟨e1, e2, e3, e4⟩ := stR_apply 𝒱 c bd i arg2 harg2 arg3 harg3 arg4 harg4 arg5 harg5 arg6 harg6 arg7 harg7 arg8 harg8 arg9 harg9 arg10 harg10 v32 x0 x1 x2 x3 G init h4 h6 h8 h10 (k0_t1_loop i).trips le_rfl
  rw [e2, hi]
  have ht := trips1 i
  have s := sum_all (fun n => ∑ r, wt x0 x2 x4 (kb i) 0 a (row n r) * x1 (ix2 (row n r) (vcol 0 b))) (kb i) (fun n hn =>
    Finset.sum_eq_zero fun r _ => by rw [wt_of_lt x0 x2 x4 (show 512 * n.val + r.val < 512 * (kb i).val by omega), zero_mul])
  rw [ht]
  refine s.trans ?_
  rw [← sum_rows fun R => wt x0 x2 x4 (kb i) 0 a R * x1 (ix2 R (vcol 0 b))]
  unfold dvOut
  refine Finset.sum_congr rfl fun R _ => ?_
  show _ = wt x0 x2 x4 (kb i) (hv (vcol 0 b)) a R * x1 (ix2 R (vcol 0 b))
  rw [hv_vcol]

/-- The second head's keys' gradient when the loop is over. -/
theorem dk1_end (hi : ∀ (a : Fin 512) (b : Fin 256), init.2.2.1 (ix2 a b) = ∑ r, ds x0 x1 x2 x3 x4 x5 (kb i) 1 a (row (kb i) r) * x0 (ix2 (row (kb i) r) (col 1 b)))
    (a : Fin 512) (b : Fin 256) :
    (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init (k0_t1_loop i).trips).1.2.2.1 (ix2 a b) = dkOut x0 x1 x2 x3 x4 x5 (kb i) (ix2 a (col 1 b)) := by
  obtain ⟨e1, e2, e3, e4⟩ := stR_apply 𝒱 c bd i arg2 harg2 arg3 harg3 arg4 harg4 arg5 harg5 arg6 harg6 arg7 harg7 arg8 harg8 arg9 harg9 arg10 harg10 v32 x0 x1 x2 x3 G init h4 h6 h8 h10 (k0_t1_loop i).trips le_rfl
  rw [e3, hi]
  have ht := trips1 i
  have s := sum_all (fun n => ∑ r, ds x0 x1 x2 x3 x4 x5 (kb i) 1 a (row n r) * x0 (ix2 (row n r) (col 1 b))) (kb i) (fun n hn =>
    Finset.sum_eq_zero fun r _ => by rw [ds_of_lt x0 x1 x2 x3 x4 x5 (show 512 * n.val + r.val < 512 * (kb i).val by omega), zero_mul])
  rw [ht]
  refine s.trans ?_
  rw [← sum_rows fun R => ds x0 x1 x2 x3 x4 x5 (kb i) 1 a R * x0 (ix2 R (col 1 b))]
  unfold dkOut
  refine Finset.sum_congr rfl fun R _ => ?_
  show _ = ds x0 x1 x2 x3 x4 x5 (kb i) (hd (col 1 b)) a R * x0 (ix2 R (col 1 b))
  rw [hd_col]

/-- The second head's values' gradient when the loop is over. -/
theorem dv1_end (hi : ∀ (a : Fin 512) (b : Fin 128), init.2.2.2 (ix2 a b) = ∑ r, wt x0 x2 x4 (kb i) 1 a (row (kb i) r) * x1 (ix2 (row (kb i) r) (vcol 1 b)))
    (a : Fin 512) (b : Fin 128) :
    (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init (k0_t1_loop i).trips).1.2.2.2 (ix2 a b) = dvOut x0 x1 x2 x4 (kb i) (ix2 a (vcol 1 b)) := by
  obtain ⟨e1, e2, e3, e4⟩ := stR_apply 𝒱 c bd i arg2 harg2 arg3 harg3 arg4 harg4 arg5 harg5 arg6 harg6 arg7 harg7 arg8 harg8 arg9 harg9 arg10 harg10 v32 x0 x1 x2 x3 G init h4 h6 h8 h10 (k0_t1_loop i).trips le_rfl
  rw [e4, hi]
  have ht := trips1 i
  have s := sum_all (fun n => ∑ r, wt x0 x2 x4 (kb i) 1 a (row n r) * x1 (ix2 (row n r) (vcol 1 b))) (kb i) (fun n hn =>
    Finset.sum_eq_zero fun r _ => by rw [wt_of_lt x0 x2 x4 (show 512 * n.val + r.val < 512 * (kb i).val by omega), zero_mul])
  rw [ht]
  refine s.trans ?_
  rw [← sum_rows fun R => wt x0 x2 x4 (kb i) 1 a R * x1 (ix2 R (vcol 1 b))]
  unfold dvOut
  refine Finset.sum_congr rfl fun R _ => ?_
  show _ = wt x0 x2 x4 (kb i) (hv (vcol 1 b)) a R * x1 (ix2 R (vcol 1 b))
  rw [hv_vcol]

/-- The queries' gradient when the loop is over: what it held, and the key block's addition everywhere. -/
theorem dq_end (Z : FVec Ideal S4096x512 .f32)
    (hG : ∀ n r h d, arg8.view.read (Elt Ideal) G (ix2 (row n r) (col h d)) = Z (ix2 (row n r) (col h d))
      + if n = kb i then ∑ a, ds x0 x1 x2 x3 x4 x5 (kb i) h a (row n r) * x4 (ix2 a (col h d)) else 0) (R : Fin 4096) (C : Fin 512) :
    arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 v4 v6 v8 v10 v32 (harg2.unread x0) (harg3.unread x1) (harg4.unread x2) (harg5.unread x3) G init (k0_t1_loop i).trips).2) (ix2 R C)
      = Z (ix2 R C) + dqAdd x0 x1 x2 x3 x4 x5 (kb i) R C := by
  obtain ⟨n, r, rfl⟩ := exists_row R
  obtain ⟨h, d, rfl⟩ := exists_col C
  rw [stL_apply 𝒱 c bd i arg2 harg2 arg3 harg3 arg4 harg4 arg5 harg5 arg6 harg6 arg7 harg7 arg8 harg8 arg9 harg9 arg10 harg10 v32 x0 x1 x2 x3 G init h4 h6 h8 h10 (k0_t1_loop i).trips le_rfl, hG, add_assoc]
  refine congrArg (_ + ·) ?_
  unfold dqAdd
  rw [hd_col, trips1 i]
  have hj : (kb i).val = (i 1).val := rfl
  by_cases hn : n = kb i
  · rw [if_pos hn, if_neg (by rw [hn]; omega), add_zero]
  · have h' : n.val ≠ (i 1).val := fun e => hn (Fin.ext e)
    rw [if_neg hn, zero_add]
    by_cases h2 : (i 1).val < n.val
    · rw [if_pos (by omega)]
    · rw [if_neg (by omega)]
      exact (Finset.sum_eq_zero fun a _ => by rw [ds_of_lt x0 x1 x2 x3 x4 x5 (show 512 * n.val + r.val < 512 * (kb i).val by omega), zero_mul]).symm
end Loop

/-- The queries' gradient after the diagonal block: its own rows have gained the key block's terms. -/
theorem first8 (arg8 : Memref sig .tc .vmem S4096x512 .f32) (i : grid0.Coords)
    (f : BufTy.Contents (Elt Ideal) arg8.view.ty) (L : List (View.Piece (Elt Ideal) S4096x512 .f32)) (w1 w4 : FVec Ideal S512x256 .f32) (Z : FVec Ideal S4096x512 .f32)
    (T : Fin 2 → Fin 512 → Fin 256 → EReal)
    (hZ : ∀ R C, arg8.view.read (Elt Ideal) (arg8.view.writes (Elt Ideal) f L) (ix2 R C) = Z (ix2 R C))
    (h1 : ∀ r d, w1 (ix2 r d) = Z (ix2 (row (kb i) r) (col 0 d)) + T 0 r d)
    (h4 : ∀ r d, w4 (ix2 r d) = Z (ix2 (row (kb i) r) (col 1 d)) + T 1 r d)
    (inb4 : ∀ a, k0_off4 i a + S512x256.size a ≤ S4096x512.size a) (inb1 : ∀ a, k0_off1 i a + S512x256.size a ≤ S4096x512.size a)
    (n : Fin 8) (r : Fin 512) (h : Fin 2) (d : Fin 256) :
    arg8.view.read (Elt Ideal) (arg8.view.writes (Elt Ideal) f
        (⟨Rect.unit (s := S4096x512) (k0_off4 i) S512x256.size inb4, w4⟩ :: ⟨Rect.unit (s := S4096x512) (k0_off1 i) S512x256.size inb1, w1⟩ :: L)) (ix2 (row n r) (col h d))
      = Z (ix2 (row n r) (col h d)) + if n = kb i then T h r d else 0 := by
  by_cases hn : n = kb i
  · rw [if_pos hn]; subst hn
    have hh : h = 0 ∨ h = 1 := by omega
    rcases hh with rfl | rfl
    · refine (missCol arg8 f (off4_eq i) _ _ _ _ _ (by left; show 256 * 0 + d.val < 256; omega)).trans ?_
      exact (hit2 arg8 f (off1_eq i) _ _ _ _ _ r d rfl rfl).trans (h1 r d)
    · exact (hit2 arg8 f (off4_eq i) _ _ _ _ _ r d rfl rfl).trans (h4 r d)
  · rw [if_neg hn, add_zero]
    have hne : n.val ≠ (i 1).val := fun e => hn (Fin.ext e)
    have hr := r.isLt
    have hside : 512 * n.val + r.val < 512 * (i 1).val ∨ 512 * (i 1).val + 512 ≤ 512 * n.val + r.val := by omega
    exact (missRow arg8 f (off4_eq i) _ _ _ _ _ hside).trans ((missRow arg8 f (off1_eq i) _ _ _ _ _ hside).trans (hZ _ _))

/-- Two halves stored side by side make the keys' block. -/
theorem halves9 (m : Memref sig .tc .vmem S512x512 .f32) (f : BufTy.Contents (Elt Ideal) m.view.ty) (u w : FVec Ideal S512x256 .f32) (y : FVec Ideal S512x512 .f32)
    (hu : ∀ a b, u (ix2 a b) = y (ix2 a (col 0 b))) (hw : ∀ a b, w (ix2 a b) = y (ix2 a (col 1 b)))
    (inb1 : ∀ a, (![0, 256] : Fin 2 → ℕ) a + S512x256.size a ≤ S512x512.size a) (inb0 : ∀ a, (![0, 0] : Fin 2 → ℕ) a + S512x256.size a ≤ S512x512.size a) :
    m.view.read (Elt Ideal) (m.view.writes (Elt Ideal) f
        [⟨Rect.unit (s := S512x512) ![0, 256] S512x256.size inb1, w⟩, ⟨Rect.unit (s := S512x512) ![0, 0] S512x256.size inb0, u⟩]) = y := by
  funext z
  obtain ⟨a, C, rfl⟩ : ∃ a C, z = ix2 a C := ⟨_, _, eq_ix2 z⟩
  obtain ⟨h, b, rfl⟩ := exists_col C
  have hh : h = 0 ∨ h = 1 := by omega
  rcases hh with rfl | rfl
  · refine (missCol m f rfl _ _ _ _ _ (by left; show 256 * 0 + b.val < 256; omega)).trans ?_
    exact (hit2 m f rfl _ _ _ _ _ a b (by omega) (by show 256 * 0 + b.val = 0 + b.val; omega)).trans (hu a b)
  · exact (hit2 m f rfl _ _ _ _ _ a b (by omega) (by show 256 * 1 + b.val = 256 + b.val; omega)).trans (hw a b)

/-- Two halves stored side by side make the values' block. -/
theorem halves10 (m : Memref sig .tc .vmem S512x256 .f32) (f : BufTy.Contents (Elt Ideal) m.view.ty) (u w : FVec Ideal S512x128 .f32) (y : FVec Ideal S512x256 .f32)
    (hu : ∀ a b, u (ix2 a b) = y (ix2 a (vcol 0 b))) (hw : ∀ a b, w (ix2 a b) = y (ix2 a (vcol 1 b)))
    (inb1 : ∀ a, (![0, 128] : Fin 2 → ℕ) a + S512x128.size a ≤ S512x256.size a) (inb0 : ∀ a, (![0, 0] : Fin 2 → ℕ) a + S512x128.size a ≤ S512x256.size a) :
    m.view.read (Elt Ideal) (m.view.writes (Elt Ideal) f
        [⟨Rect.unit (s := S512x256) ![0, 128] S512x128.size inb1, w⟩, ⟨Rect.unit (s := S512x256) ![0, 0] S512x128.size inb0, u⟩]) = y := by
  funext z
  obtain ⟨a, C, rfl⟩ : ∃ a C, z = ix2 a C := ⟨_, _, eq_ix2 z⟩
  obtain ⟨h, b, rfl⟩ := exists_vcol C
  have hh : h = 0 ∨ h = 1 := by omega
  rcases hh with rfl | rfl
  · refine (missCol m f rfl _ _ _ _ _ (by left; show 128 * 0 + b.val < 128; omega)).trans ?_
    exact (hit2 m f rfl _ _ _ _ _ a b (by omega) (by show 128 * 0 + b.val = 0 + b.val; omega)).trans (hu a b)
  · exact (hit2 m f rfl _ _ _ _ _ a b (by omega) (by show 128 * 1 + b.val = 128 + b.val; omega)).trans (hw a b)
end Cert.KernelIdeal.Att
end
end
-- ==== Proof.Run.lean ====
/- The kernel's body at one grid point: from any contents of its six input blocks it runs, and leaves the three
   gradient blocks as whole sums. Where the key block is the group's first the queries' gradient starts from 0. -/
module

public import proofs.«01_k».proof.Proof.Gen.KernelIdeal.Frame
public import proofs.«01_k».proof.Proof.Point
public import Idealize.ShloMosaic.Lib.Pipeline.ValueKit

@[expose] public section
set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
local notation "𝕄" => MT nD τ sig Unit (Elt Ideal) ℕ (UR sig nD τ) ℕ
/-- The body's test whether the key block is the first. -/
abbrev cond0_0 (i : grid0.Coords) : Prop := (Scalar.cmpi .ne (Scalar.extui (Scalar.cmpi .eq (BitVec.ofNat 32 (i 1).val) 0#32)) 0#32) = 1#1

/-- The zeros the first point stores read 0. -/
theorem zeros8 (m : Memref sig .tc .vmem S4096x512 .f32) (f : BufTy.Contents (Elt Ideal) m.view.ty)
    (inb : ∀ a, (![0, 0] : Fin 2 → ℕ) a + S4096x512.size a ≤ S4096x512.size a) (R : Fin 4096) (C : Fin 512) :
    m.view.read (Elt Ideal) (m.view.writes (Elt Ideal) f [⟨Rect.unit (s := S4096x512) ![0, 0] S4096x512.size inb, k0_pay29 (F := Ideal)⟩]) (ix2 R C) = 0 := by
  refine (hit2 m f rfl _ _ _ _ _ R C (by omega) (by omega)).trans ?_
  pointwise [k0_pay29]
theorem z34 (a : Fin 512) (b : Fin 256) : k0_pay34 (F := Ideal) (ix2 a b) = 0 := by pointwise [k0_pay34]
theorem z35 (a : Fin 512) (b : Fin 128) : k0_pay35 (F := Ideal) (ix2 a b) = 0 := by pointwise [k0_pay35]
theorem z36 (a : Fin 512) (b : Fin 256) : k0_pay36 (F := Ideal) (ix2 a b) = 0 := by pointwise [k0_pay36]
theorem z37 (a : Fin 512) (b : Fin 128) : k0_pay37 (F := Ideal) (ix2 a b) = 0 := by pointwise [k0_pay37]
theorem c30 (v : FVec Ideal S512x256 .bf16) (a : Fin 512) (b : Fin 256) : k0_pay30 v (ix2 a b) = v (ix2 a b) := by pointwise [k0_pay30]
theorem c31 (v : FVec Ideal S512x256 .bf16) (a : Fin 512) (b : Fin 256) : k0_pay31 v (ix2 a b) = v (ix2 a b) := by pointwise [k0_pay31]
theorem c32 (v : FVec Ideal S512x128 .bf16) (a : Fin 512) (b : Fin 128) : k0_pay32 v (ix2 a b) = v (ix2 a b) := by pointwise [k0_pay32]
theorem c33 (v : FVec Ideal S512x128 .bf16) (a : Fin 512) (b : Fin 128) : k0_pay33 v (ix2 a b) = v (ix2 a b) := by pointwise [k0_pay33]

set_option maxHeartbeats 400000 in
/-- The body at the first key block: the queries' gradient starts from 0. -/
theorem runA (c : Dev nD) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole) (hc0 : cond0_0 i)
    (x0 : Vec Ideal S4096x512 .bf16) (x1 : Vec Ideal S4096x256 .bf16) (x2 : Vec Ideal S2x1x4096 .f32) (x3 : Vec Ideal S2x1x4096 .f32) (x4 : Vec Ideal S512x512 .bf16) (x5 : Vec Ideal S512x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fun y => dqAdd x0 x1 x2 x3 x4 x5 (kb i) (y 0) (y 1)) ∗ owns (c : Thread nD τ) arg9 fullShare (dkOut x0 x1 x2 x3 x4 x5 (kb i)) ∗ owns (c : Thread nD τ) arg10 fullShare (dvOut x0 x1 x2 x4 (kb i))) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    skip
    sl_exec (disch := first | sl_exact hc0)
    sl_step
    have hz : Scf.trips (k0_t2_loop i).lb (k0_t2_loop i).ub (k0_t2_loop i).st = 0 := trips2 i
    have hy : Scf.trips (k0_t1_loop i).lb (k0_t1_loop i).ub (k0_t1_loop i).st = (k0_t1_loop i).trips := rfl
    have e31 : runA.sl.v31 i = BitVec.ofNat 32 (kb i).val :=
      (by decide +kernel : ∀ i : grid0.Coords, runA.sl.v31 i = BitVec.ofNat 32 (i 1).val) i
    have h4 : ∀ a d, runA.sl.r c arg6 harg6 x4 (ix2 a d) = x4 (ix2 a (col 0 d)) := fun a d =>
      (c30 _ a d).trans ((load2 arg6 _ rfl _ a d a (col 0 d) (by omega) (by show 256 * 0 + d.val = 0 + d.val; omega)).trans (congrFun (harg6.read_unread _) _))
    have h6 : ∀ a d, runA.sl.r_1 c arg6 harg6 x4 (ix2 a d) = x4 (ix2 a (col 1 d)) := fun a d =>
      (c31 _ a d).trans ((load2 arg6 _ rfl _ a d a (col 1 d) (by omega) (by show 256 * 1 + d.val = 256 + d.val; omega)).trans (congrFun (harg6.read_unread _) _))
    have h8 : ∀ a d, runA.sl.r_2 c arg7 harg7 x5 (ix2 a d) = x5 (ix2 a (xcol 0 d)) := fun a d =>
      (c32 _ a d).trans ((load2 arg7 _ rfl _ a d a (xcol 0 d) (by omega) (by show 256 * 0 + d.val = 0 + d.val; omega)).trans (congrFun (harg7.read_unread _) _))
    have h10 : ∀ a d, runA.sl.r_3 c arg7 harg7 x5 (ix2 a d) = x5 (ix2 a (xcol 1 d)) := fun a d =>
      (c33 _ a d).trans ((load2 arg7 _ rfl _ a d a (xcol 1 d) (by omega) (by show 256 * 1 + d.val = 256 + d.val; omega)).trans (congrFun (harg7.read_unread _) _))
    have hq0 : ∀ (b : Fin 512) (d : Fin 256), ldQ arg2 (harg2.unread x0) (k0_off1 i) (k0_off1_inb i) (ix2 b d) = x0 (ix2 (row (kb i) b) (col 0 d)) := fun b d =>
      (load2 arg2 _ (off1_eq i) _ b d (row (kb i) b) (col 0 d) rfl rfl).trans (congrFun (harg2.read_unread _) _)
    have hw0 : ∀ (b : Fin 512) (d : Fin 128), ldW arg3 (harg3.unread x1) (k0_off2 i) (k0_off2_inb i) (ix2 b d) = x1 (ix2 (row (kb i) b) (vcol 0 d)) := fun b d =>
      (load2 arg3 _ (off2_eq i) _ b d (row (kb i) b) (vcol 0 d) rfl rfl).trans (congrFun (harg3.read_unread _) _)
    have hl0 : ∀ b : Fin 512, ldL arg4 (harg4.unread x2) (k0_off3 i) (k0_off3_inb i) (ix3 0 0 b) = x2 (ix3 0 0 (row (kb i) b)) := fun b =>
      (load3 arg4 _ (off3_eq i) _ b 0 (row (kb i) b) rfl rfl).trans (congrFun (harg4.read_unread _) _)
    have he0 : ∀ b : Fin 512, ldL arg5 (harg5.unread x3) (k0_off3 i) (k0_off3_inb i) (ix3 0 0 b) = x3 (ix3 0 0 (row (kb i) b)) := fun b =>
      (load3 arg5 _ (off3_eq i) _ b 0 (row (kb i) b) rfl rfl).trans (congrFun (harg5.read_unread _) _)
    have hq1 : ∀ (b : Fin 512) (d : Fin 256), ldQ arg2 (harg2.unread x0) (k0_off4 i) (k0_off4_inb i) (ix2 b d) = x0 (ix2 (row (kb i) b) (col 1 d)) := fun b d =>
      (load2 arg2 _ (off4_eq i) _ b d (row (kb i) b) (col 1 d) rfl rfl).trans (congrFun (harg2.read_unread _) _)
    have hw1 : ∀ (b : Fin 512) (d : Fin 128), ldW arg3 (harg3.unread x1) (k0_off5 i) (k0_off5_inb i) (ix2 b d) = x1 (ix2 (row (kb i) b) (vcol 1 d)) := fun b d =>
      (load2 arg3 _ (off5_eq i) _ b d (row (kb i) b) (vcol 1 d) rfl rfl).trans (congrFun (harg3.read_unread _) _)
    have hl1 : ∀ b : Fin 512, ldL arg4 (harg4.unread x2) (k0_off6 i) (k0_off6_inb i) (ix3 0 0 b) = x2 (ix3 1 0 (row (kb i) b)) := fun b =>
      (load3 arg4 _ (off6_eq i) _ b 1 (row (kb i) b) rfl rfl).trans (congrFun (harg4.read_unread _) _)
    have he1 : ∀ b : Fin 512, ldL arg5 (harg5.unread x3) (k0_off6 i) (k0_off6_inb i) (ix3 0 0 b) = x3 (ix3 1 0 (row (kb i) b)) := fun b =>
      (load3 arg5 _ (off6_eq i) _ b 1 (row (kb i) b) rfl rfl).trans (congrFun (harg5.read_unread _) _)
    have hk0 : ∀ a b, runA.sl.r_5 c i arg2 harg2 arg3 harg3 arg4 harg4 arg5 harg5 arg6 harg6 arg7 harg7 x0 x1 x2 x3 x4 x5 (ix2 a b) = ∑ r, ds x0 x1 x2 x3 x4 x5 (kb i) 0 a (row (kb i) r) * x0 (ix2 (row (kb i) r) (col 0 b)) := fun a b => by
      unfold runA.sl.r_5; rw [e31]
      refine (pay43_eq h4 h8 hq0 hw0 hl0 he0 rfl _ a b).trans ?_
      rw [z34, zero_add]
    have hv0 : ∀ a b, runA.sl.r_4 c i arg2 harg2 arg3 harg3 arg4 harg4 arg6 harg6 x0 x1 x2 x4 (ix2 a b) = ∑ r, wt x0 x2 x4 (kb i) 0 a (row (kb i) r) * x1 (ix2 (row (kb i) r) (vcol 0 b)) := fun a b => by
      unfold runA.sl.r_4; rw [e31]
      refine (pay42_eq h4 h8 hq0 hw0 hl0 he0 rfl _ a b).trans ?_
      rw [z35, zero_add]
    have hk1 : ∀ a b, runA.sl.r_8 c i arg2 harg2 arg3 harg3 arg4 harg4 arg5 harg5 arg6 harg6 arg7 harg7 x0 x1 x2 x3 x4 x5 (ix2 a b) = ∑ r, ds x0 x1 x2 x3 x4 x5 (kb i) 1 a (row (kb i) r) * x0 (ix2 (row (kb i) r) (col 1 b)) := fun a b => by
      unfold runA.sl.r_8; rw [e31]
      refine (pay50_eq h6 h10 hq1 hw1 hl1 he1 rfl _ a b).trans ?_
      rw [z36, zero_add]
    have hv1 : ∀ a b, runA.sl.r_7 c i arg2 harg2 arg3 harg3 arg4 harg4 arg6 harg6 x0 x1 x2 x4 (ix2 a b) = ∑ r, wt x0 x2 x4 (kb i) 1 a (row (kb i) r) * x1 (ix2 (row (kb i) r) (vcol 1 b)) := fun a b => by
      unfold runA.sl.r_7; rw [e31]
      refine (pay49_eq h6 h10 hq1 hw1 hl1 he1 rfl _ a b).trans ?_
      rw [z37, zero_add]
    have hd0 : ∀ r d, runA.sl.r_6 c i arg2 harg2 arg3 harg3 arg4 harg4 arg5 harg5 arg6 harg6 arg7 harg7 arg8 x0 x1 x2 x3 x4 x5 (ix2 r d) = 0 + ∑ a, ds x0 x1 x2 x3 x4 x5 (kb i) 0 a (row (kb i) r) * x4 (ix2 a (col 0 d)) := fun r d => by
      unfold runA.sl.r_6; rw [e31]
      refine (pay44_eq h4 h8 hq0 hw0 hl0 he0 rfl _ r d).trans ?_
      exact congrArg (· + _) ((load2 arg8 _ (off1_eq i) _ r d (row (kb i) r) (col 0 d) rfl rfl).trans (zeros8 arg8 _ _ _ _))
    have hd1 : ∀ r d, runA.sl.r_9 c i arg2 harg2 arg3 harg3 arg4 harg4 arg5 harg5 arg6 harg6 arg7 harg7 arg8 x0 x1 x2 x3 x4 x5 (ix2 r d) = 0 + ∑ a, ds x0 x1 x2 x3 x4 x5 (kb i) 1 a (row (kb i) r) * x4 (ix2 a (col 1 d)) := fun r d => by
      unfold runA.sl.r_9; rw [e31]
      refine (pay51_eq h6 h10 hq1 hw1 hl1 he1 rfl _ r d).trans ?_
      refine congrArg (· + _) ((load2 arg8 _ (off4_eq i) _ r d (row (kb i) r) (col 1 d) rfl rfl).trans ?_)
      exact (missCol arg8 _ (off1_eq i) _ _ _ _ _ (by right; show 0 + 256 ≤ 256 * 1 + d.val; omega)).trans (zeros8 arg8 _ _ _ _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [hz, hy, st_k0_t2.eq_1]
      dsimp only
      simp only [List.nil_append, View.writes_append]
      funext y
      obtain ⟨R, C, rfl⟩ : ∃ R C, y = ix2 R C := ⟨_, _, eq_ix2 y⟩
      have hdq := dq_end Variants.none c (@none Empty) i arg2 harg2 arg3 harg3 arg4 harg4 arg5 harg5 arg6 harg6 arg7 harg7 arg8 harg8 arg9 harg9 arg10 harg10 (runA.sl.v32 i) x0 x1 x2 x3 _
        (runA.sl.r_5 c i arg2 harg2 arg3 harg3 arg4 harg4 arg5 harg5 arg6 harg6 arg7 harg7 x0 x1 x2 x3 x4 x5, runA.sl.r_4 c i arg2 harg2 arg3 harg3 arg4 harg4 arg6 harg6 x0 x1 x2 x4, runA.sl.r_8 c i arg2 harg2 arg3 harg3 arg4 harg4 arg5 harg5 arg6 harg6 arg7 harg7 x0 x1 x2 x3 x4 x5, runA.sl.r_7 c i arg2 harg2 arg3 harg3 arg4 harg4 arg6 harg6 x0 x1 x2 x4)
        h4 h6 h8 h10 (fun _ => (0 : EReal)) (fun n r h d => by
          have ft := first8 arg8 i arg8.view.junk runA.sl.H6_1 (runA.sl.r_6 c i arg2 harg2 arg3 harg3 arg4 harg4 arg5 harg5 arg6 harg6 arg7 harg7 arg8 x0 x1 x2 x3 x4 x5) (runA.sl.r_9 c i arg2 harg2 arg3 harg3 arg4 harg4 arg5 harg5 arg6 harg6 arg7 harg7 arg8 x0 x1 x2 x3 x4 x5) (fun _ => (0 : EReal))
            (fun h r d => ∑ a, ds x0 x1 x2 x3 x4 x5 (kb i) h a (row (kb i) r) * x4 (ix2 a (col h d)))
            (fun R C => zeros8 arg8 _ _ R C) hd0 hd1 (k0_off4_inb i) (k0_off1_inb i) n r h d
          refine ft.trans (congrArg (_ + ·) ?_)
          by_cases hn : n = kb i
          · subst hn; rfl
          · rw [if_neg hn, if_neg hn]) R C
      exact hdq.trans (zero_add _)
    isplitl [H7]
    · iexists _; isplitr; swap; · iexact H7
      ipureintro
      rw [hz, hy, st_k0_t2.eq_1]
      dsimp only
      generalize arg8.view.writes (Elt Ideal) _ _ = G0
      refine halves9 arg9 _ _ _ _ (fun a b => ?_) (fun a b => ?_) _ _
      · have E := dk0_end Variants.none c (@none Empty) i arg2 harg2 arg3 harg3 arg4 harg4 arg5 harg5 arg6 harg6 arg7 harg7 arg8 harg8 arg9 harg9 arg10 harg10 (runA.sl.v32 i) x0 x1 x2 x3 G0 (runA.sl.r_5 c i arg2 harg2 arg3 harg3 arg4 harg4 arg5 harg5 arg6 harg6 arg7 harg7 x0 x1 x2 x3 x4 x5, runA.sl.r_4 c i arg2 harg2 arg3 harg3 arg4 harg4 arg6 harg6 x0 x1 x2 x4, runA.sl.r_8 c i arg2 harg2 arg3 harg3 arg4 harg4 arg5 harg5 arg6 harg6 arg7 harg7 x0 x1 x2 x3 x4 x5, runA.sl.r_7 c i arg2 harg2 arg3 harg3 arg4 harg4 arg6 harg6 x0 x1 x2 x4) h4 h6 h8 h10 (by dsimp only; exact hk0) a b
        revert E
        generalize st_k0_t1 (F := Ideal) _ _ _ _ _ _ _ _ _ _ _ _ _ _ _ _ _ _ _ _ _ _ _ _ _ _ _ _ _ _ _ _ _ _ = S
        exact fun E => E
      · have E := dk1_end Variants.none c (@none Empty) i arg2 harg2 arg3 harg3 arg4 harg4 arg5 harg5 arg6 harg6 arg7 harg7 arg8 harg8 arg9 harg9 arg10 harg10 (runA.sl.v32 i) x0 x1 x2 x3 G0 (runA.sl.r_5 c i arg2 harg2 arg3 harg3 arg4 harg4 arg5 harg5 arg6 harg6 arg7 harg7 x0 x1 x2 x3 x4 x5, runA.sl.r_4 c i arg2 harg2 arg3 harg3 arg4 harg4 arg6 harg6 x0 x1 x2 x4, runA.sl.r_8 c i arg2 harg2 arg3 harg3 arg4 harg4 arg5 harg5 arg6 harg6 arg7 harg7 x0 x1 x2 x3 x4 x5, runA.sl.r_7 c i arg2 harg2 arg3 harg3 arg4 harg4 arg6 harg6 x0 x1 x2 x4) h4 h6 h8 h10 (by dsimp only; exact hk1) a b
        revert E
        generalize st_k0_t1 (F := Ideal) _ _ _ _ _ _ _ _ _ _ _ _ _ _ _ _ _ _ _ _ _ _ _ _ _ _ _ _ _ _ _ _ _ _ = S
        exact fun E => E
    iexists _; isplitr; swap; · iexact H8
    ipureintro
    rw [hz, hy, st_k0_t2.eq_1]
    dsimp only
    generalize arg8.view.writes (Elt Ideal) _ _ = G0
    refine halves10 arg10 _ _ _ _ (fun a b => ?_) (fun a b => ?_) _ _
    · have E := dv0_end Variants.none c (@none Empty) i arg2 harg2 arg3 harg3 arg4 harg4 arg5 harg5 arg6 harg6 arg7 harg7 arg8 harg8 arg9 harg9 arg10 harg10 (runA.sl.v32 i) x0 x1 x2 x3 G0 (runA.sl.r_5 c i arg2 harg2 arg3 harg3 arg4 harg4 arg5 harg5 arg6 harg6 arg7 harg7 x0 x1 x2 x3 x4 x5, runA.sl.r_4 c i arg2 harg2 arg3 harg3 arg4 harg4 arg6 harg6 x0 x1 x2 x4, runA.sl.r_8 c i arg2 harg2 arg3 harg3 arg4 harg4 arg5 harg5 arg6 harg6 arg7 harg7 x0 x1 x2 x3 x4 x5, runA.sl.r_7 c i arg2 harg2 arg3 harg3 arg4 harg4 arg6 harg6 x0 x1 x2 x4) h4 h6 h8 h10 (by dsimp only; exact hv0) a b
      revert E
      generalize st_k0_t1 (F := Ideal) _ _ _ _ _ _ _ _ _ _ _ _ _ _ _ _ _ _ _ _ _ _ _ _ _ _ _ _ _ _ _ _ _ _ = S
      exact fun E => E
    · have E := dv1_end Variants.none c (@none Empty) i arg2 harg2 arg3 harg3 arg4 harg4 arg5 harg5 arg6 harg6 arg7 harg7 arg8 harg8 arg9 harg9 arg10 harg10 (runA.sl.v32 i) x0 x1 x2 x3 G0 (runA.sl.r_5 c i arg2 harg2 arg3 harg3 arg4 harg4 arg5 harg5 arg6 harg6 arg7 harg7 x0 x1 x2 x3 x4 x5, runA.sl.r_4 c i arg2 harg2 arg3 harg3 arg4 harg4 arg6 harg6 x0 x1 x2 x4, runA.sl.r_8 c i arg2 harg2 arg3 harg3 arg4 harg4 arg5 harg5 arg6 harg6 arg7 harg7 x0 x1 x2 x3 x4 x5, runA.sl.r_7 c i arg2 harg2 arg3 harg3 arg4 harg4 arg6 harg6 x0 x1 x2 x4) h4 h6 h8 h10 (by dsimp only; exact hv1) a b
      revert E
      generalize st_k0_t1 (F := Ideal) _ _ _ _ _ _ _ _ _ _ _ _ _ _ _ _ _ _ _ _ _ _ _ _ _ _ _ _ _ _ _ _ _ _ = S
      exact fun E => E

set_option maxHeartbeats 400000 in
/-- The body at a later key block: the queries' gradient adds to what the block held. -/
theorem runB (c : Dev nD) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole) (hc0 : ¬ cond0_0 i)
    (x0 : Vec Ideal S4096x512 .bf16) (x1 : Vec Ideal S4096x256 .bf16) (x2 : Vec Ideal S2x1x4096 .f32) (x3 : Vec Ideal S2x1x4096 .f32) (x4 : Vec Ideal S512x512 .bf16) (x5 : Vec Ideal S512x512 .bf16) (x6 : Vec Ideal S4096x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fun y => x6 y + dqAdd x0 x1 x2 x3 x4 x5 (kb i) (y 0) (y 1)) ∗ owns (c : Thread nD τ) arg9 fullShare (dkOut x0 x1 x2 x3 x4 x5 (kb i)) ∗ owns (c : Thread nD τ) arg10 fullShare (dvOut x0 x1 x2 x4 (kb i))) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6
    sl_exec (disch := first | sl_exact hc0)
    sl_step
    have hz : Scf.trips (k0_t2_loop i).lb (k0_t2_loop i).ub (k0_t2_loop i).st = 0 := trips2 i
    have hy : Scf.trips (k0_t1_loop i).lb (k0_t1_loop i).ub (k0_t1_loop i).st = (k0_t1_loop i).trips := rfl
    have e31 : runB.sl.v31 i = BitVec.ofNat 32 (kb i).val :=
      (by decide +kernel : ∀ i : grid0.Coords, runB.sl.v31 i = BitVec.ofNat 32 (i 1).val) i
    have h4 : ∀ a d, runB.sl.r c arg6 harg6 x4 (ix2 a d) = x4 (ix2 a (col 0 d)) := fun a d =>
      (c30 _ a d).trans ((load2 arg6 _ rfl _ a d a (col 0 d) (by omega) (by show 256 * 0 + d.val = 0 + d.val; omega)).trans (congrFun (harg6.read_unread _) _))
    have h6 : ∀ a d, runB.sl.r_1 c arg6 harg6 x4 (ix2 a d) = x4 (ix2 a (col 1 d)) := fun a d =>
      (c31 _ a d).trans ((load2 arg6 _ rfl _ a d a (col 1 d) (by omega) (by show 256 * 1 + d.val = 256 + d.val; omega)).trans (congrFun (harg6.read_unread _) _))
    have h8 : ∀ a d, runB.sl.r_2 c arg7 harg7 x5 (ix2 a d) = x5 (ix2 a (xcol 0 d)) := fun a d =>
      (c32 _ a d).trans ((load2 arg7 _ rfl _ a d a (xcol 0 d) (by omega) (by show 256 * 0 + d.val = 0 + d.val; omega)).trans (congrFun (harg7.read_unread _) _))
    have h10 : ∀ a d, runB.sl.r_3 c arg7 harg7 x5 (ix2 a d) = x5 (ix2 a (xcol 1 d)) := fun a d =>
      (c33 _ a d).trans ((load2 arg7 _ rfl _ a d a (xcol 1 d) (by omega) (by show 256 * 1 + d.val = 256 + d.val; omega)).trans (congrFun (harg7.read_unread _) _))
    have hq0 : ∀ (b : Fin 512) (d : Fin 256), ldQ arg2 (harg2.unread x0) (k0_off1 i) (k0_off1_inb i) (ix2 b d) = x0 (ix2 (row (kb i) b) (col 0 d)) := fun b d =>
      (load2 arg2 _ (off1_eq i) _ b d (row (kb i) b) (col 0 d) rfl rfl).trans (congrFun (harg2.read_unread _) _)
    have hw0 : ∀ (b : Fin 512) (d : Fin 128), ldW arg3 (harg3.unread x1) (k0_off2 i) (k0_off2_inb i) (ix2 b d) = x1 (ix2 (row (kb i) b) (vcol 0 d)) := fun b d =>
      (load2 arg3 _ (off2_eq i) _ b d (row (kb i) b) (vcol 0 d) rfl rfl).trans (congrFun (harg3.read_unread _) _)
    have hl0 : ∀ b : Fin 512, ldL arg4 (harg4.unread x2) (k0_off3 i) (k0_off3_inb i) (ix3 0 0 b) = x2 (ix3 0 0 (row (kb i) b)) := fun b =>
      (load3 arg4 _ (off3_eq i) _ b 0 (row (kb i) b) rfl rfl).trans (congrFun (harg4.read_unread _) _)
    have he0 : ∀ b : Fin 512, ldL arg5 (harg5.unread x3) (k0_off3 i) (k0_off3_inb i) (ix3 0 0 b) = x3 (ix3 0 0 (row (kb i) b)) := fun b =>
      (load3 arg5 _ (off3_eq i) _ b 0 (row (kb i) b) rfl rfl).trans (congrFun (harg5.read_unread _) _)
    have hq1 : ∀ (b : Fin 512) (d : Fin 256), ldQ arg2 (harg2.unread x0) (k0_off4 i) (k0_off4_inb i) (ix2 b d) = x0 (ix2 (row (kb i) b) (col 1 d)) := fun b d =>
      (load2 arg2 _ (off4_eq i) _ b d (row (kb i) b) (col 1 d) rfl rfl).trans (congrFun (harg2.read_unread _) _)
    have hw1 : ∀ (b : Fin 512) (d : Fin 128), ldW arg3 (harg3.unread x1) (k0_off5 i) (k0_off5_inb i) (ix2 b d) = x1 (ix2 (row (kb i) b) (vcol 1 d)) := fun b d =>
      (load2 arg3 _ (off5_eq i) _ b d (row (kb i) b) (vcol 1 d) rfl rfl).trans (congrFun (harg3.read_unread _) _)
    have hl1 : ∀ b : Fin 512, ldL arg4 (harg4.unread x2) (k0_off6 i) (k0_off6_inb i) (ix3 0 0 b) = x2 (ix3 1 0 (row (kb i) b)) := fun b =>
      (load3 arg4 _ (off6_eq i) _ b 1 (row (kb i) b) rfl rfl).trans (congrFun (harg4.read_unread _) _)
    have he1 : ∀ b : Fin 512, ldL arg5 (harg5.unread x3) (k0_off6 i) (k0_off6_inb i) (ix3 0 0 b) = x3 (ix3 1 0 (row (kb i) b)) := fun b =>
      (load3 arg5 _ (off6_eq i) _ b 1 (row (kb i) b) rfl rfl).trans (congrFun (harg5.read_unread _) _)
    have hk0 : ∀ a b, runB.sl.r_5 c i arg2 harg2 arg3 harg3 arg4 harg4 arg5 harg5 arg6 harg6 arg7 harg7 x0 x1 x2 x3 x4 x5 (ix2 a b) = ∑ r, ds x0 x1 x2 x3 x4 x5 (kb i) 0 a (row (kb i) r) * x0 (ix2 (row (kb i) r) (col 0 b)) := fun a b => by
      unfold runB.sl.r_5; rw [e31]
      refine (pay43_eq h4 h8 hq0 hw0 hl0 he0 rfl _ a b).trans ?_
      rw [z34, zero_add]
    have hv0 : ∀ a b, runB.sl.r_4 c i arg2 harg2 arg3 harg3 arg4 harg4 arg6 harg6 x0 x1 x2 x4 (ix2 a b) = ∑ r, wt x0 x2 x4 (kb i) 0 a (row (kb i) r) * x1 (ix2 (row (kb i) r) (vcol 0 b)) := fun a b => by
      unfold runB.sl.r_4; rw [e31]
      refine (pay42_eq h4 h8 hq0 hw0 hl0 he0 rfl _ a b).trans ?_
      rw [z35, zero_add]
    have hk1 : ∀ a b, runB.sl.r_8 c i arg2 harg2 arg3 harg3 arg4 harg4 arg5 harg5 arg6 harg6 arg7 harg7 x0 x1 x2 x3 x4 x5 (ix2 a b) = ∑ r, ds x0 x1 x2 x3 x4 x5 (kb i) 1 a (row (kb i) r) * x0 (ix2 (row (kb i) r) (col 1 b)) := fun a b => by
      unfold runB.sl.r_8; rw [e31]
      refine (pay50_eq h6 h10 hq1 hw1 hl1 he1 rfl _ a b).trans ?_
      rw [z36, zero_add]
    have hv1 : ∀ a b, runB.sl.r_7 c i arg2 harg2 arg3 harg3 arg4 harg4 arg6 harg6 x0 x1 x2 x4 (ix2 a b) = ∑ r, wt x0 x2 x4 (kb i) 1 a (row (kb i) r) * x1 (ix2 (row (kb i) r) (vcol 1 b)) := fun a b => by
      unfold runB.sl.r_7; rw [e31]
      refine (pay49_eq h6 h10 hq1 hw1 hl1 he1 rfl _ a b).trans ?_
      rw [z37, zero_add]
    have hd0 : ∀ r d, runB.sl.r_6 c i arg2 harg2 arg3 harg3 arg4 harg4 arg5 harg5 arg6 harg6 arg7 harg7 arg8 harg8 x0 x1 x2 x3 x4 x5 x6 (ix2 r d) = x6 (ix2 (row (kb i) r) (col 0 d)) + ∑ a, ds x0 x1 x2 x3 x4 x5 (kb i) 0 a (row (kb i) r) * x4 (ix2 a (col 0 d)) := fun r d => by
      unfold runB.sl.r_6; rw [e31]
      refine (pay44_eq h4 h8 hq0 hw0 hl0 he0 rfl _ r d).trans ?_
      exact congrArg (· + _) ((load2 arg8 _ (off1_eq i) _ r d (row (kb i) r) (col 0 d) rfl rfl).trans (congrFun (harg8.read_unread _) _))
    have hd1 : ∀ r d, runB.sl.r_9 c i arg2 harg2 arg3 harg3 arg4 harg4 arg5 harg5 arg6 harg6 arg7 harg7 arg8 harg8 x0 x1 x2 x3 x4 x5 x6 (ix2 r d) = x6 (ix2 (row (kb i) r) (col 1 d)) + ∑ a, ds x0 x1 x2 x3 x4 x5 (kb i) 1 a (row (kb i) r) * x4 (ix2 a (col 1 d)) := fun r d => by
      unfold runB.sl.r_9; rw [e31]
      refine (pay51_eq h6 h10 hq1 hw1 hl1 he1 rfl _ r d).trans ?_
      exact congrArg (· + _) ((load2 arg8 _ (off4_eq i) _ r d (row (kb i) r) (col 1 d) rfl rfl).trans (congrFun (harg8.read_unread _) _))
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [hz, hy, st_k0_t2.eq_1]
      dsimp only
      simp only [List.nil_append, View.writes_append]
      funext y
      obtain ⟨R, C, rfl⟩ : ∃ R C, y = ix2 R C := ⟨_, _, eq_ix2 y⟩
      have hdq := dq_end Variants.none c (@none Empty) i arg2 harg2 arg3 harg3 arg4 harg4 arg5 harg5 arg6 harg6 arg7 harg7 arg8 harg8 arg9 harg9 arg10 harg10 (runB.sl.v32 i) x0 x1 x2 x3 _
        (runB.sl.r_5 c i arg2 harg2 arg3 harg3 arg4 harg4 arg5 harg5 arg6 harg6 arg7 harg7 x0 x1 x2 x3 x4 x5, runB.sl.r_4 c i arg2 harg2 arg3 harg3 arg4 harg4 arg6 harg6 x0 x1 x2 x4, runB.sl.r_8 c i arg2 harg2 arg3 harg3 arg4 harg4 arg5 harg5 arg6 harg6 arg7 harg7 x0 x1 x2 x3 x4 x5, runB.sl.r_7 c i arg2 harg2 arg3 harg3 arg4 harg4 arg6 harg6 x0 x1 x2 x4)
        h4 h6 h8 h10 x6 (fun n r h d => by
          have ft := first8 arg8 i (harg8.unread x6) [] (runB.sl.r_6 c i arg2 harg2 arg3 harg3 arg4 harg4 arg5 harg5 arg6 harg6 arg7 harg7 arg8 harg8 x0 x1 x2 x3 x4 x5 x6) (runB.sl.r_9 c i arg2 harg2 arg3 harg3 arg4 harg4 arg5 harg5 arg6 harg6 arg7 harg7 arg8 harg8 x0 x1 x2 x3 x4 x5 x6) x6
            (fun h r d => ∑ a, ds x0 x1 x2 x3 x4 x5 (kb i) h a (row (kb i) r) * x4 (ix2 a (col h d)))
            (fun R C => congrFun (harg8.read_unread _) _) hd0 hd1 (k0_off4_inb i) (k0_off1_inb i) n r h d
          refine ft.trans (congrArg (_ + ·) ?_)
          by_cases hn : n = kb i
          · subst hn; rfl
          · rw [if_neg hn, if_neg hn]) R C
      exact hdq
    isplitl [H7]
    · iexists _; isplitr; swap; · iexact H7
      ipureintro
      rw [hz, hy, st_k0_t2.eq_1]
      dsimp only
      generalize arg8.view.writes (Elt Ideal) _ _ = G0
      refine halves9 arg9 _ _ _ _ (fun a b => ?_) (fun a b => ?_) _ _
      · have E := dk0_end Variants.none c (@none Empty) i arg2 harg2 arg3 harg3 arg4 harg4 arg5 harg5 arg6 harg6 arg7 harg7 arg8 harg8 arg9 harg9 arg10 harg10 (runB.sl.v32 i) x0 x1 x2 x3 G0 (runB.sl.r_5 c i arg2 harg2 arg3 harg3 arg4 harg4 arg5 harg5 arg6 harg6 arg7 harg7 x0 x1 x2 x3 x4 x5, runB.sl.r_4 c i arg2 harg2 arg3 harg3 arg4 harg4 arg6 harg6 x0 x1 x2 x4, runB.sl.r_8 c i arg2 harg2 arg3 harg3 arg4 harg4 arg5 harg5 arg6 harg6 arg7 harg7 x0 x1 x2 x3 x4 x5, runB.sl.r_7 c i arg2 harg2 arg3 harg3 arg4 harg4 arg6 harg6 x0 x1 x2 x4) h4 h6 h8 h10 (by dsimp only; exact hk0) a b
        revert E
        generalize st_k0_t1 (F := Ideal) _ _ _ _ _ _ _ _ _ _ _ _ _ _ _ _ _ _ _ _ _ _ _ _ _ _ _ _ _ _ _ _ _ _ = S
        exact fun E => E
      · have E := dk1_end Variants.none c (@none Empty) i arg2 harg2 arg3 harg3 arg4 harg4 arg5 harg5 arg6 harg6 arg7 harg7 arg8 harg8 arg9 harg9 arg10 harg10 (runB.sl.v32 i) x0 x1 x2 x3 G0 (runB.sl.r_5 c i arg2 harg2 arg3 harg3 arg4 harg4 arg5 harg5 arg6 harg6 arg7 harg7 x0 x1 x2 x3 x4 x5, runB.sl.r_4 c i arg2 harg2 arg3 harg3 arg4 harg4 arg6 harg6 x0 x1 x2 x4, runB.sl.r_8 c i arg2 harg2 arg3 harg3 arg4 harg4 arg5 harg5 arg6 harg6 arg7 harg7 x0 x1 x2 x3 x4 x5, runB.sl.r_7 c i arg2 harg2 arg3 harg3 arg4 harg4 arg6 harg6 x0 x1 x2 x4) h4 h6 h8 h10 (by dsimp only; exact hk1) a b
        revert E
        generalize st_k0_t1 (F := Ideal) _ _ _ _ _ _ _ _ _ _ _ _ _ _ _ _ _ _ _ _ _ _ _ _ _ _ _ _ _ _ _ _ _ _ = S
        exact fun E => E
    iexists _; isplitr; swap; · iexact H8
    ipureintro
    rw [hz, hy, st_k0_t2.eq_1]
    dsimp only
    generalize arg8.view.writes (Elt Ideal) _ _ = G0
    refine halves10 arg10 _ _ _ _ (fun a b => ?_) (fun a b => ?_) _ _
    · have E := dv0_end Variants.none c (@none Empty) i arg2 harg2 arg3 harg3 arg4 harg4 arg5 harg5 arg6 harg6 arg7 harg7 arg8 harg8 arg9 harg9 arg10 harg10 (runB.sl.v32 i) x0 x1 x2 x3 G0 (runB.sl.r_5 c i arg2 harg2 arg3 harg3 arg4 harg4 arg5 harg5 arg6 harg6 arg7 harg7 x0 x1 x2 x3 x4 x5, runB.sl.r_4 c i arg2 harg2 arg3 harg3 arg4 harg4 arg6 harg6 x0 x1 x2 x4, runB.sl.r_8 c i arg2 harg2 arg3 harg3 arg4 harg4 arg5 harg5 arg6 harg6 arg7 harg7 x0 x1 x2 x3 x4 x5, runB.sl.r_7 c i arg2 harg2 arg3 harg3 arg4 harg4 arg6 harg6 x0 x1 x2 x4) h4 h6 h8 h10 (by dsimp only; exact hv0) a b
      revert E
      generalize st_k0_t1 (F := Ideal) _ _ _ _ _ _ _ _ _ _ _ _ _ _ _ _ _ _ _ _ _ _ _ _ _ _ _ _ _ _ _ _ _ _ = S
      exact fun E => E
    · have E := dv1_end Variants.none c (@none Empty) i arg2 harg2 arg3 harg3 arg4 harg4 arg5 harg5 arg6 harg6 arg7 harg7 arg8 harg8 arg9 harg9 arg10 harg10 (runB.sl.v32 i) x0 x1 x2 x3 G0 (runB.sl.r_5 c i arg2 harg2 arg3 harg3 arg4 harg4 arg5 harg5 arg6 harg6 arg7 harg7 x0 x1 x2 x3 x4 x5, runB.sl.r_4 c i arg2 harg2 arg3 harg3 arg4 harg4 arg6 harg6 x0 x1 x2 x4, runB.sl.r_8 c i arg2 harg2 arg3 harg3 arg4 harg4 arg5 harg5 arg6 harg6 arg7 harg7 x0 x1 x2 x3 x4 x5, runB.sl.r_7 c i arg2 harg2 arg3 harg3 arg4 harg4 arg6 harg6 x0 x1 x2 x4) h4 h6 h8 h10 (by dsimp only; exact hv1) a b
      revert E
      generalize st_k0_t1 (F := Ideal) _ _ _ _ _ _ _ _ _ _ _ _ _ _ _ _ _ _ _ _ _ _ _ _ _ _ _ _ _ _ _ _ _ _ = S
      exact fun E => E
end Cert.KernelIdeal.Att
end
end
-- ==== Proof.Launch.lean ====
/- The launch: every grid point run in turn. At point `t` the key block is `t % 8` and the pair of heads is `t / 8`;
   the queries' gradient of a pair of heads is summed over its eight key blocks, the two others are whole at each
   point. The module ends with the run of the whole program over these contents and with its frame. -/
module

public import proofs.«01_k».proof.Proof.Run
public import Idealize.ShloMosaic.Lib.Claim

@[expose] public section
set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
local notation "𝕄" => MT nD τ sig Unit (Elt Ideal) ℕ (UR sig nD τ) ℕ

/-- The test for the first key block, by the point's number. -/
theorem hcond0_0 : ∀ t : Fin cfg0.N, cond0_0 (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [cond0_0, e1]
    word_cmp
   : ∀ t : Fin grid0.N, cond0_0 (grid0.coords t) ↔ t.val % 8 = 0)
theorem lt32 (t : Fin cfg0.N) : t.val < 32 := Nat.lt_of_lt_of_eq t.isLt N_0
theorem kb_coords : ∀ t : Fin cfg0.N, (kb (grid0.coords t)).val = t.val % 8 :=
  (fun t => by
    have e1 : (grid0.coords t 1).val = t.val / 1 % 8 := Pipeline.Grid.coords_val t 1 (by decide) rfl
    show (grid0.coords t 1).val = _
    omega : ∀ t : Fin grid0.N, (kb (grid0.coords t)).val = t.val % 8)

abbrev ms0_0 (t : Fin cfg0.N) : Memref sig .tc .vmem S4096x512 .bf16 := win0_0.stage (cfg0.slots t 0)
abbrev ms0_1 (t : Fin cfg0.N) : Memref sig .tc .vmem S4096x256 .bf16 := win0_1.stage (cfg0.slots t 1)
abbrev ms0_2 (t : Fin cfg0.N) : Memref sig .tc .vmem S2x1x4096 .f32 := win0_2.stage (cfg0.slots t 2)
abbrev ms0_3 (t : Fin cfg0.N) : Memref sig .tc .vmem S2x1x4096 .f32 := win0_3.stage (cfg0.slots t 3)
abbrev ms0_4 (t : Fin cfg0.N) : Memref sig .tc .vmem S512x512 .bf16 := win0_4.stage (cfg0.slots t 4)
abbrev ms0_5 (t : Fin cfg0.N) : Memref sig .tc .vmem S512x512 .bf16 := win0_5.stage (cfg0.slots t 5)
abbrev ms0_6 (t : Fin cfg0.N) : Memref sig .tc .vmem S4096x512 .f32 := win0_6.stage (cfg0.slots t 6)
abbrev ms0_7 (t : Fin cfg0.N) : Memref sig .tc .vmem S512x512 .f32 := win0_7.stage (cfg0.slots t 7)
abbrev ms0_8 (t : Fin cfg0.N) : Memref sig .tc .vmem S512x256 .f32 := win0_8.stage (cfg0.slots t 8)

variable (m : (ℓ : Loc nD τ sig) → Buf (Elt Ideal) ℓ) (ρ : Dev nD → PrngReg)

/-- What point `t` adds to the queries' gradient. -/
def addAt (c : Dev nD) (t : Fin cfg0.N) (R : Fin 4096) (C : Fin 512) : EReal :=
  dqAdd (iblk m c 0 t) (iblk m c 1 t) (iblk m c 2 t) (iblk m c 3 t) (iblk m c 4 t) (iblk m c 5 t) (kb (grid0.coords t)) R C
/-- The point of key block `j` in the same pair of heads as `t`. -/
def pt (t : Fin cfg0.N) (j : Fin 8) : Fin cfg0.N := ⟨8 * (t.val / 8) + j.val, Nat.lt_of_lt_of_eq (show _ < 32 by have := lt32 t; omega) N_0.symm⟩
/-- The queries' gradient after point `t`: the key blocks up to its own. -/
def out6 (c : Dev nD) (t : Fin cfg0.N) : FVec Ideal S4096x512 .f32 := fun y => ∑ j : Fin 8, if j.val ≤ t.val % 8 then addAt m c (pt t j) (y 0) (y 1) else 0

theorem pt_self (t : Fin cfg0.N) (j : Fin 8) (h : j.val = t.val % 8) : pt t j = t := Fin.ext (by show 8 * (t.val / 8) + j.val = t.val; omega)

/-- After the first key block. -/
theorem out6_first (c : Dev nD) (t : Fin cfg0.N) (h : t.val % 8 = 0) : out6 m c t = fun y => addAt m c t (y 0) (y 1) := by
  funext y
  unfold out6
  rw [Finset.sum_eq_single (0 : Fin 8)]
  · rw [if_pos (show (0 : Fin 8).val ≤ t.val % 8 from Nat.zero_le _), pt_self t 0 (by rw [h]; rfl)]
  · intro j _ hj
    rw [if_neg]
    intro hle
    exact hj (Fin.ext (by show j.val = 0; omega))
  · intro h; exact absurd (Finset.mem_univ _) h

/-- After a later one: one summand more than at the point before. -/
theorem out6_next (c : Dev nD) (t : Fin cfg0.N) (h : ¬ t.val % 8 = 0) (hp : t.val - 1 < cfg0.N) :
    out6 m c t = fun y => out6 m c ⟨t.val - 1, hp⟩ y + addAt m c t (y 0) (y 1) := by
  funext y
  have hj : t.val % 8 < 8 := Nat.mod_lt _ (by decide)
  have key : ∀ j : Fin 8, (if j.val ≤ t.val % 8 then addAt m c (pt t j) (y 0) (y 1) else 0)
      = (if j.val ≤ (t.val - 1) % 8 then addAt m c (pt ⟨t.val - 1, hp⟩ j) (y 0) (y 1) else 0)
        + (if j = ⟨t.val % 8, hj⟩ then addAt m c t (y 0) (y 1) else 0) := by
    intro j
    have e : pt ⟨t.val - 1, hp⟩ j = pt t j := Fin.ext (by show 8 * ((t.val - 1) / 8) + j.val = 8 * (t.val / 8) + j.val; omega)
    rw [e]
    rcases lt_trichotomy j.val (t.val % 8) with hl | he | hg
    · rw [if_pos (by omega), if_pos (by omega), if_neg (fun q => by rw [q] at hl; exact absurd hl (by simp)), add_zero]
    · rw [if_pos (by omega), if_neg (by omega), if_pos (Fin.ext he), pt_self t j he, zero_add]
    · rw [if_neg (by omega), if_neg (by omega), if_neg (fun q => by rw [q] at hg; exact absurd hg (by simp)), add_zero]
  show (∑ j : Fin 8, _) = (∑ j : Fin 8, _) + _
  rw [Finset.sum_congr rfl fun j _ => key j, Finset.sum_add_distrib, Finset.sum_ite_eq' Finset.univ, if_pos (Finset.mem_univ _)]

/-- What each buffer holds point by point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => dkOut (iblk m c 0 t) (iblk m c 1 t) (iblk m c 2 t) (iblk m c 3 t) (iblk m c 4 t) (iblk m c 5 t) (kb (grid0.coords t))
    | ⟨8, _⟩ => dvOut (iblk m c 0 t) (iblk m c 1 t) (iblk m c 2 t) (iblk m c 4 t) (kb (grid0.coords t))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = dkOut (iblk m c 0 t) (iblk m c 1 t) (iblk m c 2 t) (iblk m c 3 t) (iblk m c 4 t) (iblk m c 5 t) (kb (grid0.coords t)) := by dsimp only [dats]
theorem after0_8 (c : Dev nD) (t : Fin cfg0.N) : (dats m 0 c).after 8 t = dvOut (iblk m c 0 t) (iblk m c 1 t) (iblk m c 2 t) (iblk m c 4 t) (kb (grid0.coords t)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
/-- Past the first key block the queries' gradient is what the point before left. -/
theorem before0_6 (c : Dev nD) (t : Fin cfg0.N) (h : ¬ t.val % 8 = 0) (d) :
    (dats m 0 c).before 6 t d = out6 m c ⟨t.val - 1, Nat.lt_of_le_of_lt (Nat.sub_le _ _) t.isLt⟩ :=
  ((dats m 0 c).before_out_kept 6 rfl t (by omega) (Bool.eq_false_iff.mpr fun hf => by
    have := (flush0_6 _).mp hf
    have h2 : (t.val - 1) % 8 = 7 := this
    omega) (fun _ => rfl) (fun _ _ => rfl) d).trans (after0_6 m c _)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 8 = 0
  · rw [out6_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_6 m c t h0]
    rw [out6_next m c t h0 (Nat.lt_of_le_of_lt (Nat.sub_le _ _) t.isLt)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (out6 m c ⟨t.val - 1, Nat.lt_of_le_of_lt (Nat.sub_le _ _) t.isLt⟩)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The whole program runs, and ends with each array at what the points left in it. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Att
end
end
-- ==== Proof.Spec.lean ====
/- The mathematics of causal attention's gradient over the real numbers: the scores of a query against the keys up to
   its own position, their softmax weights, and the gradients with respect to queries, keys and values. -/
module

public import Idealize.ShloMosaic.Lib.Pointwise
public import Idealize.ShloMosaic.Lib.Pipeline.ValueKit
public import Idealize.ShloMosaic.Lib.WordCmp

@[expose] public section
noncomputable section
namespace Cert.AttSpec
open Idealize.ShloMosaic

/-- The scale of the scores: the number the program's constant stands for. -/
def cs : ℝ := (Ideal.ofBits .f32 0x3D93CD3A#32).toReal

theorem cs_eq : Ideal.ofBits .f32 0x3D93CD3A#32 = ((cs : ℝ) : EReal) := by
  unfold cs
  refine (EReal.coe_toReal ?_ ?_).symm <;> simp [Ideal.ofBits, Ideal.ieee]
  · rw [← EReal.coe_mul]; exact EReal.coe_ne_top _
  · rw [← EReal.coe_mul]; exact EReal.coe_ne_bot _

/-- The pattern of minus infinity. -/
theorem ninf : Ideal.ofBits .f32 0xFF800000#32 = ⊥ := by simp [Ideal.ofBits, Ideal.ieee]

/-- The pattern of one. -/
theorem one_f32 : Ideal.ofBits .f32 0x3F800000#32 = 1 := by
  simp [Ideal.ofBits, Ideal.ieee]
  rw [← EReal.coe_mul, ← EReal.coe_one]
  norm_num

/-- Two positions compared as words. -/
theorem sle_word (K R : Fin 4096) :
    IntOp.cmpi CmpIPredicate.sle (BitVec.ofNat 32 K.val) (BitVec.ofNat 32 R.val) = if K ≤ R then 1#1 else 0#1 := by
  have hK := K.isLt
  have hR := R.isLt
  rw [WordCmp.cmpi_sle_ofNat (by omega) (by omega)]
  by_cases h : K ≤ R
  · rw [if_pos h, decide_eq_true (show K.val ≤ R.val from h)]; rfl
  · rw [if_neg h, decide_eq_false (show ¬ K.val ≤ R.val from h)]; rfl

variable (q k : Fin 4096 → Fin 8 → Fin 192 → ℝ) (v o : Fin 4096 → Fin 8 → Fin 128 → ℝ)

/-- A scaled query. -/
def qs (R : Fin 4096) (H : Fin 8) (d : Fin 192) : ℝ := q R H d * cs
/-- A score: a scaled query against a key. -/
def sc (H : Fin 8) (R K : Fin 4096) : ℝ := ∑ d, qs q R H d * k K H d
/-- The weight of a key before it is divided by the row's total. -/
def un (H : Fin 8) (R K : Fin 4096) : ℝ := if K ≤ R then Real.exp (sc q k H R K) else 0
/-- A row's total. -/
def tot (H : Fin 8) (R : Fin 4096) : ℝ := ∑ K, un q k H R K
/-- The softmax weight of a key. -/
def wgt (H : Fin 8) (R K : Fin 4096) : ℝ := un q k H R K / tot q k H R
/-- The gradient with respect to a weight: an output gradient against a value. -/
def dp (H : Fin 8) (R K : Fin 4096) : ℝ := ∑ d, o R H d * v K H d
/-- The mean of those gradients over a row. -/
def mean (H : Fin 8) (R : Fin 4096) : ℝ := ∑ K, wgt q k H R K * dp v o H R K
/-- The gradient with respect to a score. -/
def grad (H : Fin 8) (R K : Fin 4096) : ℝ := wgt q k H R K * (dp v o H R K - mean q k v o H R)
/-- The gradient with respect to the scaled queries. -/
def dq (R : Fin 4096) (H : Fin 8) (d : Fin 192) : ℝ := ∑ K, grad q k v o H R K * k K H d
/-- The gradient with respect to the keys. -/
def dk (K : Fin 4096) (H : Fin 8) (d : Fin 192) : ℝ := ∑ R, grad q k v o H R K * qs q R H d
/-- The gradient with respect to the values. -/
def dv (K : Fin 4096) (H : Fin 8) (d : Fin 128) : ℝ := ∑ R, wgt q k H R K * o R H d

theorem un_nonneg (H : Fin 8) (R K : Fin 4096) : 0 ≤ un q k H R K := by
  unfold un; split <;> [exact (Real.exp_pos _).le; exact le_rfl]

theorem tot_pos (H : Fin 8) (R : Fin 4096) : 0 < tot q k H R :=
  lt_of_lt_of_le (by simp only [un, le_refl, if_true]; exact Real.exp_pos _ : 0 < un q k H R R)
    (Finset.single_le_sum (fun K _ => un_nonneg q k H R K) (Finset.mem_univ R))

/-- A key's weight before division, shifted by `μ`. -/
def sh (μ : ℝ) (H : Fin 8) (R K : Fin 4096) : ℝ := if K ≤ R then Real.exp (sc q k H R K - μ) else 0

theorem sh_eq (μ : ℝ) (H : Fin 8) (R K : Fin 4096) : sh q k μ H R K = un q k H R K * Real.exp (-μ) := by
  unfold sh un; split
  · rw [sub_eq_add_neg, Real.exp_add]
  · rw [zero_mul]

theorem sum_sh (μ : ℝ) (H : Fin 8) (R : Fin 4096) : ∑ K, sh q k μ H R K = tot q k H R * Real.exp (-μ) := by
  simp only [sh_eq, tot, Finset.sum_mul]

theorem sum_sh_pos (μ : ℝ) (H : Fin 8) (R : Fin 4096) : 0 < ∑ K, sh q k μ H R K := by
  rw [sum_sh]; exact mul_pos (tot_pos q k H R) (Real.exp_pos _)

/-- A shifted weight over the shifted total is the softmax weight. -/
theorem sh_div (μ : ℝ) (H : Fin 8) (R K : Fin 4096) :
    sh q k μ H R K * (1 / ∑ K, sh q k μ H R K) = wgt q k H R K := by
  rw [sum_sh, sh_eq, wgt]
  have h1 := (tot_pos q k H R).ne'
  have h2 := (Real.exp_pos (-μ)).ne'
  field_simp

/-- The exponential of a score less the logarithm of the row's total is the softmax weight. -/
theorem exp_lse (μ : ℝ) (H : Fin 8) (R K : Fin 4096) :
    (if K ≤ R then Real.exp (sc q k H R K - (μ + Real.log (∑ K, sh q k μ H R K))) else 0) = wgt q k H R K := by
  rw [← sh_div q k μ]
  have hL := sum_sh_pos q k μ H R
  generalize (∑ K : Fin 4096, sh q k μ H R K) = L at hL ⊢
  unfold sh; split
  · rw [← sub_sub, Real.exp_sub, Real.exp_log hL, one_div, div_eq_mul_inv]
  · rw [zero_mul]

/-- The gradient with respect to a score, as the derivative of a quotient is written. -/
theorem grad_quot (μ : ℝ) (H : Fin 8) (R K : Fin 4096) :
    (dp v o H R K * (1 / ∑ K, sh q k μ H R K)
      + -(∑ K, dp v o H R K * (1 / ((∑ K, sh q k μ H R K) * ∑ K, sh q k μ H R K)) * sh q k μ H R K)) * sh q k μ H R K
      = grad q k v o H R K := by
  have hL := (sum_sh_pos q k μ H R).ne'
  have hw : ∀ K, wgt q k H R K = sh q k μ H R K * (1 / ∑ K : Fin 4096, sh q k μ H R K) := fun K => (sh_div q k μ H R K).symm
  simp only [grad, mean, hw]
  generalize (∑ K : Fin 4096, sh q k μ H R K) = L at hL ⊢
  have e : ∑ K, dp v o H R K * (1 / (L * L)) * sh q k μ H R K
      = (1 / L) * ∑ K, sh q k μ H R K * (1 / L) * dp v o H R K := by
    rw [Finset.mul_sum]
    refine Finset.sum_congr rfl fun K' _ => ?_
    field_simp
  rw [e]
  ring

/-- The mean of the weights' gradients, read off the output. -/
theorem mean_out (H : Fin 8) (R : Fin 4096) :
    ∑ d, o R H d * ∑ K, v K H d * wgt q k H R K = mean q k v o H R := by
  simp only [mean, dp, Finset.mul_sum]
  rw [Finset.sum_comm]
  exact Finset.sum_congr rfl fun K _ => Finset.sum_congr rfl fun d _ => by ring

/-- A sum of real numbers in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A greatest value over a finite set, none of them `⊤` and one of them real, is real. -/
theorem fold_max_real {ι : Type} (s : Finset ι) (f : ι → EReal) (hf : ∀ i ∈ s, f i ≠ ⊤) (a : ι) (ha : a ∈ s)
    (hb : f a ≠ ⊥) : ∃ r : ℝ, s.fold max ⊥ f = (r : EReal) := by
  have h1 : s.fold max ⊥ f ≠ ⊤ := by
    intro h
    have : s.fold max ⊥ f < ⊤ := (Finset.fold_max_lt _).mpr ⟨bot_lt_top, fun i hi => lt_top_iff_ne_top.mpr (hf i hi)⟩
    exact this.ne h
  have h2 : s.fold max ⊥ f ≠ ⊥ := by
    intro h
    have : f a ≤ s.fold max ⊥ f := (Finset.le_fold_max _).mpr (Or.inr ⟨a, ha, le_rfl⟩)
    rw [h] at this
    exact hb (le_bot_iff.mp this)
  exact ⟨_, (EReal.coe_toReal h1 h2).symm⟩

/-- The same for an operation that is the greater of two values, from a start that is `⊥`. -/
theorem fold_op_real {ι : Type} (s : Finset ι) (f : ι → EReal) (op : EReal → EReal → EReal) [Std.Commutative op]
    [Std.Associative op] (hop : ∀ x y, op x y = max x y) (b : EReal) (h0 : b = ⊥) (hf : ∀ i ∈ s, f i ≠ ⊤) (a : ι)
    (ha : a ∈ s) (hb : f a ≠ ⊥) : ∃ r : ℝ, s.fold op b f = (r : EReal) := by
  obtain rfl : op = max := funext fun x => funext fun y => hop x y
  subst h0
  exact fold_max_real s f hf a ha hb

/-- A row of 192 numbers with 64 zeros after it. -/
def padE (f : Fin 192 → ℝ) (d : Fin 256) : ℝ := if h : d.val < 192 then f ⟨d.val, h⟩ else 0
/-- A product of two padded rows is the rows' own. -/
theorem sum_padE (f g : Fin 192 → ℝ) : ∑ d, padE f d * padE g d = ∑ d, f d * g d := by
  rw [show (∑ d : Fin 256, padE f d * padE g d) = ∑ d : Fin (192 + 64), padE f d * padE g d from rfl, Fin.sum_univ_add]
  have h1 : ∀ d : Fin 192, padE f (Fin.castAdd 64 d) * padE g (Fin.castAdd 64 d) = f d * g d := by
    intro d
    unfold padE
    rw [dif_pos (show (Fin.castAdd 64 d).val < 192 from d.isLt), dif_pos (show (Fin.castAdd 64 d).val < 192 from d.isLt)]
    rfl
  have h2 : ∀ d : Fin 64, padE f (Fin.natAdd 192 d) * padE g (Fin.natAdd 192 d) = 0 := by
    intro d
    unfold padE
    rw [dif_neg (show ¬ (Fin.natAdd 192 d).val < 192 by simp), zero_mul]
  rw [Finset.sum_congr rfl fun d _ => h1 d, Finset.sum_congr rfl fun d _ => h2 d, Finset.sum_const_zero, add_zero]
/-- A sum of padded rows is the padded sum. -/
theorem padE_sum {n : ℕ} (g : Fin n → ℝ) (f : Fin n → Fin 192 → ℝ) (d : Fin 256) :
    padE (fun d => ∑ K, g K * f K d) d = ∑ K, g K * padE (f K) d := by
  unfold padE
  split
  · rfl
  · simp
/-- Column `d` of head `H`, each head 256 columns wide. -/
def wide (H : Fin 8) (d : Fin 256) : Fin 2048 := ⟨256 * H.val + d.val, by omega⟩
/-- Column `d` of head `H`, each head 128 columns wide. -/
def slim (H : Fin 8) (d : Fin 128) : Fin 1024 := ⟨128 * H.val + d.val, by omega⟩
theorem exists_wide (C : Fin 2048) : ∃ H d, C = wide H d :=
  ⟨⟨C.val / 256, by omega⟩, ⟨C.val % 256, by omega⟩, Fin.ext (by simp only [wide]; omega)⟩
theorem exists_slim (C : Fin 1024) : ∃ H d, C = slim H d :=
  ⟨⟨C.val / 128, by omega⟩, ⟨C.val % 128, by omega⟩, Fin.ext (by simp only [slim]; omega)⟩

end Cert.AttSpec
-- ==== Proof.HostSoft.lean ====
/- The operations before the kernel's launch up to their softmax weights: each stage at an index, over real arguments. -/
module

public import proofs.«01_k».proof.Proof.Spec
public import proofs.«01_k».proof.Proof.Gen.KernelIdeal

@[expose] public section
set_option maxRecDepth 16384
noncomputable section
namespace Cert.KernelIdeal.Att
open Idealize.ShloMosaic Idealize.ShloMosaic.TcCoe Idealize.ShloMosaic.Tactic
open Cert.AttSpec
open Cert.KernelIdeal Cert.KernelIdeal.Gen

/-- The four arguments, as arrays of real numbers. -/
abbrev aq (q : Fin 4096 → Fin 8 → Fin 192 → ℝ) : FVec Ideal S4096x8x192 .f32 := fun i => ((q (i 0) (i 1) (i 2) : ℝ) : EReal)
abbrev av (v : Fin 4096 → Fin 8 → Fin 128 → ℝ) : FVec Ideal S4096x8x128 .f32 := fun i => ((v (i 0) (i 1) (i 2) : ℝ) : EReal)

variable (x0 x1 : FVec Ideal S4096x8x192 .f32)
variable (q k : Fin 4096 → Fin 8 → Fin 192 → ℝ) (v o : Fin 4096 → Fin 8 → Fin 128 → ℝ)

/-- The scaled queries. -/
def tQS : FVec Ideal S4096x8x192 .f32 := mulf x0 (broadcastInDim S4096x8x192 ![] bcast_S_S4096x8x192 (constant S_ .f32 0x3D93CD3A#32))
theorem tQS_at (R : Fin 4096) (H : Fin 8) (d : Fin 192) : tQS (aq q) (ix3 R H d) = ((qs q R H d : ℝ) : EReal) := by
  unfold tQS
  pointwise
  rw [cs_eq, ← EReal.coe_mul]
  rfl

/-- The scores. -/
def tSC : FVec Ideal S8x4096x4096 .f32 := Host.dotGeneral dot_S4096x8x192_S4096x8x192_S8x4096x4096_2_2_0_0_1_1 none (tQS x0) x1
theorem tSC_at (H : Fin 8) (R K : Fin 4096) : tSC (aq q) (aq k) (ix3 H R K) = ((sc q k H R K : ℝ) : EReal) := by
  unfold tSC
  pointwise
  simp only [tQS_at, ← EReal.coe_mul, ← coe_sum, zero_add]
  rfl

/-- Which keys a query sees. -/
def tMK : IVec S8x4096x4096 1 := broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
theorem tMK_at (H : Fin 8) (R K : Fin 4096) : tMK (ix3 H R K) = if K ≤ R then 1#1 else 0#1 := by
  unfold tMK
  pointwise
  exact sle_word K R

/-- The scores with the keys a query does not see at minus infinity. -/
def tSM : FVec Ideal S8x4096x4096 .f32 := select tMK (tSC x0 x1) (broadcastInDim S8x4096x4096 ![] bcast_S_S8x4096x4096 (id (constant S_ .f32 0xFF800000#32)))
theorem tSM_at (H : Fin 8) (R K : Fin 4096) : tSM (aq q) (aq k) (ix3 H R K) = if K ≤ R then ((sc q k H R K : ℝ) : EReal) else ⊥ := by
  unfold tSM
  pointwise [id]
  rw [tMK_at, tSC_at, ninf]
  split <;> rfl

/-- Each row's greatest score. -/
def tMX : FVec Ideal S8x4096 .f32 := Host.reduce FloatOps.maximumf (tSM x0 x1) (constant S_ .f32 0xFF800000#32) reducesTo_S8x4096x4096_S8x4096_d2 h_S_
theorem tMX_real (H : Fin 8) (R : Fin 4096) : ∃ μ : ℝ, tMX (aq q) (aq k) (ix2 H R) = (μ : EReal) := by
  unfold tMX
  pointwise
  refine fold_op_real _ _ _ ?_ _ ?_ ?_ R (Finset.mem_univ R) ?_
  · exact fun _ _ => rfl
  · exact ninf
  · intro K _
    rw [tSM_at]; split <;> simp
  · rw [tSM_at]; simp
/-- That score, a real number. -/
def mx (H : Fin 8) (R : Fin 4096) : ℝ := (tMX_real q k H R).choose
theorem tMX_at (H : Fin 8) (R : Fin 4096) : tMX (aq q) (aq k) (ix2 H R) = ((mx q k H R : ℝ) : EReal) := (tMX_real q k H R).choose_spec

/-- The exponentials of the scores less their row's greatest. -/
def tEX : FVec Ideal S8x4096x4096 .f32 := Host.exp (subf (tSM x0 x1) (broadcastInDim S8x4096x4096 ![0, 1, 2] bcast_S8x4096x1_S8x4096x4096_0_1_2 (broadcastInDim S8x4096x1 ![0, 1] bcast_S8x4096_S8x4096x1_0_1 (tMX x0 x1))))
theorem tEX_at (H : Fin 8) (R K : Fin 4096) : tEX (aq q) (aq k) (ix3 H R K) = ((sh q k (mx q k H R) H R K : ℝ) : EReal) := by
  unfold tEX
  pointwise
  rw [tSM_at, tMX_at, sh]
  split
  · rw [← EReal.coe_sub, Ideal.exp_coe]
  · rw [sub_eq_add_neg, EReal.bot_add, Ideal.exp_bot]; rfl

/-- Each row's total. -/
def tL : FVec Ideal S8x4096 .f32 := Host.reduceAdd (tEX x0 x1) (constant S_ .f32 0x00000000#32) reducesTo_S8x4096x4096_S8x4096_d2 h_S_
theorem tL_at (H : Fin 8) (R : Fin 4096) : tL (aq q) (aq k) (ix2 H R) = ((∑ K, sh q k (mx q k H R) H R K : ℝ) : EReal) := by
  unfold tL
  pointwise
  simp only [tEX_at, ← coe_sum, zero_add]

/-- The softmax weights. -/
def tW : FVec Ideal S8x4096x4096 .f32 := Host.divf (tEX x0 x1) (broadcastInDim S8x4096x4096 ![0, 1, 2] bcast_S8x4096x1_S8x4096x4096_0_1_2 (broadcastInDim S8x4096x1 ![0, 1] bcast_S8x4096_S8x4096x1_0_1 (tL x0 x1)))
theorem tW_at (H : Fin 8) (R K : Fin 4096) : tW (aq q) (aq k) (ix3 H R K) = ((wgt q k H R K : ℝ) : EReal) := by
  unfold tW
  pointwise
  rw [tEX_at, tL_at, Ideal.div_coe (sum_sh_pos q k _ H R).ne', ← EReal.coe_mul, sh_div]

end Cert.KernelIdeal.Att
-- ==== Proof.HostVals.lean ====
/- What the kernel's launch finds in its six operands, at an index, over real arguments: the padded queries and keys,
   the values beside a column block of ones, the output's gradient, each row's logarithm of its total, and each row's
   mean of the weights' gradients. -/
module

public import proofs.«01_k».proof.Proof.HostSoft
public import Idealize.ShloMosaic.Lib.StableHlo.RunRead
public import proofs.«01_k».proof.Proof.Gen.KernelIdeal.Frame

@[expose] public section
set_option maxRecDepth 16384
noncomputable section
namespace Cert.KernelIdeal.Att
open Idealize.ShloMosaic Idealize.ShloMosaic.TcCoe Idealize.ShloMosaic.Tactic
open Cert.AttSpec
open Cert.KernelIdeal Cert.KernelIdeal.Gen

variable (x0 x1 : FVec Ideal S4096x8x192 .f32) (x2 x3 : FVec Ideal S4096x8x128 .f32)
variable (q k : Fin 4096 → Fin 8 → Fin 192 → ℝ) (v o : Fin 4096 → Fin 8 → Fin 128 → ℝ)

/-- Each row's greatest score plus the logarithm of its total. -/
def tLSE : FVec Ideal S8x4096x1 .f32 := addf (broadcastInDim S8x4096x1 ![0, 1] bcast_S8x4096_S8x4096x1_0_1 (tMX x0 x1)) (Host.log (broadcastInDim S8x4096x1 ![0, 1] bcast_S8x4096_S8x4096x1_0_1 (tL x0 x1)))
theorem addlog_at (x y : FVec Ideal S8x4096 .f32) (H : Fin 8) (R : Fin 4096) (z : Fin 1) :
    (addf (broadcastInDim S8x4096x1 ![0, 1] bcast_S8x4096_S8x4096x1_0_1 x) (Host.log (broadcastInDim S8x4096x1 ![0, 1] bcast_S8x4096_S8x4096x1_0_1 y)) : FVec Ideal S8x4096x1 .f32) (ix3 H R z)
      = x (ix2 H R) + Ideal.log (y (ix2 H R)) := by
  pointwise
theorem tLSE_at (H : Fin 8) (R : Fin 4096) (z : Fin 1) : tLSE (aq q) (aq k) (ix3 H R z)
    = ((mx q k H R + Real.log (∑ K, sh q k (mx q k H R) H R K) : ℝ) : EReal) := by
  unfold tLSE
  rw [addlog_at, tMX_at, tL_at, Ideal.log_coe, if_neg (not_le.mpr (sum_sh_pos q k _ H R)), EReal.coe_add]
/-- The same, a row of 4096 for each head. -/
def tLR : FVec Ideal S8x1x4096 .f32 := shapeCast _ (tLSE x0 x1) shapeCasts_S8x4096x1_S8x1x4096
theorem tLR_at (H : Fin 8) (z : Fin 1) (R : Fin 4096) : tLR (aq q) (aq k) (ix3 H z R)
    = ((mx q k H R + Real.log (∑ K, sh q k (mx q k H R) H R K) : ℝ) : EReal) := by
  have e : ∀ x : FVec Ideal S8x4096x1 .f32, (shapeCast S8x1x4096 x shapeCasts_S8x4096x1_S8x1x4096 : FVec Ideal S8x1x4096 .f32) (ix3 H z R) = x (ix3 H R z) := by
    intro x
    pointwise
    rw [Subsingleton.elim z 0]
  unfold tLR
  rw [e, tLSE_at]

/-- The attention's output, heads second. -/
def tOUT : FVec Ideal S4096x8x128 .f32 := transpose S4096x8x128 [2, 0, 1] (Host.dotGeneral dot_S4096x8x128_S8x4096x4096_S8x128x4096_0_2_2_1_1_0 none x2 (tW x0 x1)) transposes_S8x128x4096_S4096x8x128_2_0_1
theorem tOUT_at (R : Fin 4096) (H : Fin 8) (d : Fin 128) : tOUT (aq q) (aq k) (av v) (ix3 R H d) = ((∑ K, v K H d * wgt q k H R K : ℝ) : EReal) := by
  unfold tOUT
  pointwise
  simp only [tW_at, ← EReal.coe_mul, ← coe_sum, zero_add]
  rfl
/-- The output against its gradient, summed over a head. -/
def tDL : FVec Ideal S4096x8 .f32 := Host.reduceAdd (mulf x3 (tOUT x0 x1 x2)) (constant S_ .f32 0x00000000#32) reducesTo_S4096x8x128_S4096x8_d2 h_S_
theorem tDL_at (R : Fin 4096) (H : Fin 8) : tDL (aq q) (aq k) (av v) (av o) (ix2 R H) = ((mean q k v o H R : ℝ) : EReal) := by
  unfold tDL
  pointwise
  simp only [tOUT_at, ← EReal.coe_mul, ← coe_sum, zero_add]
  exact congrArg _ (mean_out q k v o H R)
/-- The same, a row of 4096 for each head. -/
def tDR : FVec Ideal S8x1x4096 .f32 := shapeCast _ (transpose S8x4096 [1, 0] (tDL x0 x1 x2 x3) transposes_S4096x8_S8x4096_1_0) shapeCasts_S8x4096_S8x1x4096
theorem tDR_at (H : Fin 8) (z : Fin 1) (R : Fin 4096) : tDR (aq q) (aq k) (av v) (av o) (ix3 H z R) = ((mean q k v o H R : ℝ) : EReal) := by
  have e : ∀ x : FVec Ideal S4096x8 .f32, (shapeCast S8x1x4096 (transpose S8x4096 [1, 0] x transposes_S4096x8_S8x4096_1_0) shapeCasts_S8x4096_S8x1x4096 : FVec Ideal S8x1x4096 .f32) (ix3 H z R) = x (ix2 R H) := by
    intro x
    pointwise
  unfold tDR
  rw [e, tDL_at]

/-- Padded with zeros to 256 columns a head, laid out head after head. -/
def tWide (x : FVec Ideal S4096x8x192 .f32) : FVec Ideal S4096x2048 .bf16 := truncf .bf16 (shapeCast S4096x2048 (concatenate S4096x8x256 2 [⟨S4096x8x192, x⟩, ⟨S4096x8x64, broadcastInDim S4096x8x64 ![] bcast_S_S4096x8x64 (constant S_ .f32 0x00000000#32)⟩] concatenates_S4096x8x192_S4096x8x64_S4096x8x256_d2) shapeCasts_S4096x8x256_S4096x2048) bitsLt_bf16_f32
theorem tWide_at (x : FVec Ideal S4096x8x192 .f32) (f : Fin 4096 → Fin 8 → Fin 192 → ℝ) (hx : ∀ R H d, x (ix3 R H d) = ((f R H d : ℝ) : EReal))
    (R : Fin 4096) (H : Fin 8) (d : Fin 256) : tWide x (ix2 R (wide H d)) = ((padE (f R H) d : ℝ) : EReal) := by
  unfold tWide
  pointwise
  have e1 : (wide H d).val / 256 = H.val := by simp only [wide]; omega
  have e2 : (wide H d).val % 256 = d.val := by simp only [wide]; omega
  unfold padE
  have key : ∀ (a : Fin 8) (b : Fin 192), a = H → b.val = d.val →
      x (ix3 R a b) = ((if h : d.val < 192 then f R H ⟨d.val, h⟩ else 0 : ℝ) : EReal) := by
    rintro a b rfl hb
    have h : d.val < 192 := hb ▸ b.isLt
    obtain rfl : b = ⟨d.val, h⟩ := Fin.ext hb
    rw [dif_pos h, hx]
  split
  · exact key _ _ (Fin.ext e1) e2
  · next h' => rw [dif_neg (fun h => h' (by rw [e2]; exact h))]; rfl
/-- The values, each head beside 128 columns of ones. -/
def tVX : FVec Ideal S4096x2048 .bf16 := truncf .bf16 (shapeCast S4096x2048 (concatenate S4096x8x256 2 [⟨S4096x8x128, x2⟩, ⟨S4096x8x128, broadcastInDim S4096x8x128 ![] bcast_S_S4096x8x128 (constant S_ .f32 0x3F800000#32)⟩] concatenates_S4096x8x128_S4096x8x128_S4096x8x256_d2) shapeCasts_S4096x8x256_S4096x2048) bitsLt_bf16_f32
theorem tVX_at (K : Fin 4096) (H : Fin 8) (d : Fin 128) : tVX x2 (ix2 K (wide H ⟨d.val, by omega⟩)) = x2 (ix3 K H d) := by
  unfold tVX
  pointwise
  have hd := d.isLt
  have e1 : (wide H ⟨d.val, by omega⟩).val / 256 = H.val := by simp only [wide]; omega
  have e2 : (wide H ⟨d.val, by omega⟩).val % 256 = d.val := by simp only [wide]; omega
  have key : ∀ (a : Fin 8) (b : Fin 128), a = H → b = d → x2 (ix3 K a b) = x2 (ix3 K H d) := by rintro a b rfl rfl; rfl
  split
  · exact key _ _ (Fin.ext e1) (Fin.ext e2)
  · next h' => exact absurd (by rw [e2]; exact hd) h'
/-- The output's gradient, laid out head after head. -/
def tDO : FVec Ideal S4096x1024 .bf16 := truncf .bf16 (shapeCast S4096x1024 x3 shapeCasts_S4096x8x128_S4096x1024) bitsLt_bf16_f32
theorem tDO_at (R : Fin 4096) (H : Fin 8) (d : Fin 128) : tDO x3 (ix2 R (slim H d)) = x3 (ix3 R H d) := by
  unfold tDO
  pointwise
  have e1 : (slim H d).val / 128 = H.val := by simp only [slim]; omega
  have e2 : (slim H d).val % 128 = d.val := by simp only [slim]; omega
  have key : ∀ (a : Fin 8) (b : Fin 128), a = H → b = d → x3 (ix3 R a b) = x3 (ix3 R H d) := by rintro a b rfl rfl; rfl
  exact key _ _ (Fin.ext e1) (Fin.ext e2)

variable (m : (ℓ : Loc nD τ sig) → Buf (Elt Ideal) ℓ) (c : Dev nD)
theorem V_q : V m c main_v33 = tWide (tQS (m ((c : Thread nD τ).loc main_arg0))) := by
  after_reads_simp
  rfl
theorem V_k : V m c main_v37 = tWide (m ((c : Thread nD τ).loc main_arg1)) := by
  after_reads_simp
  rfl
theorem V_vx : V m c main_v29 = tVX (m ((c : Thread nD τ).loc main_arg2)) := by
  after_reads_simp
  rfl
theorem V_do : V m c main_v39 = tDO (m ((c : Thread nD τ).loc main_arg3)) := by
  after_reads_simp
  rfl
theorem V_lse : V m c main_v40 = tLR (m ((c : Thread nD τ).loc main_arg0)) (m ((c : Thread nD τ).loc main_arg1)) := by
  after_reads_simp
  rfl
theorem V_delta : V m c main_v42 = tDR (m ((c : Thread nD τ).loc main_arg0)) (m ((c : Thread nD τ).loc main_arg1)) (m ((c : Thread nD τ).loc main_arg2)) (m ((c : Thread nD τ).loc main_arg3)) := by
  after_reads_simp
  rfl

end Cert.KernelIdeal.Att
-- ==== Proof.Operands.lean ====
/- The kernel's operand blocks at a grid point: each window's block read off its array, and its numbers over real
   arguments. -/
module

public import proofs.«01_k».proof.Proof.Launch
public import proofs.«01_k».proof.Proof.HostVals
public import Idealize.ShloMosaic.Lib.Claim

@[expose] public section
set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Cert.AttSpec
local notation "𝕄" => MT nD τ sig Unit (Elt Ideal) ℕ (UR sig nD τ) ℕ

variable (m : (ℓ : Loc nD τ sig) → Buf (Elt Ideal) ℓ) (c : Dev nD)
variable (q k : Fin 4096 → Fin 8 → Fin 192 → ℝ) (v o : Fin 4096 → Fin 8 → Fin 128 → ℝ)

/-- The windows' block numbers at a point. -/
theorem idx : ∀ t : Fin cfg0.N, win0_0.index t = ![0, t.val / 8] ∧ win0_1.index t = ![0, t.val / 8] ∧ win0_2.index t = ![t.val / 8, 0, 0]
    ∧ win0_3.index t = ![t.val / 8, 0, 0] ∧ win0_4.index t = ![t.val % 8, t.val / 8] ∧ win0_5.index t = ![t.val % 8, t.val / 8]
    ∧ win0_6.index t = ![0, t.val / 8] ∧ win0_7.index t = ![t.val % 8, t.val / 8] ∧ win0_8.index t = ![t.val % 8, t.val / 8] :=
  (by decide +kernel : ∀ t : Fin grid0.N, _)

/-- The head of a half of a point's pair. -/
def head (t : Fin cfg0.N) (h : Fin 2) : Fin 8 := ⟨2 * (t.val / 8) + h.val, by have := lt32 t; omega⟩
/-- A point's key block. -/
def blkK (t : Fin cfg0.N) : Fin 8 := ⟨t.val % 8, by omega⟩
theorem kb_eq (t : Fin cfg0.N) : kb (grid0.coords t) = blkK t := Fin.ext (kb_coords t)

theorem rd0 (t : Fin cfg0.N) (R : Fin 4096) (h : Fin 2) (d : Fin 256) (X : Buf (Elt Ideal) ((c : Thread nD τ).loc main_v33)) :
    ((cfg0.win 0).blk t).view.read (Elt Ideal) X (ix2 R (col h d)) = X (ix2 R (wide (head t h) d)) := by
  blk_ext [idx t, col, wide, head]
theorem blk0 (t : Fin cfg0.N) (R : Fin 4096) (h : Fin 2) (d : Fin 256) : iblk m c 0 t (ix2 R (col h d)) = V m c main_v33 (ix2 R (wide (head t h) d)) := by
  unfold iblk
  exact rd0 c t R h d _
theorem rd1 (t : Fin cfg0.N) (R : Fin 4096) (h : Fin 2) (d : Fin 128) (X : Buf (Elt Ideal) ((c : Thread nD τ).loc main_v39)) :
    ((cfg0.win 1).blk t).view.read (Elt Ideal) X (ix2 R (vcol h d)) = X (ix2 R (slim (head t h) d)) := by
  blk_ext [idx t, vcol, slim, head]
theorem blk1 (t : Fin cfg0.N) (R : Fin 4096) (h : Fin 2) (d : Fin 128) : iblk m c 1 t (ix2 R (vcol h d)) = V m c main_v39 (ix2 R (slim (head t h) d)) := by
  unfold iblk
  exact rd1 c t R h d _
theorem rd2 (t : Fin cfg0.N) (h : Fin 2) (R : Fin 4096) (X : Buf (Elt Ideal) ((c : Thread nD τ).loc main_v40)) :
    ((cfg0.win 2).blk t).view.read (Elt Ideal) X (ix3 h 0 R) = X (ix3 (head t h) 0 R) := by
  blk_ext [idx t, head]
theorem blk2 (t : Fin cfg0.N) (h : Fin 2) (R : Fin 4096) : iblk m c 2 t (ix3 h 0 R) = V m c main_v40 (ix3 (head t h) 0 R) := by
  unfold iblk
  exact rd2 c t h R _
theorem rd3 (t : Fin cfg0.N) (h : Fin 2) (R : Fin 4096) (X : Buf (Elt Ideal) ((c : Thread nD τ).loc main_v42)) :
    ((cfg0.win 3).blk t).view.read (Elt Ideal) X (ix3 h 0 R) = X (ix3 (head t h) 0 R) := by
  blk_ext [idx t, head]
theorem blk3 (t : Fin cfg0.N) (h : Fin 2) (R : Fin 4096) : iblk m c 3 t (ix3 h 0 R) = V m c main_v42 (ix3 (head t h) 0 R) := by
  unfold iblk
  exact rd3 c t h R _
theorem rd4 (t : Fin cfg0.N) (a : Fin 512) (h : Fin 2) (d : Fin 256) (X : Buf (Elt Ideal) ((c : Thread nD τ).loc main_v37)) :
    ((cfg0.win 4).blk t).view.read (Elt Ideal) X (ix2 a (col h d)) = X (ix2 (row (blkK t) a) (wide (head t h) d)) := by
  blk_ext [idx t, col, wide, head, row, blkK]
theorem blk4 (t : Fin cfg0.N) (a : Fin 512) (h : Fin 2) (d : Fin 256) : iblk m c 4 t (ix2 a (col h d)) = V m c main_v37 (ix2 (row (blkK t) a) (wide (head t h) d)) := by
  unfold iblk
  exact rd4 c t a h d _
theorem rd5 (t : Fin cfg0.N) (a : Fin 512) (h : Fin 2) (d : Fin 128) (X : Buf (Elt Ideal) ((c : Thread nD τ).loc main_v29)) :
    ((cfg0.win 5).blk t).view.read (Elt Ideal) X (ix2 a (xcol h d)) = X (ix2 (row (blkK t) a) (wide (head t h) ⟨d.val, by omega⟩)) := by
  blk_ext [idx t, xcol, wide, head, row, blkK]
theorem blk5 (t : Fin cfg0.N) (a : Fin 512) (h : Fin 2) (d : Fin 128) : iblk m c 5 t (ix2 a (xcol h d)) = V m c main_v29 (ix2 (row (blkK t) a) (wide (head t h) ⟨d.val, by omega⟩)) := by
  unfold iblk
  exact rd5 c t a h d _

/-- The launch's arguments as arrays of real numbers. -/
structure Reals : Prop where
  h0 : m ((c : Thread nD τ).loc main_arg0) = aq q
  h1 : m ((c : Thread nD τ).loc main_arg1) = aq k
  h2 : m ((c : Thread nD τ).loc main_arg2) = av v
  h3 : m ((c : Thread nD τ).loc main_arg3) = av o

end Cert.KernelIdeal.Att
-- ==== Proof.Grads.lean ====
/- What each grid point computes, over real arguments: the softmax weights, the scores' gradients, and their sums with
   the operands. -/
module

public import proofs.«01_k».proof.Proof.Operands
public import Idealize.ShloMosaic.Lib.Claim

@[expose] public section
set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Cert.AttSpec
local notation "𝕄" => MT nD τ sig Unit (Elt Ideal) ℕ (UR sig nD τ) ℕ

variable {m : (ℓ : Loc nD τ sig) → Buf (Elt Ideal) ℓ} {c : Dev nD}
variable {q k : Fin 4096 → Fin 8 → Fin 192 → ℝ} {v o : Fin 4096 → Fin 8 → Fin 128 → ℝ}
variable (hr : Reals m c q k v o)
include hr
theorem b0 (t : Fin cfg0.N) (R : Fin 4096) (h : Fin 2) (d : Fin 256) : iblk m c 0 t (ix2 R (col h d)) = ((padE (qs q R (head t h)) d : ℝ) : EReal) := by
  rw [blk0, V_q, hr.h0]; exact tWide_at _ (qs q) (tQS_at q) R _ d
theorem b1 (t : Fin cfg0.N) (R : Fin 4096) (h : Fin 2) (d : Fin 128) : iblk m c 1 t (ix2 R (vcol h d)) = ((o R (head t h) d : ℝ) : EReal) := by
  rw [blk1, V_do, hr.h3, tDO_at]; rfl
theorem b2 (t : Fin cfg0.N) (h : Fin 2) (R : Fin 4096) : iblk m c 2 t (ix3 h 0 R)
    = ((mx q k (head t h) R + Real.log (∑ K, sh q k (mx q k (head t h) R) (head t h) R K) : ℝ) : EReal) := by
  rw [blk2, V_lse, hr.h0, hr.h1, tLR_at]
theorem b3 (t : Fin cfg0.N) (h : Fin 2) (R : Fin 4096) : iblk m c 3 t (ix3 h 0 R) = ((mean q k v o (head t h) R : ℝ) : EReal) := by
  rw [blk3, V_delta, hr.h0, hr.h1, hr.h2, hr.h3, tDR_at]
theorem b4 (t : Fin cfg0.N) (a : Fin 512) (h : Fin 2) (d : Fin 256) : iblk m c 4 t (ix2 a (col h d)) = ((padE (k (row (blkK t) a) (head t h)) d : ℝ) : EReal) := by
  rw [blk4, V_k, hr.h1]; exact tWide_at _ k (fun _ _ _ => rfl) _ _ d
theorem b5 (t : Fin cfg0.N) (a : Fin 512) (h : Fin 2) (d : Fin 128) : iblk m c 5 t (ix2 a (xcol h d)) = ((v (row (blkK t) a) (head t h) d : ℝ) : EReal) := by
  rw [blk5, V_vx, hr.h2, tVX_at]; rfl

/-- A block's weight is the softmax weight. -/
theorem wt_real (t : Fin cfg0.N) (h : Fin 2) (a : Fin 512) (R : Fin 4096) :
    wt (iblk m c 0 t) (iblk m c 2 t) (iblk m c 4 t) (blkK t) h a R = ((wgt q k (head t h) R (row (blkK t) a) : ℝ) : EReal) := by
  have hs : ∑ d : Fin 256, padE (k (row (blkK t) a) (head t h)) d * padE (qs q R (head t h)) d = sc q k (head t h) R (row (blkK t) a) := by
    rw [sum_padE, sc]
    exact Finset.sum_congr rfl fun d _ => mul_comm _ _
  unfold wt
  simp only [b0 hr, b2 hr, b4 hr, ← EReal.coe_mul, ← coe_sum, hs]
  rw [← exp_lse q k (mx q k (head t h) R), ← EReal.coe_sub, Ideal.exp_coe]
  show (if row (blkK t) a ≤ R then _ else _) = _
  split <;> rfl
/-- A block's gradient with respect to a score. -/
theorem ds_real (t : Fin cfg0.N) (h : Fin 2) (a : Fin 512) (R : Fin 4096) :
    ds (iblk m c 0 t) (iblk m c 1 t) (iblk m c 2 t) (iblk m c 3 t) (iblk m c 4 t) (iblk m c 5 t) (blkK t) h a R = ((grad q k v o (head t h) R (row (blkK t) a) : ℝ) : EReal) := by
  have hs : ∑ d : Fin 128, v (row (blkK t) a) (head t h) d * o R (head t h) d = dp v o (head t h) R (row (blkK t) a) :=
    Finset.sum_congr rfl fun d _ => mul_comm _ _
  unfold ds
  rw [wt_real hr, b3 hr]
  simp only [b1 hr, b5 hr, ← EReal.coe_mul, ← coe_sum, hs]
  rw [← EReal.coe_sub, ← EReal.coe_mul]
  rfl

/-- What a point adds to the queries' gradient. -/
theorem add_eq (t : Fin cfg0.N) (R : Fin 4096) (h : Fin 2) (d : Fin 256) : addAt m c t R (col h d)
    = ((∑ a : Fin 512, grad q k v o (head t h) R (row (blkK t) a) * padE (k (row (blkK t) a) (head t h)) d : ℝ) : EReal) := by
  unfold addAt dqAdd
  rw [kb_eq, hd_col]
  simp only [ds_real hr, b4 hr, ← EReal.coe_mul, ← coe_sum]
/-- The queries' gradient after a pair's last key block. -/
theorem out6_eq (t : Fin cfg0.N) (ht : t.val % 8 = 7) (R : Fin 4096) (h : Fin 2) (d : Fin 256) :
    out6 m c t (ix2 R (col h d)) = ((padE (dq q k v o R (head t h)) d : ℝ) : EReal) := by
  have hh : ∀ j : Fin 8, head (pt t j) h = head t h := fun j => Fin.ext (by show 2 * ((8 * (t.val / 8) + j.val) / 8) + h.val = 2 * (t.val / 8) + h.val; omega)
  have hb : ∀ j : Fin 8, blkK (pt t j) = j := fun j => Fin.ext (by show (8 * (t.val / 8) + j.val) % 8 = j.val; omega)
  show (∑ j : Fin 8, if j.val ≤ t.val % 8 then addAt m c (pt t j) R (col h d) else 0) = _
  have e : ∀ j : Fin 8, (if j.val ≤ t.val % 8 then addAt m c (pt t j) R (col h d) else 0)
      = ((∑ a : Fin 512, grad q k v o (head t h) R (row j a) * padE (k (row j a) (head t h)) d : ℝ) : EReal) := by
    intro j
    rw [if_pos (by omega), add_eq hr, hh, hb]
  rw [Finset.sum_congr rfl fun j _ => e j, ← coe_sum]
  have e2 : padE (dq q k v o R (head t h)) d = ∑ K, grad q k v o (head t h) R K * padE (k K (head t h)) d :=
    padE_sum (fun K => grad q k v o (head t h) R K) (fun K => k K (head t h)) d
  rw [e2]
  refine congrArg _ ?_
  rw [Fin.sum_univ_tiles 8 512 rfl]
  refine Finset.sum_congr rfl fun j _ => Finset.sum_congr rfl fun a _ => ?_
  have er : row j a = ⟨j.val * 512 + a.val, by omega⟩ := Fin.ext (by show 512 * j.val + a.val = j.val * 512 + a.val; omega)
  rw [er]
/-- The keys' gradient in a block. -/
theorem dk_eq (t : Fin cfg0.N) (a : Fin 512) (h : Fin 2) (d : Fin 256) :
    dkOut (iblk m c 0 t) (iblk m c 1 t) (iblk m c 2 t) (iblk m c 3 t) (iblk m c 4 t) (iblk m c 5 t) (kb (grid0.coords t)) (ix2 a (col h d))
      = ((padE (dk q k v o (row (blkK t) a) (head t h)) d : ℝ) : EReal) := by
  rw [kb_eq]
  have e2 : padE (dk q k v o (row (blkK t) a) (head t h)) d = ∑ R, grad q k v o (head t h) R (row (blkK t) a) * padE (qs q R (head t h)) d :=
    padE_sum (fun R => grad q k v o (head t h) R (row (blkK t) a)) (fun R => qs q R (head t h)) d
  show (∑ R : Fin 4096, ds _ _ _ _ _ _ _ (hd (col h d)) a R * iblk m c 0 t (ix2 R (col h d))) = _
  rw [hd_col]
  simp only [ds_real hr, b0 hr, ← EReal.coe_mul, ← coe_sum]
  rw [e2, coe_sum]
  exact Finset.sum_congr rfl fun R _ => (EReal.coe_mul _ _).symm
/-- The values' gradient in a block. -/
theorem dv_eq (t : Fin cfg0.N) (a : Fin 512) (h : Fin 2) (d : Fin 128) :
    dvOut (iblk m c 0 t) (iblk m c 1 t) (iblk m c 2 t) (iblk m c 4 t) (kb (grid0.coords t)) (ix2 a (vcol h d))
      = ((dv q k o (row (blkK t) a) (head t h) d : ℝ) : EReal) := by
  rw [kb_eq]
  show (∑ R : Fin 4096, wt _ _ _ _ (hv (vcol h d)) a R * iblk m c 1 t (ix2 R (vcol h d))) = _
  rw [hv_vcol]
  simp only [wt_real hr, b1 hr, ← EReal.coe_mul, ← coe_sum]
  rw [dv, coe_sum]
  exact Finset.sum_congr rfl fun R _ => (EReal.coe_mul _ _).symm

end Cert.KernelIdeal.Att
-- ==== Proof.Arrays.lean ====
/- The three arrays after the launch: the blocks written back cover each, and hold the gradients of their pair of heads. -/
module

public import proofs.«01_k».proof.Proof.Grads
public import Idealize.ShloMosaic.Lib.Claim

@[expose] public section
set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Cert.AttSpec
local notation "𝕄" => MT nD τ sig Unit (Elt Ideal) ℕ (UR sig nD τ) ℕ

/-! What a block of each result array reads. -/
theorem rd6 (c : Dev nD) (t : Fin cfg0.N) (R : Fin 4096) (h : Fin 2) (d : Fin 256) (X : Buf (Elt Ideal) ((c : Thread nD τ).loc main_v43_0)) :
    ((cfg0.win 6).blk t).view.read (Elt Ideal) X (ix2 R (col h d)) = X (ix2 R (wide (head t h) d)) := by
  blk_ext [idx t, col, wide, head]
theorem rd7 (c : Dev nD) (t : Fin cfg0.N) (a : Fin 512) (h : Fin 2) (d : Fin 256) (X : Buf (Elt Ideal) ((c : Thread nD τ).loc main_v43_1)) :
    ((cfg0.win 7).blk t).view.read (Elt Ideal) X (ix2 a (col h d)) = X (ix2 (row (blkK t) a) (wide (head t h) d)) := by
  blk_ext [idx t, col, wide, head, row, blkK]
theorem rd8 (c : Dev nD) (t : Fin cfg0.N) (a : Fin 512) (h : Fin 2) (d : Fin 128) (X : Buf (Elt Ideal) ((c : Thread nD τ).loc main_v43_2)) :
    ((cfg0.win 8).blk t).view.read (Elt Ideal) X (ix2 a (vcol h d)) = X (ix2 (row (blkK t) a) (slim (head t h) d)) := by
  blk_ext [idx t, vcol, slim, head, row, blkK]

variable {m : (ℓ : Loc nD τ sig) → Buf (Elt Ideal) ℓ} {c : Dev nD}
variable {q k : Fin 4096 → Fin 8 → Fin 192 → ℝ} {v o : Fin 4096 → Fin 8 → Fin 128 → ℝ}
variable (hr : Reals m c q k v o)
include hr

/-- The queries' gradient. -/
theorem arr6 (G : Buf (Elt Ideal) ((c : Thread nD τ).loc main_v43_0))
    (hG : ∀ R H d, G (ix2 R (wide H d)) = ((padE (dq q k v o R H) d : ℝ) : EReal)) : (dats m 0 c).arrAt 6 cfg0.N = G := by
  refine (dats m 0 c).arrAt_eq_of_covers 6 G (by decide +kernel) fun t hf y => ?_
  rw [after0_6]
  blk_simp
  have ht : t.val % 8 = 7 := (flush0_6 t).mp hf
  have key : ∀ z : S4096x512.Idx, out6 m c t z
      = ((cfg0.win 6).blk t).view.read (Elt Ideal) G z := by
    intro z
    obtain ⟨h, d, hd⟩ := exists_col (z 1)
    rw [eq_ix2 z, hd]
    exact (out6_eq hr t ht _ h d).trans ((hG _ _ d).symm.trans (rd6 c t _ h d G).symm)
  exact key y
/-- The keys' gradient. -/
theorem arr7 (G : Buf (Elt Ideal) ((c : Thread nD τ).loc main_v43_1))
    (hG : ∀ K H d, G (ix2 K (wide H d)) = ((padE (dk q k v o K H) d : ℝ) : EReal)) : (dats m 0 c).arrAt 7 cfg0.N = G := by
  refine (dats m 0 c).arrAt_eq_of_covers 7 G (by decide +kernel) fun t hf y => ?_
  rw [after0_7]
  blk_simp
  have key : ∀ z : S512x512.Idx, dkOut (iblk m c 0 t) (iblk m c 1 t) (iblk m c 2 t) (iblk m c 3 t) (iblk m c 4 t) (iblk m c 5 t) (kb (grid0.coords t)) z
      = ((cfg0.win 7).blk t).view.read (Elt Ideal) G z := by
    intro z
    obtain ⟨h, d, hd⟩ := exists_col (z 1)
    rw [eq_ix2 z, hd]
    exact (dk_eq hr t _ h d).trans ((hG _ _ d).symm.trans (rd7 c t _ h d G).symm)
  exact key y
/-- The values' gradient. -/
theorem arr8 (G : Buf (Elt Ideal) ((c : Thread nD τ).loc main_v43_2))
    (hG : ∀ K H d, G (ix2 K (slim H d)) = ((dv q k o K H d : ℝ) : EReal)) : (dats m 0 c).arrAt 8 cfg0.N = G := by
  refine (dats m 0 c).arrAt_eq_of_covers 8 G (by decide +kernel) fun t hf y => ?_
  rw [after0_8]
  blk_simp
  have key : ∀ z : S512x256.Idx, dvOut (iblk m c 0 t) (iblk m c 1 t) (iblk m c 2 t) (iblk m c 4 t) (kb (grid0.coords t)) z
      = ((cfg0.win 8).blk t).view.read (Elt Ideal) G z := by
    intro z
    obtain ⟨h, d, hd⟩ := exists_vcol (z 1)
    rw [eq_ix2 z, hd]
    exact (dv_eq hr t _ h d).trans ((hG _ _ d).symm.trans (rd8 c t _ h d G).symm)
  exact key y

end Cert.KernelIdeal.Att
-- ==== Proof.RefSoft.lean ====
/- The reference up to its softmax weights: each stage of its run at an index, over real arguments. -/
module

public import proofs.«01_k».proof.Proof.Spec
public import proofs.«01_k».proof.Proof.Gen.ReferenceIdeal

@[expose] public section
set_option maxRecDepth 16384
noncomputable section
namespace Cert.ReferenceIdeal.Att
open Idealize.ShloMosaic Idealize.ShloMosaic.TcCoe Idealize.ShloMosaic.Tactic
open Cert.AttSpec
open Cert.ReferenceIdeal Cert.ReferenceIdeal.Gen

/-- The four arguments, as arrays of real numbers. -/
abbrev aq (q : Fin 4096 → Fin 8 → Fin 192 → ℝ) : FVec Ideal S4096x8x192 .f32 := fun i => ((q (i 0) (i 1) (i 2) : ℝ) : EReal)
abbrev av (v : Fin 4096 → Fin 8 → Fin 128 → ℝ) : FVec Ideal S4096x8x128 .f32 := fun i => ((v (i 0) (i 1) (i 2) : ℝ) : EReal)

variable (x0 x1 : FVec Ideal S4096x8x192 .f32)
variable (q k : Fin 4096 → Fin 8 → Fin 192 → ℝ) (v o : Fin 4096 → Fin 8 → Fin 128 → ℝ)

/-- The scaled queries. -/
def tQS : FVec Ideal S4096x8x192 .f32 := mulf x0 (broadcastInDim S4096x8x192 ![] bcast_S_S4096x8x192 (constant S_ .f32 0x3D93CD3A#32))
theorem tQS_at (R : Fin 4096) (H : Fin 8) (d : Fin 192) : tQS (aq q) (ix3 R H d) = ((qs q R H d : ℝ) : EReal) := by
  unfold tQS
  pointwise
  rw [cs_eq, ← EReal.coe_mul]
  rfl

/-- The scores. -/
def tSC : FVec Ideal S8x4096x4096 .f32 := Host.dotGeneral dot_S4096x8x192_S4096x8x192_S8x4096x4096_2_2_0_0_1_1 none (tQS x0) x1
theorem tSC_at (H : Fin 8) (R K : Fin 4096) : tSC (aq q) (aq k) (ix3 H R K) = ((sc q k H R K : ℝ) : EReal) := by
  unfold tSC
  pointwise
  simp only [tQS_at, ← EReal.coe_mul, ← coe_sum, zero_add]
  rfl

/-- Which keys a query sees. -/
def tMK : IVec S8x4096x4096 1 := broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
theorem tMK_at (H : Fin 8) (R K : Fin 4096) : tMK (ix3 H R K) = if K ≤ R then 1#1 else 0#1 := by
  unfold tMK
  pointwise
  exact sle_word K R

/-- The scores with the keys a query does not see at minus infinity. -/
def tSM : FVec Ideal S8x4096x4096 .f32 := select tMK (tSC x0 x1) (broadcastInDim S8x4096x4096 ![] bcast_S_S8x4096x4096 (id (constant S_ .f32 0xFF800000#32)))
theorem tSM_at (H : Fin 8) (R K : Fin 4096) : tSM (aq q) (aq k) (ix3 H R K) = if K ≤ R then ((sc q k H R K : ℝ) : EReal) else ⊥ := by
  unfold tSM
  pointwise [id]
  rw [tMK_at, tSC_at, ninf]
  split <;> rfl

/-- Each row's greatest score. -/
def tRX : FVec Ideal S8x4096 .f32 := Host.reduce FloatOps.maximumf (tSM x0 x1) (constant S_ .f32 0xFF800000#32) reducesTo_S8x4096x4096_S8x4096_d2 h_S_
theorem tRX_real (H : Fin 8) (R : Fin 4096) : ∃ μ : ℝ, tRX (aq q) (aq k) (ix2 H R) = (μ : EReal) := by
  unfold tRX
  pointwise
  refine fold_op_real _ _ _ ?_ _ ?_ ?_ R (Finset.mem_univ R) ?_
  · exact fun _ _ => rfl
  · exact ninf
  · intro K _
    rw [tSM_at]; split <;> simp
  · rw [tSM_at]; simp
/-- That score, a real number. -/
def mx (H : Fin 8) (R : Fin 4096) : ℝ := (tRX_real q k H R).choose
theorem tRX_at (H : Fin 8) (R : Fin 4096) : tRX (aq q) (aq k) (ix2 H R) = ((mx q k H R : ℝ) : EReal) := (tRX_real q k H R).choose_spec
/-- The greater of minus infinity and a value is the value. -/
theorem max_left (x : FVec Ideal S8x4096 .f32) (i : S8x4096.Idx) :
    maximumf (broadcastInDim S8x4096 ![] bcast_S_S8x4096 (constant S_ .f32 0xFF800000#32)) x i = x i := by
  pointwise
  rw [ninf]
  exact max_eq_right bot_le
/-- The greatest score, taken once more against minus infinity. -/
def tMX : FVec Ideal S8x4096 .f32 := maximumf (broadcastInDim S8x4096 ![] bcast_S_S8x4096 (constant S_ .f32 0xFF800000#32)) (tRX x0 x1)
theorem tMX_at (H : Fin 8) (R : Fin 4096) : tMX (aq q) (aq k) (ix2 H R) = ((mx q k H R : ℝ) : EReal) := by
  unfold tMX
  rw [max_left, tRX_at]

/-- The exponentials of the scores less their row's greatest. -/
def tEX : FVec Ideal S8x4096x4096 .f32 := Host.exp (subf (tSM x0 x1) (broadcastInDim S8x4096x4096 ![0, 1, 2] bcast_S8x4096x1_S8x4096x4096_0_1_2 (broadcastInDim S8x4096x1 ![0, 1] bcast_S8x4096_S8x4096x1_0_1 (tMX x0 x1))))
theorem tEX_at (H : Fin 8) (R K : Fin 4096) : tEX (aq q) (aq k) (ix3 H R K) = ((sh q k (mx q k H R) H R K : ℝ) : EReal) := by
  unfold tEX
  pointwise
  rw [tSM_at, tMX_at, sh]
  split
  · rw [← EReal.coe_sub, Ideal.exp_coe]
  · rw [sub_eq_add_neg, EReal.bot_add, Ideal.exp_bot]; rfl

/-- Each row's total. -/
def tL : FVec Ideal S8x4096 .f32 := Host.reduceAdd (tEX x0 x1) (constant S_ .f32 0x00000000#32) reducesTo_S8x4096x4096_S8x4096_d2 h_S_
theorem tL_at (H : Fin 8) (R : Fin 4096) : tL (aq q) (aq k) (ix2 H R) = ((∑ K, sh q k (mx q k H R) H R K : ℝ) : EReal) := by
  unfold tL
  pointwise
  simp only [tEX_at, ← coe_sum, zero_add]

/-- The softmax weights. -/
def tW : FVec Ideal S8x4096x4096 .f32 := Host.divf (tEX x0 x1) (broadcastInDim S8x4096x4096 ![0, 1, 2] bcast_S8x4096x1_S8x4096x4096_0_1_2 (broadcastInDim S8x4096x1 ![0, 1] bcast_S8x4096_S8x4096x1_0_1 (tL x0 x1)))
theorem tW_at (H : Fin 8) (R K : Fin 4096) : tW (aq q) (aq k) (ix3 H R K) = ((wgt q k H R K : ℝ) : EReal) := by
  unfold tW
  pointwise
  rw [tEX_at, tL_at, Ideal.div_coe (sum_sh_pos q k _ H R).ne', ← EReal.coe_mul, sh_div]

end Cert.ReferenceIdeal.Att
-- ==== Proof.RefGrad.lean ====
/- The reference's three gradients, each stage of its run at an index, over real arguments. -/
module

public import proofs.«01_k».proof.Proof.RefSoft
public import proofs.«01_k».proof.Proof.Gen.ReferenceIdeal.Run

@[expose] public section
set_option maxRecDepth 16384
noncomputable section
namespace Cert.ReferenceIdeal.Att
open Idealize.ShloMosaic Idealize.ShloMosaic.TcCoe Idealize.ShloMosaic.Tactic
open Cert.AttSpec
open Cert.ReferenceIdeal Cert.ReferenceIdeal.Gen

variable (x0 x1 : FVec Ideal S4096x8x192 .f32) (x2 x3 : FVec Ideal S4096x8x128 .f32)
variable (q k : Fin 4096 → Fin 8 → Fin 192 → ℝ) (v o : Fin 4096 → Fin 8 → Fin 128 → ℝ)

/-- The output's gradient, heads first. -/
def tDO : FVec Ideal S8x128x4096 .f32 := transpose S8x128x4096 [1, 2, 0] x3 transposes_S4096x8x128_S8x128x4096_1_2_0
theorem tDO_at (H : Fin 8) (d : Fin 128) (R : Fin 4096) : tDO (av o) (ix3 H d R) = ((o R H d : ℝ) : EReal) := by
  unfold tDO
  pointwise
  rfl

/-- The gradients with respect to the weights. -/
def tDP : FVec Ideal S8x4096x4096 .f32 := Host.dotGeneral dot_S8x128x4096_S4096x8x128_S8x4096x4096_1_2_2_0_0_1 none (tDO x3) x2
theorem tDP_at (H : Fin 8) (R K : Fin 4096) : tDP (av v) (av o) (ix3 H R K) = ((dp v o H R K : ℝ) : EReal) := by
  unfold tDP
  pointwise
  simp only [tDO_at, ← EReal.coe_mul, ← coe_sum, zero_add]
  rfl

/-- One over the square of each row's total. -/
def tI2 : FVec Ideal S8x4096x1 .f32 := Host.divf (broadcastInDim S8x4096x1 ![] bcast_S_S8x4096x1 (constant S_ .f32 0x3F800000#32)) (mulf (broadcastInDim S8x4096x1 ![0, 1] bcast_S8x4096_S8x4096x1_0_1 (tL x0 x1)) (broadcastInDim S8x4096x1 ![0, 1] bcast_S8x4096_S8x4096x1_0_1 (tL x0 x1)))
theorem tI2_at (H : Fin 8) (R : Fin 4096) (z : Fin 1) : tI2 (aq q) (aq k) (ix3 H R z)
    = ((1 / ((∑ K, sh q k (mx q k H R) H R K) * ∑ K, sh q k (mx q k H R) H R K) : ℝ) : EReal) := by
  have hL := (sum_sh_pos q k (mx q k H R) H R).ne'
  unfold tI2
  pointwise
  rw [tL_at, ← EReal.coe_mul, Ideal.div_coe (mul_ne_zero hL hL)]
  rw [one_mul]

/-- Each row's sum of the weights' gradients against the unscaled weights, over that square. -/
def tS : FVec Ideal S8x4096 .f32 := Host.reduceAdd (mulf (mulf (tDP x2 x3) (broadcastInDim S8x4096x4096 ![0, 1, 2] bcast_S8x4096x1_S8x4096x4096_0_1_2 (tI2 x0 x1))) (tEX x0 x1)) (constant S_ .f32 0x00000000#32) reducesTo_S8x4096x4096_S8x4096_d2 h_S_
theorem tS_at (H : Fin 8) (R : Fin 4096) : tS (aq q) (aq k) (av v) (av o) (ix2 H R)
    = ((∑ K, dp v o H R K * (1 / ((∑ K, sh q k (mx q k H R) H R K) * ∑ K, sh q k (mx q k H R) H R K)) * sh q k (mx q k H R) H R K : ℝ) : EReal) := by
  unfold tS
  pointwise
  simp only [tDP_at, tI2_at, tEX_at, ← EReal.coe_mul, ← coe_sum, zero_add]

/-- Its negative, through an axis of one. -/
def tN : FVec Ideal S8x4096 .f32 := Host.reduceAdd (Host.negf (shapeCast _ (tS x0 x1 x2 x3) shapeCasts_S8x4096_S8x4096x1)) (constant S_ .f32 0x00000000#32) reducesTo_S8x4096x1_S8x4096_d2 h_S_
theorem neg_at (x : FVec Ideal S8x4096 .f32) (H : Fin 8) (R : Fin 4096) :
    (Host.reduceAdd (Host.negf (shapeCast S8x4096x1 x shapeCasts_S8x4096_S8x4096x1)) (constant S_ .f32 0x00000000#32) reducesTo_S8x4096x1_S8x4096_d2 h_S_ : FVec Ideal S8x4096 .f32) (ix2 H R) = -(x (ix2 H R)) := by
  pointwise
  exact Fintype.sum_unique _
theorem tN_at (H : Fin 8) (R : Fin 4096) : tN (aq q) (aq k) (av v) (av o) (ix2 H R)
    = ((-(∑ K, dp v o H R K * (1 / ((∑ K, sh q k (mx q k H R) H R K) * ∑ K, sh q k (mx q k H R) H R K)) * sh q k (mx q k H R) H R K) : ℝ) : EReal) := by
  unfold tN
  rw [neg_at, tS_at, EReal.coe_neg]

/-- The gradients with respect to the scores. -/
def tG : FVec Ideal S8x4096x4096 .f32 := select tMK (mulf (addf (Host.divf (tDP x2 x3) (broadcastInDim S8x4096x4096 ![0, 1, 2] bcast_S8x4096x1_S8x4096x4096_0_1_2 (broadcastInDim S8x4096x1 ![0, 1] bcast_S8x4096_S8x4096x1_0_1 (tL x0 x1)))) (broadcastInDim S8x4096x4096 ![0, 1] bcast_S8x4096_S8x4096x4096_0_1 (tN x0 x1 x2 x3))) (tEX x0 x1)) (broadcastInDim S8x4096x4096 ![] bcast_S_S8x4096x4096 (constant S_ .f32 0x00000000#32))
theorem tG_at (H : Fin 8) (R K : Fin 4096) : tG (aq q) (aq k) (av v) (av o) (ix3 H R K) = ((grad q k v o H R K : ℝ) : EReal) := by
  have hL := (sum_sh_pos q k (mx q k H R) H R).ne'
  unfold tG
  pointwise
  rw [tMK_at, tDP_at, tL_at, tN_at, tEX_at, Ideal.div_coe hL, ← EReal.coe_mul, ← EReal.coe_add, ← EReal.coe_mul, grad_quot]
  split
  · rfl
  · next h => rw [grad, wgt, un, if_neg h, zero_div, zero_mul]; rfl

/-- The gradient with respect to the queries. -/
def tQ : FVec Ideal S8x4096x192 .f32 := Host.dotGeneral dot_S8x4096x4096_S4096x8x192_S8x4096x192_2_0_1_2_0_1 none (tG x0 x1 x2 x3) x1
theorem tQ_at (H : Fin 8) (R : Fin 4096) (d : Fin 192) : tQ (aq q) (aq k) (av v) (av o) (ix3 H R d) = ((dq q k v o R H d : ℝ) : EReal) := by
  unfold tQ
  pointwise
  simp only [tG_at, ← EReal.coe_mul, ← coe_sum, zero_add]
  rfl
/-- The gradient with respect to the keys. -/
def tK : FVec Ideal S8x4096x192 .f32 := Host.dotGeneral dot_S8x4096x4096_S4096x8x192_S8x4096x192_1_0_2_2_0_1 none (tG x0 x1 x2 x3) (tQS x0)
theorem tK_at (H : Fin 8) (K : Fin 4096) (d : Fin 192) : tK (aq q) (aq k) (av v) (av o) (ix3 H K d) = ((dk q k v o K H d : ℝ) : EReal) := by
  unfold tK
  pointwise
  simp only [tG_at, tQS_at, ← EReal.coe_mul, ← coe_sum, zero_add]
  rfl
/-- The gradient with respect to the values. -/
def tV : FVec Ideal S8x128x4096 .f32 := Host.dotGeneral dot_S8x128x4096_S8x4096x4096_S8x128x4096_2_1_1_2_0_0 none (tDO x3) (tW x0 x1)
theorem tV_at (H : Fin 8) (d : Fin 128) (K : Fin 4096) : tV (aq q) (aq k) (av o) (ix3 H d K) = ((dv q k o K H d : ℝ) : EReal) := by
  unfold tV
  pointwise
  simp only [tDO_at, tW_at, ← EReal.coe_mul, ← coe_sum, zero_add]
  rw [dv]
  exact congrArg _ (Finset.sum_congr rfl fun R _ => mul_comm _ _)

/-- The word zero as a number. -/
theorem zero_word : (FloatOps.sitofp (F := Ideal) FTy.f32 0#32 : EReal) = ((0 : ℝ) : EReal) := by
  show (((0#32 : BitVec 32).toInt : ℝ) : EReal) = _
  simp
/-- Heads second and padded with zeros, laid out head after head. -/
def tPad (x : FVec Ideal S8x4096x192 .f32) : FVec Ideal S4096x2048 .f32 := shapeCast _ (pad S4096x8x256 ![0, 0, 0] ![0, 0, 64] ![0, 0, 0] (transpose S4096x8x192 [1, 0, 2] x transposes_S8x4096x192_S4096x8x192_1_0_2) (sitofp .f32 (constantI S_ 32 0#32)) pads_S4096x8x192_S4096x8x256_000_000_0640 h_S_) shapeCasts_S4096x8x256_S4096x2048
theorem tPad_at (x : FVec Ideal S8x4096x192 .f32) (f : Fin 4096 → Fin 8 → Fin 192 → ℝ) (hx : ∀ H R d, x (ix3 H R d) = ((f R H d : ℝ) : EReal))
    (R : Fin 4096) (H : Fin 8) (d : Fin 256) : tPad x (ix2 R (wide H d)) = ((padE (f R H) d : ℝ) : EReal) := by
  unfold tPad
  pointwise
  have e1 : (wide H d).val / 256 = H.val := by simp only [wide]; omega
  have e2 : (wide H d).val % 256 = d.val := by simp only [wide]; omega
  have hH := H.isLt
  unfold padE
  have key : ∀ (a : Fin 8) (b : Fin 192), a = H → b.val = d.val →
      x (ix3 a R b) = ((if h : d.val < 192 then f R H ⟨d.val, h⟩ else 0 : ℝ) : EReal) := by
    rintro a b rfl hb
    have h : d.val < 192 := hb ▸ b.isLt
    obtain rfl : b = ⟨d.val, h⟩ := Fin.ext hb
    rw [dif_pos h, hx]
  split
  · exact key _ _ (Fin.ext e1) e2
  · next h' =>
    have h : ¬ d.val < 192 := fun h => h' ⟨by rw [e1]; exact hH, by rw [e2]; exact h⟩
    rw [dif_neg h]
    exact zero_word
/-- Heads second, laid out head after head. -/
def tFlat (x : FVec Ideal S8x128x4096 .f32) : FVec Ideal S4096x1024 .f32 := shapeCast _ (transpose S4096x8x128 [2, 0, 1] x transposes_S8x128x4096_S4096x8x128_2_0_1) shapeCasts_S4096x8x128_S4096x1024
theorem tFlat_at (x : FVec Ideal S8x128x4096 .f32) (K : Fin 4096) (H : Fin 8) (d : Fin 128) : tFlat x (ix2 K (slim H d)) = x (ix3 H d K) := by
  unfold tFlat
  pointwise
  have hH := H.isLt
  have e1 : (slim H d).val / 128 = H.val := by simp only [slim]; omega
  have e2 : (slim H d).val % 128 = d.val := by simp only [slim]; omega
  exact congrArg x (congrArg₂ (fun a b => ix3 a b K) (Fin.ext e1) (Fin.ext e2))

variable (m : (ℓ : Loc nD τ sig) → Buf (Elt Ideal) ℓ) (c : Dev nD)
theorem res0 : Value.res_out0 (F := Ideal) m c = tPad (tQ (m ((c.tc : Thread nD τ).loc main_arg0)) (m ((c.tc : Thread nD τ).loc main_arg1)) (m ((c.tc : Thread nD τ).loc main_arg2)) (m ((c.tc : Thread nD τ).loc main_arg3))) := rfl
theorem res1 : Value.res_out1 (F := Ideal) m c = tPad (tK (m ((c.tc : Thread nD τ).loc main_arg0)) (m ((c.tc : Thread nD τ).loc main_arg1)) (m ((c.tc : Thread nD τ).loc main_arg2)) (m ((c.tc : Thread nD τ).loc main_arg3))) := rfl
theorem res2 : Value.res_out2 (F := Ideal) m c = tFlat (tV (m ((c.tc : Thread nD τ).loc main_arg0)) (m ((c.tc : Thread nD τ).loc main_arg1)) (m ((c.tc : Thread nD τ).loc main_arg3))) := rfl

end Cert.ReferenceIdeal.Att
-- ==== Proof.Finite.lean ====
/- What the precondition says: every entry of the four arguments is a real number. -/
module

public import proofs.«01_k».proof.Proof.Gen.Pre_finite
public import proofs.«01_k».proof.Pre_finite
public import proofs.«01_k».proof.Proof.Spec
public import Idealize.ShloMosaic.Lib.Claim
public import Idealize.ShloMosaic.Lib.ReduceAll

@[expose] public section
noncomputable section
namespace Cert.Pre_finite
open Idealize.ShloMosaic

theorem inf_f32 : Ideal.ofBits .f32 0x7F800000#32 = ⊤ := by simp [Ideal.ofBits, Ideal.ieee]
/-- A number of absolute value below infinity is real. -/
theorem real_of_abs (x : EReal) (h : Ideal.cmp .olt (max x (-x)) (Ideal.ofBits .f32 0x7F800000#32) = 1#1) :
    ((x.toReal : ℝ) : EReal) = x := by
  rw [inf_f32] at h
  induction x
  · simp [Ideal.cmp] at h
  · rfl
  · simp [Ideal.cmp] at h

theorem and_one : ∀ a b : BitVec 1, a &&& b = 1#1 → a = 1#1 ∧ b = 1#1 := by decide

instance : Subsingleton S_.Idx := ⟨fun a b => funext fun i => i.elim0⟩

variable (x0 x1 : FVec Ideal S4096x8x192 .f32) (x2 x3 : FVec Ideal S4096x8x128 .f32)
/-- The precondition, entry by entry. -/
theorem real_of_fn (h : fn (F := Ideal) x0 x1 x2 x3 = fun _ => 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ (∀ i, (((x3 i : EReal).toReal : ℝ) : EReal) = x3 i) := by
  have h' := congrFun h (fun i => i.elim0)
  simp only [fn, fn_part1, andi, IntOp.andi] at h'
  obtain ⟨h', h3⟩ := and_one _ _ h'
  obtain ⟨h', h2⟩ := and_one _ _ h'
  obtain ⟨h0, h1⟩ := and_one _ _ h'
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

end Cert.Pre_finite
-- ==== Proof.Algebraic.lean ====
/- The two programs over real arguments: the kernel's three arrays are the reference's three results. -/
module

public import proofs.«01_k».proof.Defs
public import proofs.«01_k».proof.Proof.Arrays
public import proofs.«01_k».proof.Proof.RefGrad
public import proofs.«01_k».proof.Proof.Finite
public import Idealize.ShloMosaic.Lib.Claim

@[expose] public section
noncomputable section
namespace Cert.Proof
open Idealize.ShloMosaic Idealize.ShloMosaic.TcCoe Idealize.SL.Sem
open Cert.AttSpec

/-- The real numbers an array of three axes holds. -/
abbrev reals {a b d : ℕ} (x : FVec Ideal ⟨3, ![a, b, d]⟩ .f32) : Fin a → Fin b → Fin d → ℝ := fun i j k => (x (ix3 i j k) : EReal).toReal

theorem reals_at {a b d : ℕ} (x : FVec Ideal ⟨3, ![a, b, d]⟩ .f32) (h : ∀ i, (((x i : EReal).toReal : ℝ) : EReal) = x i) :
    x = fun i => ((reals x (i 0) (i 1) (i 2) : ℝ) : EReal) := by
  funext i
  exact ((congrArg (fun j => (((x j : EReal).toReal : ℝ) : EReal)) (ix3_eta i)).trans (h i)).symm

section
open Cert.KernelIdeal
/-- Under the precondition the kernel's arguments are arrays of real numbers. -/
theorem reals_of_pre (m : (ℓ : Loc nD τ sig) → Buf (Elt Ideal) ℓ) (h : Cert.Pre_KernelIdeal_finite m) (c : Dev nD) :
    Att.Reals m c (reals (m ((c : Thread nD τ).loc main_arg0))) (reals (m ((c : Thread nD τ).loc main_arg1)))
      (reals (m ((c : Thread nD τ).loc main_arg2))) (reals (m ((c : Thread nD τ).loc main_arg3))) :=
  have f := Cert.Pre_finite.real_of_fn _ _ _ _ (h c)
  ⟨reals_at _ f.1, reals_at _ f.2.1, reals_at _ f.2.2.1, reals_at _ f.2.2.2⟩

/-- The kernel ends with its three arrays as the launch leaves them, and its arguments as they were. -/
theorem run_k (m : (ℓ : Loc nD τ sig) → Buf (Elt Ideal) ℓ) (g : Dev nD → PrngReg) :
    θ_run (Cert.KernelIdeal.defs (F := Ideal)) (onTc (τ := τ) (main (F := Ideal))) ⟨m, fun _ => 0, g⟩ (fun r => ∀ c : Dev nD,
      r.2.mem ((c.tc : Thread nD τ).loc main_v43_0) = (Att.dats m 0 c).arrAt 6 cfg0.N
      ∧ r.2.mem ((c.tc : Thread nD τ).loc main_v43_1) = (Att.dats m 0 c).arrAt 7 cfg0.N
      ∧ r.2.mem ((c.tc : Thread nD τ).loc main_v43_2) = (Att.dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h.1 c).1 6, (h.1 c).1 7, (h.1 c).1 8,
    ((h.1 c).2 main_arg0 (Pipeline.mem_restRefs_of main_arg0 (by decide) (by decide))).trans (Gen.V_main_arg0 m c),
    ((h.1 c).2 main_arg1 (Pipeline.mem_restRefs_of main_arg1 (by decide) (by decide))).trans (Gen.V_main_arg1 m c),
    ((h.1 c).2 main_arg2 (Pipeline.mem_restRefs_of main_arg2 (by decide) (by decide))).trans (Gen.V_main_arg2 m c),
    ((h.1 c).2 main_arg3 (Pipeline.mem_restRefs_of main_arg3 (by decide) (by decide))).trans (Gen.V_main_arg3 m c)⟩) (Att.run_main m g)
end

section
open Cert.ReferenceIdeal
variable (m' : (ℓ : Loc nD τ sig) → Buf (Elt Ideal) ℓ) (c : Dev nD)
  {q k : Fin 4096 → Fin 8 → Fin 192 → ℝ} {v o : Fin 4096 → Fin 8 → Fin 128 → ℝ}
  (h0 : m' ((c.tc : Thread nD τ).loc main_arg0) = Att.aq q) (h1 : m' ((c.tc : Thread nD τ).loc main_arg1) = Att.aq k)
  (h2 : m' ((c.tc : Thread nD τ).loc main_arg2) = Att.av v) (h3 : m' ((c.tc : Thread nD τ).loc main_arg3) = Att.av o)
include h0 h1 h2 h3
/-! The reference's results over real arguments. -/
theorem ref0 (R : Fin 4096) (H : Fin 8) (d : Fin 256) : Value.res_out0 (F := Ideal) m' c (ix2 R (wide H d)) = ((padE (dq q k v o R H) d : ℝ) : EReal) := by
  rw [Att.res0, h0, h1, h2, h3]; exact Att.tPad_at _ (dq q k v o) (Att.tQ_at q k v o) R H d
theorem ref1 (K : Fin 4096) (H : Fin 8) (d : Fin 256) : Value.res_out1 (F := Ideal) m' c (ix2 K (wide H d)) = ((padE (dk q k v o K H) d : ℝ) : EReal) := by
  rw [Att.res1, h0, h1, h2, h3]; exact Att.tPad_at _ (dk q k v o) (Att.tK_at q k v o) K H d
theorem ref2 (K : Fin 4096) (H : Fin 8) (d : Fin 128) : Value.res_out2 (F := Ideal) m' c (ix2 K (slim H d)) = ((dv q k o K H d : ℝ) : EReal) := by
  rw [Att.res2, h0, h1, h3, Att.tFlat_at]; exact Att.tV_at q k o H d K
end

/-- The kernel's gradients are the reference's. -/
theorem algebraic : Cert.algebraic_KernelIdeal_ReferenceIdeal_pre_finite := by
  intro m g m' g' hpre hagree
  have hr := fun c => reals_of_pre m hpre c
  refine ⟨fun c => Cert.ReferenceIdeal.Value.res_out0 (F := Ideal) m' c, fun c => Cert.ReferenceIdeal.Value.res_out1 (F := Ideal) m' c,
    fun c => Cert.ReferenceIdeal.Value.res_out2 (F := Ideal) m' c, ?_, ?_⟩
  · refine (θ_run _ _ _).mono (fun r h c => ?_) (run_k m g)
    obtain ⟨a0, a1, a2, a3⟩ := hagree c
    have h0 := a0.trans (hr c).h0
    have h1 := a1.trans (hr c).h1
    have h2 := a2.trans (hr c).h2
    have h3 := a3.trans (hr c).h3
    exact ⟨(h c).1.trans (Cert.KernelIdeal.Att.arr6 (hr c) _ (ref0 m' c h0 h1 h2 h3)),
      (h c).2.1.trans (Cert.KernelIdeal.Att.arr7 (hr c) _ (ref1 m' c h0 h1 h2 h3)),
      (h c).2.2.1.trans (Cert.KernelIdeal.Att.arr8 (hr c) _ (ref2 m' c h0 h1 h2 h3)), (h c).2.2.2⟩
  · exact Cert.ReferenceIdeal.Value.run (F := Ideal) m' g'

/-- The reference ends with its arguments as they were; it has no semaphore. -/
theorem frame_r : Cert.quiescent_ReferenceIdeal := fun m g _ =>
  (θ_run _ _ _).mono (fun r h => ⟨fun c => (h c).2.2.2, sem_eq_zero_of_no_sems (by decide) r.2⟩) (Cert.ReferenceIdeal.Value.run (F := Ideal) m g)

end Cert.Proof
-- ==== Proof.UpDx.lean ====
/- The gradient of the up projection's input: the kernel's sum over four blocks of the inner axis is the
   reference's product. -/
module

public import proofs.«01_k».proof.Defs
public import proofs.«01_k».proof.Proof.Gen.UpDxIdeal.Value
public import proofs.«01_k».proof.Proof.Gen.UpDxRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.UpDxIdeal.Mm
open Idealize.ShloMosaic Idealize.ShloMosaic.TcCoe Idealize.ShloMosaic.Tactic Idealize.SL.Sem
open Cert.UpDxIdeal Cert.UpDxIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec Ideal S1024x1408 .bf16) (xs : Vec Ideal S1024x1024 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero org]
  unfold k0_pay2
  simp only [View.readAt_eq_ld, harg3.read_unread, harg4.read_unread, View.ld_unit_zero (S := S1024x1408) org, shapeCast_self]
/-- A step between adds the product of its blocks. -/
theorem next (hc0 : ¬cond0_0 i) (hc1 : cond0_1 i) (hc2 : ¬cond0_2 i) :
    sout0_B_0 c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero org]
  unfold k0_pay3
  simp only [View.readAt_eq_ld, harg3.read_unread, harg4.read_unread, harg6.read_unread, View.ld_unit_zero (S := S1024x1408) org, View.ld_unit_zero (S := S1024x1024) org, shapeCast_self]
/-- The last step writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs = truncf .bf16 (addf xs (k0_pay1 x0 x1)) bitsLt_bf16_f32 := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero org]
  unfold k0_pay4
  simp only [View.readAt_eq_ld, harg3.read_unread, harg4.read_unread, harg6.read_unread, View.ld_unit_zero (S := S1024x1408) org, View.ld_unit_zero (S := S1024x1024) org, shapeCast_self]
end Terms

/-- The product of two blocks, entry by entry. -/
theorem prod (x0 x1 : Vec Ideal S1024x1408 .bf16) (r e : Fin 1024) :
    k0_pay1 x0 x1 (ix2 r e) = ∑ k : Fin 1408, x0 (ix2 r k) * x1 (ix2 e k) := by
  pointwise [k0_pay1]

/-- The windows' block numbers at a point. -/
theorem idx : ∀ t : Fin cfg0.N, win0_0.index t = ![t.val / 4, t.val % 4] ∧ win0_1.index t = ![0, t.val % 4] :=
  (by decide +kernel : ∀ t : Fin grid0.N, _)
theorem lt16 (t : Fin cfg0.N) : t.val < 16 := lt_of_lt_of_eq t.isLt N_0

/-- Row `r` of the point's row block. -/
def row (t : Fin cfg0.N) (r : Fin 1024) : Fin 4096 := ⟨1024 * (t.val / 4) + r.val, by have := lt16 t; omega⟩
/-- Place `k` of block `s` of the inner axis. -/
def inn (s : Fin 4) (k : Fin 1408) : Fin 5632 := ⟨1408 * s.val + k.val, by omega⟩
/-- The point's block of the inner axis. -/
def stp (t : Fin cfg0.N) : Fin 4 := ⟨t.val % 4, by omega⟩

theorem rd0 (t : Fin cfg0.N) (r : Fin 1024) (k : Fin 1408) (X : Buf (Elt Ideal) ((c : Thread nD τ).loc main_v0)) :
    ((cfg0.win 0).blk t).view.read (Elt Ideal) X (ix2 r k) = X (ix2 (row t r) (inn (stp t) k)) := by
  blk_ext [idx t, row, inn, stp]
theorem rd1 (t : Fin cfg0.N) (e : Fin 1024) (k : Fin 1408) (X : Buf (Elt Ideal) ((c : Thread nD τ).loc main_v1)) :
    ((cfg0.win 1).blk t).view.read (Elt Ideal) X (ix2 e k) = X (ix2 e (inn (stp t) k)) := by
  blk_ext [idx t, inn, stp]
theorem V0 : V m c main_v0 = (truncf .bf16 (m ((c : Thread nD τ).loc main_arg2) : FVec Ideal S4096x5632 .f32) bitsLt_bf16_f32 : FVec Ideal S4096x5632 .bf16) := by
  after_reads_simp
theorem V1 : V m c main_v1 = (truncf .bf16 (m ((c : Thread nD τ).loc main_arg1) : FVec Ideal S1024x5632 .f32) bitsLt_bf16_f32 : FVec Ideal S1024x5632 .bf16) := by
  after_reads_simp
theorem blk0 (t : Fin cfg0.N) (r : Fin 1024) (k : Fin 1408) :
    iblk m c 0 t (ix2 r k) = (m ((c : Thread nD τ).loc main_arg2) : FVec Ideal S4096x5632 .f32) (ix2 (row t r) (inn (stp t) k)) := by
  unfold iblk
  exact (rd0 c t r k _).trans (congrFun (V0 m c) _)
theorem blk1 (t : Fin cfg0.N) (e : Fin 1024) (k : Fin 1408) :
    iblk m c 1 t (ix2 e k) = (m ((c : Thread nD τ).loc main_arg1) : FVec Ideal S1024x5632 .f32) (ix2 e (inn (stp t) k)) := by
  unfold iblk
  exact (rd1 c t e k _).trans (congrFun (V1 m c) _)

/-- An entry of the product: the sum over the inner axis. -/
def tot (x : FVec Ideal S4096x5632 .f32) (w : FVec Ideal S1024x5632 .f32) (R : Fin 4096) (e : Fin 1024) : EReal :=
  ∑ K : Fin 5632, x (ix2 R K) * w (ix2 e K)
/-- The part of it that a block of the inner axis gives. -/
def part (x : FVec Ideal S4096x5632 .f32) (w : FVec Ideal S1024x5632 .f32) (s : Fin 4) (R : Fin 4096) (e : Fin 1024) : EReal :=
  ∑ k : Fin 1408, x (ix2 R (inn s k)) * w (ix2 e (inn s k))
theorem part_sum (x : FVec Ideal S4096x5632 .f32) (w : FVec Ideal S1024x5632 .f32) (R : Fin 4096) (e : Fin 1024) :
    tot x w R e = ∑ s : Fin 4, part x w s R e := by
  unfold tot
  rw [Fin.sum_univ_tiles 4 1408 rfl fun K : Fin 5632 => x (ix2 R K) * w (ix2 e K)]
  refine Finset.sum_congr rfl fun s _ => Finset.sum_congr rfl fun k _ => ?_
  refine congrArg (fun K : Fin 5632 => x (ix2 R K) * w (ix2 e K)) (Fin.ext ?_)
  show s.val * 1408 + k.val = 1408 * s.val + k.val
  omega
theorem pay (t : Fin cfg0.N) (s : Fin 4) (hs : t.val % 4 = s.val) (r e : Fin 1024) (R : Fin 4096) (hR : R.val = 1024 * (t.val / 4) + r.val) :
    k0_pay1 (F := Ideal) (iblk m c 0 t) (iblk m c 1 t) (ix2 r e)
      = part (m ((c : Thread nD τ).loc main_arg2)) (m ((c : Thread nD τ).loc main_arg1)) s R e := by
  obtain rfl : stp t = s := Fin.ext hs
  obtain rfl : row t r = R := Fin.ext hR.symm
  refine (prod _ _ r e).trans (Finset.sum_congr rfl fun k _ => ?_)
  exact congrArg₂ (· * ·) (blk0 m c t r k) (blk1 m c t e k)

/-- The scratch after the first step. -/
theorem sum1 (t : Fin cfg0.N) (s : Fin 4) (hs : t.val % 4 = s.val) (r e : Fin 1024) (R : Fin 4096) (hR : R.val = 1024 * (t.val / 4) + r.val) (h : s.val = 0) :
    (outsAt0 m c t.val t.isLt).2 (ix2 r e) = part (m ((c : Thread nD τ).loc main_arg2)) (m ((c : Thread nD τ).loc main_arg1)) s R e := by
  rw [outsAt0_A m c t (by omega) (by omega) (by omega)]
  dsimp only
  rw [first]
  exact pay m c t s hs r e R hR
/-- A step between adds its part to the scratch. -/
theorem sum2 (t : Fin cfg0.N) (s : Fin 4) (hs : t.val % 4 = s.val) (r e : Fin 1024) (R : Fin 4096) (hR : R.val = 1024 * (t.val / 4) + r.val) (h : 1 ≤ s.val ∧ s.val ≤ 2) :
    (outsAt0 m c t.val t.isLt).2 (ix2 r e) = (outsAt0 m c (t.val - 1) (Nat.lt_of_le_of_lt (Nat.sub_le _ _) t.isLt)).2 (ix2 r e)
      + part (m ((c : Thread nD τ).loc main_arg2)) (m ((c : Thread nD τ).loc main_arg1)) s R e := by
  rw [outsAt0_B m c t (by omega) (by omega) (by omega)]
  dsimp only
  rw [next]
  exact congrArg (_ + ·) (pay m c t s hs r e R hR)
/-- What the last step writes. -/
theorem sum3 (t : Fin cfg0.N) (s : Fin 4) (hs : t.val % 4 = s.val) (r e : Fin 1024) (R : Fin 4096) (hR : R.val = 1024 * (t.val / 4) + r.val) (h : s.val = 3) :
    (outsAt0 m c t.val t.isLt).1 (ix2 r e) = (outsAt0 m c (t.val - 1) (Nat.lt_of_le_of_lt (Nat.sub_le _ _) t.isLt)).2 (ix2 r e)
      + part (m ((c : Thread nD τ).loc main_arg2)) (m ((c : Thread nD τ).loc main_arg1)) s R e := by
  rw [outsAt0_C m c t (by omega) (by omega) (by omega)]
  dsimp only
  rw [last]
  exact congrArg (_ + ·) (pay m c t s hs r e R hR)

/-- A row block's last point writes the whole sums. -/
theorem whole (b : ℕ) (hb : 4 * b + 3 < cfg0.N) (r e : Fin 1024) (R : Fin 4096) (hR : R.val = 1024 * b + r.val) :
    (outsAt0 m c (4 * b + 3) hb).1 (ix2 r e) = tot (m ((c : Thread nD τ).loc main_arg2)) (m ((c : Thread nD τ).loc main_arg1)) R e := by
  have e0 := sum1 m c ⟨4 * b, by omega⟩ 0 (by show 4 * b % 4 = 0; omega) r e R (by show _ = 1024 * (4 * b / 4) + _; omega) rfl
  have e1 := sum2 m c ⟨4 * b + 1, by omega⟩ 1 (by show (4 * b + 1) % 4 = 1; omega) r e R (by show _ = 1024 * ((4 * b + 1) / 4) + _; omega) (by decide)
  have e2 := sum2 m c ⟨4 * b + 2, by omega⟩ 2 (by show (4 * b + 2) % 4 = 2; omega) r e R (by show _ = 1024 * ((4 * b + 2) / 4) + _; omega) (by decide)
  have e3 := sum3 m c ⟨4 * b + 3, hb⟩ 3 (by show (4 * b + 3) % 4 = 3; omega) r e R (by show _ = 1024 * ((4 * b + 3) / 4) + _; omega) rfl
  rw [part_sum, Fin.sum_univ_four]
  exact e3.trans (congrArg (· + _) (e2.trans (congrArg (· + _) (e1.trans (congrArg (· + _) e0)))))

/-- The kernel's array: the product, whole. -/
theorem arr (i : S4096x1024.Idx) :
    Value.G2 m c i = tot (m ((c : Thread nD τ).loc main_arg2)) (m ((c : Thread nD τ).loc main_arg1)) (i 0) (i 1) := by
  have h0 : (i 0).val < 4096 := (i 0).isLt
  have h1 : (i 1).val < 1024 := (i 1).isLt
  have hN : cfg0.N = 16 := N_0
  have hp : Value.pt2Of i < cfg0.N := by
    show 4 * (1 * ((i 0).val / 1024 - 0) + 1 * ((i 1).val / 1024 - 0)) + 3 < cfg0.N
    omega
  unfold Value.G2
  rw [dif_pos hp, ← Value.outsAt0_sweep m c _ hp]
  have hl : Value.loc2Of i = ix2 (⟨(i 0).val % 1024, by omega⟩ : Fin 1024) (⟨(i 1).val, h1⟩ : Fin 1024) := by
    funext a
    match a with
    | ⟨0, _⟩ => rfl
    | ⟨1, _⟩ => exact Fin.ext (Nat.mod_eq_of_lt h1)
  rw [hl]
  exact whole m c (Value.run2Of i) hp _ _ (i 0) (by
    show (i 0).val = 1024 * (1 * ((i 0).val / 1024 - 0) + 1 * ((i 1).val / 1024 - 0)) + (i 0).val % 1024
    omega)

end Cert.UpDxIdeal.Mm

namespace Cert.Proof
open Idealize.ShloMosaic Idealize.ShloMosaic.TcCoe Idealize.SL.Sem

section
open Cert.UpDxRefIdeal Cert.UpDxRefIdeal.Gen
/-- The reference's product, entry by entry. -/
theorem upDx_ref (x : FVec Ideal S4096x5632 .f32) (w : FVec Ideal S1024x5632 .f32) (R : Fin 4096) (e : Fin 1024) :
    (truncf .bf16 (Host.dotGeneral dot_S4096x5632_S1024x5632_S4096x1024_1_1_0_0_n_n none x w) bitsLt_bf16_f32 : FVec Ideal S4096x1024 .bf16) (ix2 R e)
      = Cert.UpDxIdeal.Mm.tot x w R e := by
  pointwise [Cert.UpDxIdeal.Mm.tot]
end

/-- The kernel's gradient is the reference's. -/
theorem upDx : Cert.algebraic_UpDxIdeal_UpDxRefIdeal := by
  intro m g m' g' _ hagree
  refine ⟨fun c => _, ?_, Cert.UpDxRefIdeal.Value.run (F := Ideal) m' g'⟩
  refine (θ_run _ _ _).mono (fun r h c => ⟨(h c).1.trans ?_, (h c).2⟩) (Cert.UpDxIdeal.Value.run (F := Ideal) m g)
  obtain ⟨a0, a1, a2⟩ := hagree c
  funext i
  exact ((Cert.UpDxIdeal.Mm.arr m c i).trans (congrArg₂ (fun x w => Cert.UpDxIdeal.Mm.tot x w (i 0) (i 1)) a2.symm a1.symm)).trans
    ((upDx_ref _ _ (i 0) (i 1)).symm.trans (congrArg _ (ix2_eta i)))

/-- The reference ends with its arguments as they were. -/
theorem frame_upDx : Cert.quiescent_UpDxRefIdeal := fun m g _ =>
  (θ_run _ _ _).mono (fun r h => ⟨fun c => (h c).2, sem_eq_zero_of_no_sems (by decide) r.2⟩) (Cert.UpDxRefIdeal.Value.run (F := Ideal) m g)

end Cert.Proof
-- ==== Proof.UpDw.lean ====
/- The gradient of the up projection's weights: the kernel's sum over two halves of the rows is the
   reference's product. -/
module

public import proofs.«01_k».proof.Defs
public import proofs.«01_k».proof.Proof.Gen.UpDwIdeal.Value
public import proofs.«01_k».proof.Proof.Gen.UpDwRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.UpDwIdeal.Mm
open Idealize.ShloMosaic Idealize.ShloMosaic.TcCoe Idealize.ShloMosaic.Tactic Idealize.SL.Sem
open Cert.UpDwIdeal Cert.UpDwIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .bf16) (harg5 : arg5.IsWhole) (arg6 : Memref sig .tc .vmem S1024x1408 .f32) (harg6 : arg6.IsWhole)
  (x0 : Vec Ideal S2048x1024 .bf16) (x1 : Vec Ideal S2048x1408 .bf16) (xs : Vec Ideal S1024x1408 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero org]
  unfold k0_pay2
  simp only [View.readAt_eq_ld, harg3.read_unread, harg4.read_unread, View.ld_unit_zero (S := S2048x1024) org, View.ld_unit_zero (S := S2048x1408) org, shapeCast_self]
/-- The last step writes the sum out. -/
theorem last (hc0 : ¬cond0_0 i) (hc1 : ¬cond0_1 i) (hc2 : cond0_2 i) :
    out0_B_2 c i arg3 harg3 arg4 harg4 arg5 harg5 arg6 harg6 hc0 hc1 hc2 x0 x1 xs = truncf .bf16 (addf xs (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero org]
  unfold k0_pay4
  simp only [View.readAt_eq_ld, harg3.read_unread, harg4.read_unread, harg6.read_unread, View.ld_unit_zero (S := S2048x1024) org, View.ld_unit_zero (S := S2048x1408) org, View.ld_unit_zero (S := S1024x1408) org, shapeCast_self]
end Terms

/-- The product of two blocks, entry by entry. -/
theorem prod (x0 : Vec Ideal S2048x1024 .bf16) (x1 : Vec Ideal S2048x1408 .bf16) (r : Fin 1024) (e : Fin 1408) :
    k0_pay1 x0 x1 (ix2 r e) = ∑ k : Fin 2048, x0 (ix2 k r) * x1 (ix2 k e) := by
  pointwise [k0_pay1]

/-- The windows' block numbers at a point. -/
theorem idx : ∀ t : Fin cfg0.N, win0_0.index t = ![t.val % 2, 0] ∧ win0_1.index t = ![t.val % 2, t.val / 2] :=
  (by decide +kernel : ∀ t : Fin grid0.N, _)
theorem lt_pts (t : Fin cfg0.N) : t.val < 8 := lt_of_lt_of_eq t.isLt N_0

/-- The array's column of place `e` in the point's block. -/
def col (t : Fin cfg0.N) (e : Fin 1408) : Fin 5632 := ⟨1408 * (t.val / 2) + e.val, by have := lt_pts t; omega⟩
/-- Row `k` of half `s` of the 4096. -/
def inn (s : Fin 2) (k : Fin 2048) : Fin 4096 := ⟨2048 * s.val + k.val, by omega⟩
/-- The point's half. -/
def stp (t : Fin cfg0.N) : Fin 2 := ⟨t.val % 2, by omega⟩

theorem rd0 (t : Fin cfg0.N) (k : Fin 2048) (r : Fin 1024) (X : Buf (Elt Ideal) ((c : Thread nD τ).loc main_v0)) :
    ((cfg0.win 0).blk t).view.read (Elt Ideal) X (ix2 k r) = X (ix2 (inn (stp t) k) r) := by
  blk_ext [idx t, inn, stp, col]
theorem rd1 (t : Fin cfg0.N) (k : Fin 2048) (e : Fin 1408) (X : Buf (Elt Ideal) ((c : Thread nD τ).loc main_v1)) :
    ((cfg0.win 1).blk t).view.read (Elt Ideal) X (ix2 k e) = X (ix2 (inn (stp t) k) (col t e)) := by
  blk_ext [idx t, inn, stp, col]
theorem V0 : V m c main_v0 = (truncf .bf16 (m ((c : Thread nD τ).loc main_arg0) : FVec Ideal S4096x1024 .f32) bitsLt_bf16_f32 : FVec Ideal S4096x1024 .bf16) := by
  after_reads_simp
theorem V1 : V m c main_v1 = (truncf .bf16 (m ((c : Thread nD τ).loc main_arg2) : FVec Ideal S4096x5632 .f32) bitsLt_bf16_f32 : FVec Ideal S4096x5632 .bf16) := by
  after_reads_simp
theorem blk0 (t : Fin cfg0.N) (k : Fin 2048) (r : Fin 1024) :
    iblk m c 0 t (ix2 k r) = (m ((c : Thread nD τ).loc main_arg0) : FVec Ideal S4096x1024 .f32) (ix2 (inn (stp t) k) r) := by
  unfold iblk
  exact (rd0 c t k r _).trans (congrFun (V0 m c) _)
theorem blk1 (t : Fin cfg0.N) (k : Fin 2048) (e : Fin 1408) :
    iblk m c 1 t (ix2 k e) = (m ((c : Thread nD τ).loc main_arg2) : FVec Ideal S4096x5632 .f32) (ix2 (inn (stp t) k) (col t e)) := by
  unfold iblk
  exact (rd1 c t k e _).trans (congrFun (V1 m c) _)

/-- An entry of the product: the sum over the 4096 rows. -/
def tot (x : FVec Ideal S4096x1024 .f32) (y : FVec Ideal S4096x5632 .f32) (R : Fin 1024) (E : Fin 5632) : EReal :=
  ∑ K : Fin 4096, x (ix2 K R) * y (ix2 K E)
/-- The part of it that a half of the rows gives. -/
def part (x : FVec Ideal S4096x1024 .f32) (y : FVec Ideal S4096x5632 .f32) (s : Fin 2) (R : Fin 1024) (E : Fin 5632) : EReal :=
  ∑ k : Fin 2048, x (ix2 (inn s k) R) * y (ix2 (inn s k) E)
theorem part_sum (x : FVec Ideal S4096x1024 .f32) (y : FVec Ideal S4096x5632 .f32) (R : Fin 1024) (E : Fin 5632) :
    tot x y R E = ∑ s : Fin 2, part x y s R E := by
  unfold tot
  rw [Fin.sum_univ_tiles 2 2048 rfl fun K : Fin 4096 => x (ix2 K R) * y (ix2 K E)]
  refine Finset.sum_congr rfl fun s _ => Finset.sum_congr rfl fun k _ => ?_
  refine congrArg (fun K : Fin 4096 => x (ix2 K R) * y (ix2 K E)) (Fin.ext ?_)
  show s.val * 2048 + k.val = 2048 * s.val + k.val
  omega
theorem pay (t : Fin cfg0.N) (s : Fin 2) (hs : t.val % 2 = s.val) (r : Fin 1024) (e : Fin 1408) (E : Fin 5632) (hB : E.val = 1408 * (t.val / 2) + e.val) :
    k0_pay1 (F := Ideal) (iblk m c 0 t) (iblk m c 1 t) (ix2 r e)
      = part (m ((c : Thread nD τ).loc main_arg0)) (m ((c : Thread nD τ).loc main_arg2)) s r E := by
  obtain rfl : stp t = s := Fin.ext hs
  obtain rfl : col t e = E := Fin.ext hB.symm
  refine (prod _ _ r e).trans (Finset.sum_congr rfl fun k _ => ?_)
  exact congrArg₂ (· * ·) (blk0 m c t k r) (blk1 m c t k e)

/-- The scratch after the first step. -/
theorem sum1 (t : Fin cfg0.N) (s : Fin 2) (hs : t.val % 2 = s.val) (r : Fin 1024) (e : Fin 1408) (E : Fin 5632) (hB : E.val = 1408 * (t.val / 2) + e.val) (h : s.val = 0) :
    (outsAt0 m c t.val t.isLt).2 (ix2 r e) = part (m ((c : Thread nD τ).loc main_arg0)) (m ((c : Thread nD τ).loc main_arg2)) s r E := by
  rw [outsAt0_A m c t (by omega) (by omega)]
  dsimp only
  rw [first]
  exact pay m c t s hs r e E hB
/-- What the last step writes. -/
theorem sum2 (t : Fin cfg0.N) (s : Fin 2) (hs : t.val % 2 = s.val) (r : Fin 1024) (e : Fin 1408) (E : Fin 5632) (hB : E.val = 1408 * (t.val / 2) + e.val) (h : s.val = 1) :
    (outsAt0 m c t.val t.isLt).1 (ix2 r e) = (outsAt0 m c (t.val - 1) (Nat.lt_of_le_of_lt (Nat.sub_le _ _) t.isLt)).2 (ix2 r e)
      + part (m ((c : Thread nD τ).loc main_arg0)) (m ((c : Thread nD τ).loc main_arg2)) s r E := by
  rw [outsAt0_B m c t (by omega) (by omega)]
  dsimp only
  rw [last]
  exact congrArg (_ + ·) (pay m c t s hs r e E hB)

/-- A block's last point writes the whole sums. -/
theorem whole (b : ℕ) (hb : 2 * b + 1 < cfg0.N) (r : Fin 1024) (e : Fin 1408) (E : Fin 5632) (hB : E.val = 1408 * b + e.val) :
    (outsAt0 m c (2 * b + 1) hb).1 (ix2 r e) = tot (m ((c : Thread nD τ).loc main_arg0)) (m ((c : Thread nD τ).loc main_arg2)) r E := by
  have e0 := sum1 m c ⟨2 * b, by omega⟩ 0 (by show 2 * b % 2 = 0; omega) r e E (by show _ = 1408 * (2 * b / 2) + _; omega) rfl
  have e1 := sum2 m c ⟨2 * b + 1, hb⟩ 1 (by show (2 * b + 1) % 2 = 1; omega) r e E (by show _ = 1408 * ((2 * b + 1) / 2) + _; omega) rfl
  rw [part_sum, Fin.sum_univ_two]
  exact e1.trans (congrArg (· + _) e0)

/-- The kernel's array: the product, whole. -/
theorem arr (i : S1024x5632.Idx) :
    Value.G2 m c i = tot (m ((c : Thread nD τ).loc main_arg0)) (m ((c : Thread nD τ).loc main_arg2)) (i 0) (i 1) := by
  have h0 : (i 0).val < 1024 := (i 0).isLt
  have h1 : (i 1).val < 5632 := (i 1).isLt
  have hN : cfg0.N = 8 := N_0
  have hp : Value.pt2Of i < cfg0.N := by
    show 2 * (4 * ((i 0).val / 1024 - 0) + 1 * ((i 1).val / 1408 - 0)) + 1 < cfg0.N
    omega
  unfold Value.G2
  rw [dif_pos hp, ← Value.outsAt0_sweep m c _ hp]
  have hl : Value.loc2Of i = ix2 (⟨(i 0).val, h0⟩ : Fin 1024) (⟨(i 1).val % 1408, by omega⟩ : Fin 1408) := by
    funext a
    match a with
    | ⟨0, _⟩ => exact Fin.ext (Nat.mod_eq_of_lt h0)
    | ⟨1, _⟩ => rfl
  rw [hl]
  exact whole m c (Value.run2Of i) hp _ _ (i 1) (by
    show (i 1).val = 1408 * (4 * ((i 0).val / 1024 - 0) + 1 * ((i 1).val / 1408 - 0)) + (i 1).val % 1408
    omega)

end Cert.UpDwIdeal.Mm

namespace Cert.Proof
open Idealize.ShloMosaic Idealize.ShloMosaic.TcCoe Idealize.SL.Sem

section
open Cert.UpDwRefIdeal Cert.UpDwRefIdeal.Gen
/-- The reference's product, entry by entry: its factors come in the other order. -/
theorem upDw_ref (x : FVec Ideal S4096x1024 .f32) (y : FVec Ideal S4096x5632 .f32) (R : Fin 1024) (E : Fin 5632) :
    (truncf .bf16 (transpose S1024x5632 [1, 0] (Host.dotGeneral dot_S4096x5632_S4096x1024_S5632x1024_0_0_1_1_n_n none y x) transposes_S5632x1024_S1024x5632_1_0) bitsLt_bf16_f32 : FVec Ideal S1024x5632 .bf16) (ix2 R E)
      = Cert.UpDwIdeal.Mm.tot x y R E := by
  unfold Cert.UpDwIdeal.Mm.tot
  simp only [mul_comm (x _)]
  pointwise
end

/-- The kernel's gradient is the reference's. -/
theorem upDw : Cert.algebraic_UpDwIdeal_UpDwRefIdeal := by
  intro m g m' g' _ hagree
  refine ⟨fun c => _, ?_, Cert.UpDwRefIdeal.Value.run (F := Ideal) m' g'⟩
  refine (θ_run _ _ _).mono (fun r h c => ⟨(h c).1.trans ?_, (h c).2⟩) (Cert.UpDwIdeal.Value.run (F := Ideal) m g)
  obtain ⟨a0, a1, a2⟩ := hagree c
  funext i
  exact ((Cert.UpDwIdeal.Mm.arr m c i).trans (congrArg₂ (fun x y => Cert.UpDwIdeal.Mm.tot x y (i 0) (i 1)) a0.symm a2.symm)).trans
    ((upDw_ref _ _ (i 0) (i 1)).symm.trans (congrArg _ (ix2_eta i)))

/-- The reference ends with its arguments as they were. -/
theorem frame_upDw : Cert.quiescent_UpDwRefIdeal := fun m g _ =>
  (θ_run _ _ _).mono (fun r h => ⟨fun c => (h c).2, sem_eq_zero_of_no_sems (by decide) r.2⟩) (Cert.UpDwRefIdeal.Value.run (F := Ideal) m g)

end Cert.Proof
-- ==== Proof.DownDx.lean ====
/- The gradient of the down projection's input: the kernel's product, block by block, is the reference's. -/
module

public import proofs.«01_k».proof.Defs
public import proofs.«01_k».proof.Proof.Gen.DownDxIdeal.Value
public import proofs.«01_k».proof.Proof.Gen.DownDxRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.DownDxIdeal.Mm
open Idealize.ShloMosaic Idealize.ShloMosaic.TcCoe Idealize.ShloMosaic.Tactic Idealize.SL.Sem
open Cert.DownDxIdeal Cert.DownDxIdeal.Gen

variable (m : (ℓ : Loc nD τ sig) → Buf (Elt Ideal) ℓ) (c : Dev nD)

theorem org : (![0, 0] : Fin 2 → ℕ) = fun _ => 0 := by
  funext i; fin_cases i <;> rfl

/-- What the body leaves of two blocks: their product. -/
theorem out (x0 : Vec Ideal S1024x1024 .bf16) (x1 : Vec Ideal S1408x1024 .bf16) : out0_2 x0 x1 = k0_pay1 x0 x1 := by
  unfold out0_2
  rw [View.canon_unit_zero org]
  simp only [View.ld_unit_zero (S := S1024x1024) org, View.ld_unit_zero (S := S1408x1024) org]
/-- The product of two blocks, entry by entry. -/
theorem prod (x0 : Vec Ideal S1024x1024 .bf16) (x1 : Vec Ideal S1408x1024 .bf16) (r : Fin 1024) (e : Fin 1408) :
    k0_pay1 x0 x1 (ix2 r e) = ∑ k : Fin 1024, x0 (ix2 r k) * x1 (ix2 e k) := by
  pointwise [k0_pay1]

/-- The windows' block numbers at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)
/-- Every point writes its block back. -/
theorem flush : ∀ t : Fin cfg0.N, (cfg0.win 2).flush t = true :=
  (by decide +kernel : ∀ t : Fin grid0.N, (cfg0.win 2).flush t = true)
theorem ltN (t : Fin cfg0.N) : t.val < 8 := lt_of_lt_of_eq t.isLt N_0

/-- Row `r` of the point's row block. -/
def row (t : Fin cfg0.N) (r : Fin 1024) : Fin 4096 := ⟨1024 * (t.val / 2) + r.val, by have := ltN t; omega⟩
/-- Column `e` of the point's column block. -/
def col (t : Fin cfg0.N) (e : Fin 1408) : Fin 2816 := ⟨1408 * (t.val % 2) + e.val, by omega⟩

theorem rd0 (t : Fin cfg0.N) (r k : Fin 1024) (X : Buf (Elt Ideal) ((c : Thread nD τ).loc main_v0)) :
    ((cfg0.win 0).blk t).view.read (Elt Ideal) X (ix2 r k) = X (ix2 (row t r) k) := by
  blk_ext [idx t, row]
theorem rd1 (t : Fin cfg0.N) (e : Fin 1408) (k : Fin 1024) (X : Buf (Elt Ideal) ((c : Thread nD τ).loc main_v1)) :
    ((cfg0.win 1).blk t).view.read (Elt Ideal) X (ix2 e k) = X (ix2 (col t e) k) := by
  blk_ext [idx t, col]
theorem rd2 (t : Fin cfg0.N) (r : Fin 1024) (e : Fin 1408) (X : Buf (Elt Ideal) ((c : Thread nD τ).loc main_v2)) :
    ((cfg0.win 2).blk t).view.read (Elt Ideal) X (ix2 r e) = X (ix2 (row t r) (col t e)) := by
  blk_ext [idx t, row, col]
theorem V0 : V m c main_v0 = (truncf .bf16 (m ((c : Thread nD τ).loc main_arg2) : FVec Ideal S4096x1024 .f32) bitsLt_bf16_f32 : FVec Ideal S4096x1024 .bf16) := by
  after_reads_simp
theorem V1 : V m c main_v1 = (truncf .bf16 (m ((c : Thread nD τ).loc main_arg1) : FVec Ideal S2816x1024 .f32) bitsLt_bf16_f32 : FVec Ideal S2816x1024 .bf16) := by
  after_reads_simp
theorem blk0 (t : Fin cfg0.N) (r k : Fin 1024) :
    iblk m c 0 t (ix2 r k) = (m ((c : Thread nD τ).loc main_arg2) : FVec Ideal S4096x1024 .f32) (ix2 (row t r) k) := by
  unfold iblk
  exact (rd0 c t r k _).trans (congrFun (V0 m c) _)
theorem blk1 (t : Fin cfg0.N) (e : Fin 1408) (k : Fin 1024) :
    iblk m c 1 t (ix2 e k) = (m ((c : Thread nD τ).loc main_arg1) : FVec Ideal S2816x1024 .f32) (ix2 (col t e) k) := by
  unfold iblk
  exact (rd1 c t e k _).trans (congrFun (V1 m c) _)

/-- An entry of the product: the sum over the inner axis. -/
def tot (x : FVec Ideal S4096x1024 .f32) (w : FVec Ideal S2816x1024 .f32) (R : Fin 4096) (e : Fin 2816) : EReal :=
  ∑ k : Fin 1024, x (ix2 R k) * w (ix2 e k)
/-- What a point writes back, entry by entry. -/
theorem pay (t : Fin cfg0.N) (r : Fin 1024) (e : Fin 1408) :
    (dats m 0 c).flushed 2 t (ix2 r e)
      = tot (m ((c : Thread nD τ).loc main_arg2)) (m ((c : Thread nD τ).loc main_arg1)) (row t r) (col t e) := by
  rw [Value.flushed2, out]
  refine (prod _ _ r e).trans (Finset.sum_congr rfl fun k _ => ?_)
  exact congrArg₂ (· * ·) (blk0 m c t r k) (blk1 m c t e k)

/-- The kernel's array: the product, whole. -/
theorem arr (i : S4096x2816.Idx) :
    ((dats m 0 c).arrAt 2 cfg0.N : Buf (Elt Ideal) ((c : Thread nD τ).loc main_v2)) i
      = tot (m ((c : Thread nD τ).loc main_arg2)) (m ((c : Thread nD τ).loc main_arg1)) (i 0) (i 1) := by
  have h0 : (i 0).val < 4096 := (i 0).isLt
  have h1 : (i 1).val < 2816 := (i 1).isLt
  have hN : cfg0.N = 8 := N_0
  obtain ⟨t, ht⟩ : ∃ t : Fin cfg0.N, t.val = 2 * ((i 0).val / 1024) + (i 1).val / 1408 := ⟨⟨_, by omega⟩, rfl⟩
  have e0 : row t ⟨(i 0).val % 1024, by omega⟩ = i 0 := Fin.ext (by
    show 1024 * (t.val / 2) + (i 0).val % 1024 = (i 0).val
    omega)
  have e1 : col t ⟨(i 1).val % 1408, by omega⟩ = i 1 := Fin.ext (by
    show 1408 * (t.val % 2) + (i 1).val % 1408 = (i 1).val
    omega)
  have hb := congrFun (Value.blocks2 m c t (flush t)) (ix2 (⟨(i 0).val % 1024, by omega⟩ : Fin 1024) (⟨(i 1).val % 1408, by omega⟩ : Fin 1408))
  have hr := (rd2 c t _ _ _).symm.trans (hb.trans (pay m c t _ _))
  rw [e0, e1] at hr
  exact (congrArg _ (ix2_eta i).symm).trans hr

end Cert.DownDxIdeal.Mm

namespace Cert.Proof
open Idealize.ShloMosaic Idealize.ShloMosaic.TcCoe Idealize.SL.Sem

section
open Cert.DownDxRefIdeal Cert.DownDxRefIdeal.Gen
/-- The reference's product, entry by entry. -/
theorem downDx_ref (x : FVec Ideal S4096x1024 .f32) (w : FVec Ideal S2816x1024 .f32) (R : Fin 4096) (e : Fin 2816) :
    (truncf .bf16 (Host.dotGeneral dot_S4096x1024_S2816x1024_S4096x2816_1_1_0_0_n_n none x w) bitsLt_bf16_f32 : FVec Ideal S4096x2816 .bf16) (ix2 R e)
      = Cert.DownDxIdeal.Mm.tot x w R e := by
  pointwise [Cert.DownDxIdeal.Mm.tot]
end

/-- The kernel's product is the reference's. -/
theorem downDx : Cert.algebraic_DownDxIdeal_DownDxRefIdeal := by
  intro m g m' g' _ hagree
  refine ⟨fun c => _, ?_, Cert.DownDxRefIdeal.Value.run (F := Ideal) m' g'⟩
  refine (θ_run _ _ _).mono (fun r h c => ⟨(h c).1.trans ?_, (h c).2⟩) (Cert.DownDxIdeal.Value.run_blocks (F := Ideal) m g)
  obtain ⟨a0, a1, a2⟩ := hagree c
  funext i
  exact ((Cert.DownDxIdeal.Mm.arr m c i).trans (congrArg₂ (fun x w => Cert.DownDxIdeal.Mm.tot x w (i 0) (i 1)) a2.symm a1.symm)).trans
    ((downDx_ref _ _ (i 0) (i 1)).symm.trans (congrArg _ (ix2_eta i)))

/-- The reference ends with its arguments as they were. -/
theorem frame_downDx : Cert.quiescent_DownDxRefIdeal := fun m g _ =>
  (θ_run _ _ _).mono (fun r h => ⟨fun c => (h c).2, sem_eq_zero_of_no_sems (by decide) r.2⟩) (Cert.DownDxRefIdeal.Value.run (F := Ideal) m g)

end Cert.Proof
-- ==== Proof.DownDw.lean ====
/- The gradient of the down projection's weights: the kernel's sum over two halves of the rows is the
   reference's product. -/
module

public import proofs.«01_k».proof.Defs
public import proofs.«01_k».proof.Proof.Gen.DownDwIdeal.Value
public import proofs.«01_k».proof.Proof.Gen.DownDwRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.DownDwIdeal.Mm
open Idealize.ShloMosaic Idealize.ShloMosaic.TcCoe Idealize.ShloMosaic.Tactic Idealize.SL.Sem
open Cert.DownDwIdeal Cert.DownDwIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero org]
  unfold k0_pay2
  simp only [View.readAt_eq_ld, harg3.read_unread, harg4.read_unread, View.ld_unit_zero (S := S2048x1408) org, View.ld_unit_zero (S := S2048x1024) org, shapeCast_self]
/-- The last step writes the sum out. -/
theorem last (hc0 : ¬cond0_0 i) (hc1 : ¬cond0_1 i) (hc2 : cond0_2 i) :
    out0_B_2 c i arg3 harg3 arg4 harg4 arg5 harg5 arg6 harg6 hc0 hc1 hc2 x0 x1 xs = truncf .bf16 (addf xs (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero org]
  unfold k0_pay4
  simp only [View.readAt_eq_ld, harg3.read_unread, harg4.read_unread, harg6.read_unread, View.ld_unit_zero (S := S2048x1408) org, View.ld_unit_zero (S := S2048x1024) org, View.ld_unit_zero (S := S1408x1024) org, shapeCast_self]
end Terms

/-- The product of two blocks, entry by entry. -/
theorem prod (x0 : Vec Ideal S2048x1408 .bf16) (x1 : Vec Ideal S2048x1024 .bf16) (r : Fin 1408) (e : Fin 1024) :
    k0_pay1 x0 x1 (ix2 r e) = ∑ k : Fin 2048, x0 (ix2 k r) * x1 (ix2 k e) := by
  pointwise [k0_pay1]

/-- The windows' block numbers at a point. -/
theorem idx : ∀ t : Fin cfg0.N, win0_0.index t = ![t.val % 2, t.val / 2] ∧ win0_1.index t = ![t.val % 2, 0] :=
  (by decide +kernel : ∀ t : Fin grid0.N, _)
theorem lt_pts (t : Fin cfg0.N) : t.val < 4 := lt_of_lt_of_eq t.isLt N_0

/-- The array's row of place `e` in the point's block. -/
def row (t : Fin cfg0.N) (e : Fin 1408) : Fin 2816 := ⟨1408 * (t.val / 2) + e.val, by have := lt_pts t; omega⟩
/-- Row `k` of half `s` of the 4096. -/
def inn (s : Fin 2) (k : Fin 2048) : Fin 4096 := ⟨2048 * s.val + k.val, by omega⟩
/-- The point's half. -/
def stp (t : Fin cfg0.N) : Fin 2 := ⟨t.val % 2, by omega⟩

theorem rd0 (t : Fin cfg0.N) (k : Fin 2048) (r : Fin 1408) (X : Buf (Elt Ideal) ((c : Thread nD τ).loc main_v0)) :
    ((cfg0.win 0).blk t).view.read (Elt Ideal) X (ix2 k r) = X (ix2 (inn (stp t) k) (row t r)) := by
  blk_ext [idx t, inn, stp, row]
theorem rd1 (t : Fin cfg0.N) (k : Fin 2048) (e : Fin 1024) (X : Buf (Elt Ideal) ((c : Thread nD τ).loc main_v1)) :
    ((cfg0.win 1).blk t).view.read (Elt Ideal) X (ix2 k e) = X (ix2 (inn (stp t) k) e) := by
  blk_ext [idx t, inn, stp, row]
theorem V0 : V m c main_v0 = (truncf .bf16 (m ((c : Thread nD τ).loc main_arg0) : FVec Ideal S4096x2816 .f32) bitsLt_bf16_f32 : FVec Ideal S4096x2816 .bf16) := by
  after_reads_simp
theorem V1 : V m c main_v1 = (truncf .bf16 (m ((c : Thread nD τ).loc main_arg2) : FVec Ideal S4096x1024 .f32) bitsLt_bf16_f32 : FVec Ideal S4096x1024 .bf16) := by
  after_reads_simp
theorem blk0 (t : Fin cfg0.N) (k : Fin 2048) (r : Fin 1408) :
    iblk m c 0 t (ix2 k r) = (m ((c : Thread nD τ).loc main_arg0) : FVec Ideal S4096x2816 .f32) (ix2 (inn (stp t) k) (row t r)) := by
  unfold iblk
  exact (rd0 c t k r _).trans (congrFun (V0 m c) _)
theorem blk1 (t : Fin cfg0.N) (k : Fin 2048) (e : Fin 1024) :
    iblk m c 1 t (ix2 k e) = (m ((c : Thread nD τ).loc main_arg2) : FVec Ideal S4096x1024 .f32) (ix2 (inn (stp t) k) e) := by
  unfold iblk
  exact (rd1 c t k e _).trans (congrFun (V1 m c) _)

/-- An entry of the product: the sum over the 4096 rows. -/
def tot (x : FVec Ideal S4096x2816 .f32) (y : FVec Ideal S4096x1024 .f32) (R : Fin 2816) (E : Fin 1024) : EReal :=
  ∑ K : Fin 4096, x (ix2 K R) * y (ix2 K E)
/-- The part of it that a half of the rows gives. -/
def part (x : FVec Ideal S4096x2816 .f32) (y : FVec Ideal S4096x1024 .f32) (s : Fin 2) (R : Fin 2816) (E : Fin 1024) : EReal :=
  ∑ k : Fin 2048, x (ix2 (inn s k) R) * y (ix2 (inn s k) E)
theorem part_sum (x : FVec Ideal S4096x2816 .f32) (y : FVec Ideal S4096x1024 .f32) (R : Fin 2816) (E : Fin 1024) :
    tot x y R E = ∑ s : Fin 2, part x y s R E := by
  unfold tot
  rw [Fin.sum_univ_tiles 2 2048 rfl fun K : Fin 4096 => x (ix2 K R) * y (ix2 K E)]
  refine Finset.sum_congr rfl fun s _ => Finset.sum_congr rfl fun k _ => ?_
  refine congrArg (fun K : Fin 4096 => x (ix2 K R) * y (ix2 K E)) (Fin.ext ?_)
  show s.val * 2048 + k.val = 2048 * s.val + k.val
  omega
theorem pay (t : Fin cfg0.N) (s : Fin 2) (hs : t.val % 2 = s.val) (r : Fin 1408) (e : Fin 1024) (R : Fin 2816) (hB : R.val = 1408 * (t.val / 2) + r.val) :
    k0_pay1 (F := Ideal) (iblk m c 0 t) (iblk m c 1 t) (ix2 r e)
      = part (m ((c : Thread nD τ).loc main_arg0)) (m ((c : Thread nD τ).loc main_arg2)) s R e := by
  obtain rfl : stp t = s := Fin.ext hs
  obtain rfl : row t r = R := Fin.ext hB.symm
  refine (prod _ _ r e).trans (Finset.sum_congr rfl fun k _ => ?_)
  exact congrArg₂ (· * ·) (blk0 m c t k r) (blk1 m c t k e)

/-- The scratch after the first step. -/
theorem sum1 (t : Fin cfg0.N) (s : Fin 2) (hs : t.val % 2 = s.val) (r : Fin 1408) (e : Fin 1024) (R : Fin 2816) (hB : R.val = 1408 * (t.val / 2) + r.val) (h : s.val = 0) :
    (outsAt0 m c t.val t.isLt).2 (ix2 r e) = part (m ((c : Thread nD τ).loc main_arg0)) (m ((c : Thread nD τ).loc main_arg2)) s R e := by
  rw [outsAt0_A m c t (by omega) (by omega)]
  dsimp only
  rw [first]
  exact pay m c t s hs r e R hB
/-- What the last step writes. -/
theorem sum2 (t : Fin cfg0.N) (s : Fin 2) (hs : t.val % 2 = s.val) (r : Fin 1408) (e : Fin 1024) (R : Fin 2816) (hB : R.val = 1408 * (t.val / 2) + r.val) (h : s.val = 1) :
    (outsAt0 m c t.val t.isLt).1 (ix2 r e) = (outsAt0 m c (t.val - 1) (Nat.lt_of_le_of_lt (Nat.sub_le _ _) t.isLt)).2 (ix2 r e)
      + part (m ((c : Thread nD τ).loc main_arg0)) (m ((c : Thread nD τ).loc main_arg2)) s R e := by
  rw [outsAt0_B m c t (by omega) (by omega)]
  dsimp only
  rw [last]
  exact congrArg (_ + ·) (pay m c t s hs r e R hB)

/-- A block's last point writes the whole sums. -/
theorem whole (b : ℕ) (hb : 2 * b + 1 < cfg0.N) (r : Fin 1408) (e : Fin 1024) (R : Fin 2816) (hB : R.val = 1408 * b + r.val) :
    (outsAt0 m c (2 * b + 1) hb).1 (ix2 r e) = tot (m ((c : Thread nD τ).loc main_arg0)) (m ((c : Thread nD τ).loc main_arg2)) R e := by
  have e0 := sum1 m c ⟨2 * b, by omega⟩ 0 (by show 2 * b % 2 = 0; omega) r e R (by show _ = 1408 * (2 * b / 2) + _; omega) rfl
  have e1 := sum2 m c ⟨2 * b + 1, hb⟩ 1 (by show (2 * b + 1) % 2 = 1; omega) r e R (by show _ = 1408 * ((2 * b + 1) / 2) + _; omega) rfl
  rw [part_sum, Fin.sum_univ_two]
  exact e1.trans (congrArg (· + _) e0)

/-- The kernel's array: the product, whole. -/
theorem arr (i : S2816x1024.Idx) :
    Value.G2 m c i = tot (m ((c : Thread nD τ).loc main_arg0)) (m ((c : Thread nD τ).loc main_arg2)) (i 0) (i 1) := by
  have h0 : (i 0).val < 2816 := (i 0).isLt
  have h1 : (i 1).val < 1024 := (i 1).isLt
  have hN : cfg0.N = 4 := N_0
  have hp : Value.pt2Of i < cfg0.N := by
    show 2 * (1 * ((i 0).val / 1408 - 0) + 1 * ((i 1).val / 1024 - 0)) + 1 < cfg0.N
    omega
  unfold Value.G2
  rw [dif_pos hp, ← Value.outsAt0_sweep m c _ hp]
  have hl : Value.loc2Of i = ix2 (⟨(i 0).val % 1408, by omega⟩ : Fin 1408) (⟨(i 1).val, h1⟩ : Fin 1024) := by
    funext a
    match a with
    | ⟨0, _⟩ => rfl
    | ⟨1, _⟩ => exact Fin.ext (Nat.mod_eq_of_lt h1)
  rw [hl]
  exact whole m c (Value.run2Of i) hp _ _ (i 0) (by
    show (i 0).val = 1408 * (1 * ((i 0).val / 1408 - 0) + 1 * ((i 1).val / 1024 - 0)) + (i 0).val % 1408
    omega)

end Cert.DownDwIdeal.Mm

namespace Cert.Proof
open Idealize.ShloMosaic Idealize.ShloMosaic.TcCoe Idealize.SL.Sem

section
open Cert.DownDwRefIdeal Cert.DownDwRefIdeal.Gen
/-- The reference's product, entry by entry: its factors come in the other order. -/
theorem downDw_ref (x : FVec Ideal S4096x2816 .f32) (y : FVec Ideal S4096x1024 .f32) (R : Fin 2816) (E : Fin 1024) :
    (truncf .bf16 (transpose S2816x1024 [1, 0] (Host.dotGeneral dot_S4096x1024_S4096x2816_S1024x2816_0_0_1_1_n_n none y x) transposes_S1024x2816_S2816x1024_1_0) bitsLt_bf16_f32 : FVec Ideal S2816x1024 .bf16) (ix2 R E)
      = Cert.DownDwIdeal.Mm.tot x y R E := by
  unfold Cert.DownDwIdeal.Mm.tot
  simp only [mul_comm (x _)]
  pointwise
end

/-- The kernel's gradient is the reference's. -/
theorem downDw : Cert.algebraic_DownDwIdeal_DownDwRefIdeal := by
  intro m g m' g' _ hagree
  refine ⟨fun c => _, ?_, Cert.DownDwRefIdeal.Value.run (F := Ideal) m' g'⟩
  refine (θ_run _ _ _).mono (fun r h c => ⟨(h c).1.trans ?_, (h c).2⟩) (Cert.DownDwIdeal.Value.run (F := Ideal) m g)
  obtain ⟨a0, a1, a2⟩ := hagree c
  funext i
  exact ((Cert.DownDwIdeal.Mm.arr m c i).trans (congrArg₂ (fun x y => Cert.DownDwIdeal.Mm.tot x y (i 0) (i 1)) a0.symm a2.symm)).trans
    ((downDw_ref _ _ (i 0) (i 1)).symm.trans (congrArg _ (ix2_eta i)))

/-- The reference ends with its arguments as they were. -/
theorem frame_downDw : Cert.quiescent_DownDwRefIdeal := fun m g _ =>
  (θ_run _ _ _).mono (fun r h => ⟨fun c => (h c).2, sem_eq_zero_of_no_sems (by decide) r.2⟩) (Cert.DownDwRefIdeal.Value.run (F := Ideal) m g)

end Cert.Proof
-- ==== Proof.Up.lean ====
/- The up projection: the kernel's product, block by block, is the reference's. -/
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.UpIdeal.Mm
open Idealize.ShloMosaic Idealize.ShloMosaic.TcCoe Idealize.ShloMosaic.Tactic Idealize.SL.Sem
open Cert.UpIdeal Cert.UpIdeal.Gen

variable (m : (ℓ : Loc nD τ sig) → Buf (Elt Ideal) ℓ) (c : Dev nD)

theorem org : (![0, 0] : Fin 2 → ℕ) = fun _ => 0 := by
  funext i; fin_cases i <;> rfl

/-- What the body leaves of two blocks: their product. -/
theorem out (x0 : Vec Ideal S1024x1024 .bf16) (x1 : Vec Ideal S1024x1408 .bf16) : out0_2 x0 x1 = k0_pay1 x0 x1 := by
  unfold out0_2
  rw [View.canon_unit_zero org]
  simp only [View.ld_unit_zero (S := S1024x1024) org, View.ld_unit_zero (S := S1024x1408) org]
/-- The product of two blocks, entry by entry. -/
theorem prod (x0 : Vec Ideal S1024x1024 .bf16) (x1 : Vec Ideal S1024x1408 .bf16) (r : Fin 1024) (e : Fin 1408) :
    k0_pay1 x0 x1 (ix2 r e) = ∑ k : Fin 1024, x0 (ix2 r k) * x1 (ix2 k e) := by
  pointwise [k0_pay1]

/-- The windows' block numbers at a point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)
/-- Every point writes its block back. -/
theorem flush : ∀ t : Fin cfg0.N, (cfg0.win 2).flush t = true :=
  (by decide +kernel : ∀ t : Fin grid0.N, (cfg0.win 2).flush t = true)
theorem ltN (t : Fin cfg0.N) : t.val < 16 := lt_of_lt_of_eq t.isLt N_0

/-- Row `r` of the point's row block. -/
def row (t : Fin cfg0.N) (r : Fin 1024) : Fin 4096 := ⟨1024 * (t.val / 4) + r.val, by have := ltN t; omega⟩
/-- Column `e` of the point's column block. -/
def col (t : Fin cfg0.N) (e : Fin 1408) : Fin 5632 := ⟨1408 * (t.val % 4) + e.val, by omega⟩

theorem rd0 (t : Fin cfg0.N) (r k : Fin 1024) (X : Buf (Elt Ideal) ((c : Thread nD τ).loc main_v0)) :
    ((cfg0.win 0).blk t).view.read (Elt Ideal) X (ix2 r k) = X (ix2 (row t r) k) := by
  blk_ext [idx t, row]
theorem rd1 (t : Fin cfg0.N) (e : Fin 1408) (k : Fin 1024) (X : Buf (Elt Ideal) ((c : Thread nD τ).loc main_v1)) :
    ((cfg0.win 1).blk t).view.read (Elt Ideal) X (ix2 k e) = X (ix2 k (col t e)) := by
  blk_ext [idx t, col]
theorem rd2 (t : Fin cfg0.N) (r : Fin 1024) (e : Fin 1408) (X : Buf (Elt Ideal) ((c : Thread nD τ).loc main_v2)) :
    ((cfg0.win 2).blk t).view.read (Elt Ideal) X (ix2 r e) = X (ix2 (row t r) (col t e)) := by
  blk_ext [idx t, row, col]
theorem V0 : V m c main_v0 = (truncf .bf16 (m ((c : Thread nD τ).loc main_arg0) : FVec Ideal S4096x1024 .f32) bitsLt_bf16_f32 : FVec Ideal S4096x1024 .bf16) := by
  after_reads_simp
theorem V1 : V m c main_v1 = (truncf .bf16 (m ((c : Thread nD τ).loc main_arg1) : FVec Ideal S1024x5632 .f32) bitsLt_bf16_f32 : FVec Ideal S1024x5632 .bf16) := by
  after_reads_simp
theorem blk0 (t : Fin cfg0.N) (r k : Fin 1024) :
    iblk m c 0 t (ix2 r k) = (m ((c : Thread nD τ).loc main_arg0) : FVec Ideal S4096x1024 .f32) (ix2 (row t r) k) := by
  unfold iblk
  exact (rd0 c t r k _).trans (congrFun (V0 m c) _)
theorem blk1 (t : Fin cfg0.N) (e : Fin 1408) (k : Fin 1024) :
    iblk m c 1 t (ix2 k e) = (m ((c : Thread nD τ).loc main_arg1) : FVec Ideal S1024x5632 .f32) (ix2 k (col t e)) := by
  unfold iblk
  exact (rd1 c t e k _).trans (congrFun (V1 m c) _)

/-- An entry of the product: the sum over the inner axis. -/
def tot (x : FVec Ideal S4096x1024 .f32) (w : FVec Ideal S1024x5632 .f32) (R : Fin 4096) (e : Fin 5632) : EReal :=
  ∑ k : Fin 1024, x (ix2 R k) * w (ix2 k e)
/-- What a point writes back, entry by entry. -/
theorem pay (t : Fin cfg0.N) (r : Fin 1024) (e : Fin 1408) :
    (dats m 0 c).flushed 2 t (ix2 r e)
      = tot (m ((c : Thread nD τ).loc main_arg0)) (m ((c : Thread nD τ).loc main_arg1)) (row t r) (col t e) := by
  rw [Value.flushed2, out]
  refine (prod _ _ r e).trans (Finset.sum_congr rfl fun k _ => ?_)
  exact congrArg₂ (· * ·) (blk0 m c t r k) (blk1 m c t e k)

/-- The kernel's array: the product, whole. -/
theorem arr (i : S4096x5632.Idx) :
    ((dats m 0 c).arrAt 2 cfg0.N : Buf (Elt Ideal) ((c : Thread nD τ).loc main_v2)) i
      = tot (m ((c : Thread nD τ).loc main_arg0)) (m ((c : Thread nD τ).loc main_arg1)) (i 0) (i 1) := by
  have h0 : (i 0).val < 4096 := (i 0).isLt
  have h1 : (i 1).val < 5632 := (i 1).isLt
  have hN : cfg0.N = 16 := N_0
  obtain ⟨t, ht⟩ : ∃ t : Fin cfg0.N, t.val = 4 * ((i 0).val / 1024) + (i 1).val / 1408 := ⟨⟨_, by omega⟩, rfl⟩
  have e0 : row t ⟨(i 0).val % 1024, by omega⟩ = i 0 := Fin.ext (by
    show 1024 * (t.val / 4) + (i 0).val % 1024 = (i 0).val
    omega)
  have e1 : col t ⟨(i 1).val % 1408, by omega⟩ = i 1 := Fin.ext (by
    show 1408 * (t.val % 4) + (i 1).val % 1408 = (i 1).val
    omega)
  have hb := congrFun (Value.blocks2 m c t (flush t)) (ix2 (⟨(i 0).val % 1024, by omega⟩ : Fin 1024) (⟨(i 1).val % 1408, by omega⟩ : Fin 1408))
  have hr := (rd2 c t _ _ _).symm.trans (hb.trans (pay m c t _ _))
  rw [e0, e1] at hr
  exact (congrArg _ (ix2_eta i).symm).trans hr

end Cert.UpIdeal.Mm

namespace Cert.Proof
open Idealize.ShloMosaic Idealize.ShloMosaic.TcCoe Idealize.SL.Sem

section
open Cert.UpRefIdeal Cert.UpRefIdeal.Gen
/-- The reference's product, entry by entry. -/
theorem up_ref (x : FVec Ideal S4096x1024 .f32) (w : FVec Ideal S1024x5632 .f32) (R : Fin 4096) (e : Fin 5632) :
    (truncf .bf16 (Host.dotGeneral dot_S4096x1024_S1024x5632_S4096x5632_1_0_0_1_n_n none x w) bitsLt_bf16_f32 : FVec Ideal S4096x5632 .bf16) (ix2 R e)
      = Cert.UpIdeal.Mm.tot x w R e := by
  pointwise [Cert.UpIdeal.Mm.tot]
end

/-- The kernel's product is the reference's. -/
theorem up : Cert.algebraic_UpIdeal_UpRefIdeal := by
  intro m g m' g' _ hagree
  refine ⟨fun c => _, ?_, Cert.UpRefIdeal.Value.run (F := Ideal) m' g'⟩
  refine (θ_run _ _ _).mono (fun r h c => ⟨(h c).1.trans ?_, (h c).2⟩) (Cert.UpIdeal.Value.run_blocks (F := Ideal) m g)
  obtain ⟨a0, a1⟩ := hagree c
  funext i
  exact ((Cert.UpIdeal.Mm.arr m c i).trans (congrArg₂ (fun x w => Cert.UpIdeal.Mm.tot x w (i 0) (i 1)) a0.symm a1.symm)).trans
    ((up_ref _ _ (i 0) (i 1)).symm.trans (congrArg _ (ix2_eta i)))

/-- The reference ends with its arguments as they were. -/
theorem frame_up : Cert.quiescent_UpRefIdeal := fun m g _ =>
  (θ_run _ _ _).mono (fun r h => ⟨fun c => (h c).2, sem_eq_zero_of_no_sems (by decide) r.2⟩) (Cert.UpRefIdeal.Value.run (F := Ideal) m g)

end Cert.Proof
-- ==== Proof.Down.lean ====
/- The down projection: the kernel's sum over two blocks of the inner axis is the reference's product, and the
   residual it adds it to is the reference's. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.DownIdeal.Mm
open Idealize.ShloMosaic Idealize.ShloMosaic.TcCoe Idealize.ShloMosaic.Tactic Idealize.SL.Sem
open Cert.DownIdeal Cert.DownIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole)
  (x0 : Vec Ideal S1024x1408 .bf16) (x1 : Vec Ideal S1408x1024 .bf16) (x2 : Vec Ideal S1024x1024 .f32) (x3 : Vec Ideal S1x1024 .f32) (xs : Vec Ideal S1024x1024 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 arg7 harg7 arg8 harg8 arg9 harg9 hc0 hc1 hc2 x0 x1 x2 x3 = k0_pay1 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero org]
  unfold k0_pay2
  simp only [View.readAt_eq_ld, harg3.read_unread, harg4.read_unread, harg5.read_unread, harg6.read_unread, harg9.read_unread, View.ld_unit_zero (S := S1024x1408) org, View.ld_unit_zero (S := S1408x1024) org, View.ld_unit_zero (S := S1024x1024) org, View.ld_unit_zero (S := S1x1024) org, shapeCast_self]
/-- The last step writes the sum out … -/
theorem last4 (hc0 : ¬cond0_0 i) (hc1 : ¬cond0_1 i) (hc2 : cond0_2 i) :
    out0_B_4 c i arg3 harg3 arg4 harg4 arg5 harg5 arg6 harg6 arg7 harg7 arg8 harg8 arg9 harg9 hc0 hc1 hc2 x0 x1 x2 x3 xs = truncf .bf16 (addf xs (k0_pay1 x0 x1)) bitsLt_bf16_f32 := by
  unfold out0_B_4
  rw [View.read_writes_eq_canon _ _ _ (cover0_B_4 c i arg3 harg3 arg4 harg4 arg5 harg5 arg6 harg6 arg7 harg7 arg8 harg8 arg9 harg9 hc0 hc1 hc2 x0 x1 x2 x3 xs)]
  unfold kernelRun0_B
  dsimp only
  rw [View.canon_unit_zero org]
  unfold k0_pay5 k0_pay4
  simp only [View.readAt_eq_ld, harg3.read_unread, harg4.read_unread, harg5.read_unread, harg6.read_unread, harg9.read_unread, View.ld_unit_zero (S := S1024x1408) org, View.ld_unit_zero (S := S1408x1024) org, View.ld_unit_zero (S := S1024x1024) org, View.ld_unit_zero (S := S1x1024) org, shapeCast_self]
/-- … and the residual with the scaled sum added. -/
theorem last5 (hc0 : ¬cond0_0 i) (hc1 : ¬cond0_1 i) (hc2 : cond0_2 i) :
    out0_B_5 c i arg3 harg3 arg4 harg4 arg5 harg5 arg6 harg6 arg7 harg7 arg8 harg8 arg9 harg9 hc0 hc1 hc2 x0 x1 x2 x3 xs = k0_pay6 x0 x1 xs x2 x3 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 xs)]
  unfold kernelRun0_B
  dsimp only
  rw [View.canon_unit_zero org]
  simp only [View.readAt_eq_ld, harg3.read_unread, harg4.read_unread, harg5.read_unread, harg6.read_unread, harg9.read_unread, View.ld_unit_zero (S := S1024x1408) org, View.ld_unit_zero (S := S1408x1024) org, View.ld_unit_zero (S := S1024x1024) org, View.ld_unit_zero (S := S1x1024) org, shapeCast_self]
end Terms

/-- The product of two blocks, entry by entry. -/
theorem prod (x0 : Vec Ideal S1024x1408 .bf16) (x1 : Vec Ideal S1408x1024 .bf16) (r e : Fin 1024) :
    k0_pay1 x0 x1 (ix2 r e) = ∑ k : Fin 1408, x0 (ix2 r k) * x1 (ix2 k e) := by
  pointwise [k0_pay1]
/-- The residual with the scaled sum added, entry by entry. -/
theorem resid (x0 : Vec Ideal S1024x1408 .bf16) (x1 : Vec Ideal S1408x1024 .bf16) (xs x2 : Vec Ideal S1024x1024 .f32) (x3 : Vec Ideal S1x1024 .f32) (r e : Fin 1024) :
    k0_pay6 x0 x1 xs x2 x3 (ix2 r e) = x2 (ix2 r e) + x3 (ix2 (0 : Fin 1) e) * (xs (ix2 r e) + k0_pay1 x0 x1 (ix2 r e)) := by
  unfold k0_pay6 k0_pay4
  generalize k0_pay1 x0 x1 = p
  pointwise

/-- The windows' block numbers at a point. -/
theorem idx : ∀ t : Fin cfg0.N, win0_0.index t = ![t.val / 2, t.val % 2] ∧ win0_1.index t = ![t.val % 2, 0] ∧ win0_2.index t = ![t.val / 2, 0] ∧ win0_3.index t = ![0, 0] :=
  (by decide +kernel : ∀ t : Fin grid0.N, _)
theorem lt8 (t : Fin cfg0.N) : t.val < 8 := lt_of_lt_of_eq t.isLt N_0

/-- Row `r` of the point's row block. -/
def row (t : Fin cfg0.N) (r : Fin 1024) : Fin 4096 := ⟨1024 * (t.val / 2) + r.val, by have := lt8 t; omega⟩
/-- Place `k` of block `s` of the inner axis. -/
def inn (s : Fin 2) (k : Fin 1408) : Fin 2816 := ⟨1408 * s.val + k.val, by omega⟩
/-- The point's block of the inner axis. -/
def stp (t : Fin cfg0.N) : Fin 2 := ⟨t.val % 2, by omega⟩

theorem rd0 (t : Fin cfg0.N) (r : Fin 1024) (k : Fin 1408) (X : Buf (Elt Ideal) ((c : Thread nD τ).loc main_v0)) :
    ((cfg0.win 0).blk t).view.read (Elt Ideal) X (ix2 r k) = X (ix2 (row t r) (inn (stp t) k)) := by
  blk_ext [idx t, row, inn, stp]
theorem rd1 (t : Fin cfg0.N) (e : Fin 1024) (k : Fin 1408) (X : Buf (Elt Ideal) ((c : Thread nD τ).loc main_v1)) :
    ((cfg0.win 1).blk t).view.read (Elt Ideal) X (ix2 k e) = X (ix2 (inn (stp t) k) e) := by
  blk_ext [idx t, inn, stp]
theorem rd2 (t : Fin cfg0.N) (r e : Fin 1024) (X : Buf (Elt Ideal) ((c : Thread nD τ).loc main_arg2)) :
    ((cfg0.win 2).blk t).view.read (Elt Ideal) X (ix2 r e) = X (ix2 (row t r) e) := by
  blk_ext [idx t, row]
theorem rd3 (t : Fin cfg0.N) (e : Fin 1024) (X : Buf (Elt Ideal) ((c : Thread nD τ).loc main_v2)) :
    ((cfg0.win 3).blk t).view.read (Elt Ideal) X (ix2 (0 : Fin 1) e) = X (ix2 (0 : Fin 1) e) := by
  blk_ext [idx t]
theorem V0 : V m c main_v0 = (truncf .bf16 (m ((c : Thread nD τ).loc main_arg0) : FVec Ideal S4096x2816 .f32) bitsLt_bf16_f32 : FVec Ideal S4096x2816 .bf16) := by
  after_reads_simp
theorem V1 : V m c main_v1 = (truncf .bf16 (m ((c : Thread nD τ).loc main_arg1) : FVec Ideal S2816x1024 .f32) bitsLt_bf16_f32 : FVec Ideal S2816x1024 .bf16) := by
  after_reads_simp
theorem V2 : V m c main_v2 = (shapeCast S1x1024 (m ((c : Thread nD τ).loc main_arg3) : FVec Ideal S1024 .f32) shapeCasts_S1024_S1x1024 : FVec Ideal S1x1024 .f32) := by
  after_reads_simp
  rfl
/-- The scale as a row, entry by entry. -/
theorem scale (g : FVec Ideal S1024 .f32) (e : Fin 1024) : (shapeCast S1x1024 g shapeCasts_S1024_S1x1024 : FVec Ideal S1x1024 .f32) (ix2 (0 : Fin 1) e) = g (ix1 e) := by
  pointwise
theorem blk0 (t : Fin cfg0.N) (r : Fin 1024) (k : Fin 1408) :
    iblk m c 0 t (ix2 r k) = (m ((c : Thread nD τ).loc main_arg0) : FVec Ideal S4096x2816 .f32) (ix2 (row t r) (inn (stp t) k)) := by
  unfold iblk
  exact (rd0 c t r k _).trans (congrFun (V0 m c) _)
theorem blk1 (t : Fin cfg0.N) (e : Fin 1024) (k : Fin 1408) :
    iblk m c 1 t (ix2 k e) = (m ((c : Thread nD τ).loc main_arg1) : FVec Ideal S2816x1024 .f32) (ix2 (inn (stp t) k) e) := by
  unfold iblk
  exact (rd1 c t e k _).trans (congrFun (V1 m c) _)
theorem blk2 (t : Fin cfg0.N) (r e : Fin 1024) :
    iblk m c 2 t (ix2 r e) = (m ((c : Thread nD τ).loc main_arg2) : FVec Ideal S4096x1024 .f32) (ix2 (row t r) e) := by
  unfold iblk
  exact (rd2 c t r e _).trans (congrFun (V_main_arg2 m c) _)
theorem blk3 (t : Fin cfg0.N) (e : Fin 1024) :
    iblk m c 3 t (ix2 (0 : Fin 1) e) = (m ((c : Thread nD τ).loc main_arg3) : FVec Ideal S1024 .f32) (ix1 e) := by
  unfold iblk
  exact (rd3 c t e _).trans ((congrFun (V2 m c) _).trans (scale _ e))

/-- An entry of the product: the sum over the inner axis. -/
def tot (x : FVec Ideal S4096x2816 .f32) (w : FVec Ideal S2816x1024 .f32) (R : Fin 4096) (e : Fin 1024) : EReal :=
  ∑ K : Fin 2816, x (ix2 R K) * w (ix2 K e)
/-- The part of it that a block of the inner axis gives. -/
def part (x : FVec Ideal S4096x2816 .f32) (w : FVec Ideal S2816x1024 .f32) (s : Fin 2) (R : Fin 4096) (e : Fin 1024) : EReal :=
  ∑ k : Fin 1408, x (ix2 R (inn s k)) * w (ix2 (inn s k) e)
/-- An entry of the residual with the scaled product added. -/
def res (x : FVec Ideal S4096x2816 .f32) (w : FVec Ideal S2816x1024 .f32) (h : FVec Ideal S4096x1024 .f32) (g : FVec Ideal S1024 .f32) (R : Fin 4096) (e : Fin 1024) : EReal :=
  h (ix2 R e) + g (ix1 e) * tot x w R e
theorem part_sum (x : FVec Ideal S4096x2816 .f32) (w : FVec Ideal S2816x1024 .f32) (R : Fin 4096) (e : Fin 1024) :
    tot x w R e = ∑ s : Fin 2, part x w s R e := by
  unfold tot
  rw [Fin.sum_univ_tiles 2 1408 rfl fun K : Fin 2816 => x (ix2 R K) * w (ix2 K e)]
  refine Finset.sum_congr rfl fun s _ => Finset.sum_congr rfl fun k _ => ?_
  refine congrArg (fun K : Fin 2816 => x (ix2 R K) * w (ix2 K e)) (Fin.ext ?_)
  show s.val * 1408 + k.val = 1408 * s.val + k.val
  omega
theorem pay (t : Fin cfg0.N) (s : Fin 2) (hs : t.val % 2 = s.val) (r e : Fin 1024) (R : Fin 4096) (hR : R.val = 1024 * (t.val / 2) + r.val) :
    k0_pay1 (F := Ideal) (iblk m c 0 t) (iblk m c 1 t) (ix2 r e)
      = part (m ((c : Thread nD τ).loc main_arg0)) (m ((c : Thread nD τ).loc main_arg1)) s R e := by
  obtain rfl : stp t = s := Fin.ext hs
  obtain rfl : row t r = R := Fin.ext hR.symm
  refine (prod _ _ r e).trans (Finset.sum_congr rfl fun k _ => ?_)
  exact congrArg₂ (· * ·) (blk0 m c t r k) (blk1 m c t e k)

/-- The scratch after the first step. -/
theorem sum1 (t : Fin cfg0.N) (s : Fin 2) (hs : t.val % 2 = s.val) (r e : Fin 1024) (R : Fin 4096) (hR : R.val = 1024 * (t.val / 2) + r.val) (h : s.val = 0) :
    (outsAt0 m c t.val t.isLt).2.2 (ix2 r e) = part (m ((c : Thread nD τ).loc main_arg0)) (m ((c : Thread nD τ).loc main_arg1)) s R e := by
  rw [outsAt0_A m c t (by omega) (by omega)]
  dsimp only
  rw [first]
  exact pay m c t s hs r e R hR
/-- A row block's last point: the scratch it finds and its own product make the whole sum. -/
theorem sum2 (b : ℕ) (hb : 2 * b + 1 < cfg0.N) (r e : Fin 1024) (R : Fin 4096) (hR : R.val = 1024 * b + r.val) :
    (outsAt0 m c (2 * b) (by omega)).2.2 (ix2 r e) + k0_pay1 (F := Ideal) (iblk m c 0 ⟨2 * b + 1, hb⟩) (iblk m c 1 ⟨2 * b + 1, hb⟩) (ix2 r e)
      = tot (m ((c : Thread nD τ).loc main_arg0)) (m ((c : Thread nD τ).loc main_arg1)) R e := by
  have e0 := sum1 m c ⟨2 * b, by omega⟩ 0 (by show 2 * b % 2 = 0; omega) r e R (by show _ = 1024 * (2 * b / 2) + _; omega) rfl
  have e1 := pay m c ⟨2 * b + 1, hb⟩ 1 (by show (2 * b + 1) % 2 = 1; omega) r e R (by show _ = 1024 * ((2 * b + 1) / 2) + _; omega)
  rw [part_sum, Fin.sum_univ_two]
  exact congrArg₂ (· + ·) e0 e1

/-- A row block's last point writes the whole sums … -/
theorem whole4 (b : ℕ) (hb : 2 * b + 1 < cfg0.N) (r e : Fin 1024) (R : Fin 4096) (hR : R.val = 1024 * b + r.val) :
    (outsAt0 m c (2 * b + 1) hb).1 (ix2 r e) = tot (m ((c : Thread nD τ).loc main_arg0)) (m ((c : Thread nD τ).loc main_arg1)) R e := by
  have hA := outsAt0_B m c ⟨2 * b + 1, hb⟩ (by show ¬(2 * b + 1) % 2 = 0; omega) (by show (2 * b + 1) % 2 = 1; omega)
  refine (congrFun (congrArg Prod.fst hA) (ix2 r e)).trans ?_
  dsimp only
  rw [last4]
  exact sum2 m c b hb r e R hR
/-- … and the residual with them added. -/
theorem whole5 (b : ℕ) (hb : 2 * b + 1 < cfg0.N) (r e : Fin 1024) (R : Fin 4096) (hR : R.val = 1024 * b + r.val) :
    (outsAt0 m c (2 * b + 1) hb).2.1 (ix2 r e) = res (m ((c : Thread nD τ).loc main_arg0)) (m ((c : Thread nD τ).loc main_arg1)) (m ((c : Thread nD τ).loc main_arg2)) (m ((c : Thread nD τ).loc main_arg3)) R e := by
  have hA := outsAt0_B m c ⟨2 * b + 1, hb⟩ (by show ¬(2 * b + 1) % 2 = 0; omega) (by show (2 * b + 1) % 2 = 1; omega)
  refine (congrFun (congrArg (fun o => o.2.1) hA) (ix2 r e)).trans ?_
  dsimp only
  rw [last5]
  refine (resid _ _ _ _ _ r e).trans ?_
  have hr : row ⟨2 * b + 1, hb⟩ r = R := Fin.ext (by
    show 1024 * ((2 * b + 1) / 2) + r.val = R.val
    omega)
  have h2 := blk2 m c ⟨2 * b + 1, hb⟩ r e
  rw [hr] at h2
  exact congrArg₂ (· + ·) h2 (congrArg₂ (· * ·) (blk3 m c ⟨2 * b + 1, hb⟩ e) (sum2 m c b hb r e R hR))

/-- The kernel's first array: the product, whole. -/
theorem arr4 (i : S4096x1024.Idx) :
    Value.G4 m c i = tot (m ((c : Thread nD τ).loc main_arg0)) (m ((c : Thread nD τ).loc main_arg1)) (i 0) (i 1) := by
  have h0 : (i 0).val < 4096 := (i 0).isLt
  have h1 : (i 1).val < 1024 := (i 1).isLt
  have hN : cfg0.N = 8 := N_0
  have hp : Value.pt4Of i < cfg0.N := by
    show 2 * (1 * ((i 0).val / 1024 - 0) + 1 * ((i 1).val / 1024 - 0)) + 1 < cfg0.N
    omega
  unfold Value.G4
  rw [dif_pos hp, ← Value.outsAt0_sweep m c _ hp]
  have hl : Value.loc4Of i = ix2 (⟨(i 0).val % 1024, by omega⟩ : Fin 1024) (⟨(i 1).val, h1⟩ : Fin 1024) := by
    funext a
    match a with
    | ⟨0, _⟩ => rfl
    | ⟨1, _⟩ => exact Fin.ext (Nat.mod_eq_of_lt h1)
  rw [hl]
  exact whole4 m c (Value.run4Of i) hp _ _ (i 0) (by
    show (i 0).val = 1024 * (1 * ((i 0).val / 1024 - 0) + 1 * ((i 1).val / 1024 - 0)) + (i 0).val % 1024
    omega)

/-- The kernel's second array: the residual with the scaled product added. -/
theorem arr5 (i : S4096x1024.Idx) :
    Value.G5 m c i = res (m ((c : Thread nD τ).loc main_arg0)) (m ((c : Thread nD τ).loc main_arg1)) (m ((c : Thread nD τ).loc main_arg2)) (m ((c : Thread nD τ).loc main_arg3)) (i 0) (i 1) := by
  have h0 : (i 0).val < 4096 := (i 0).isLt
  have h1 : (i 1).val < 1024 := (i 1).isLt
  have hN : cfg0.N = 8 := N_0
  have hp : Value.pt5Of i < cfg0.N := by
    show 2 * (1 * ((i 0).val / 1024 - 0) + 1 * ((i 1).val / 1024 - 0)) + 1 < cfg0.N
    omega
  unfold Value.G5
  rw [dif_pos hp, ← Value.outsAt0_sweep m c _ hp]
  have hl : Value.loc5Of i = ix2 (⟨(i 0).val % 1024, by omega⟩ : Fin 1024) (⟨(i 1).val, h1⟩ : Fin 1024) := by
    funext a
    match a with
    | ⟨0, _⟩ => rfl
    | ⟨1, _⟩ => exact Fin.ext (Nat.mod_eq_of_lt h1)
  rw [hl]
  exact whole5 m c (Value.run5Of i) hp _ _ (i 0) (by
    show (i 0).val = 1024 * (1 * ((i 0).val / 1024 - 0) + 1 * ((i 1).val / 1024 - 0)) + (i 0).val % 1024
    omega)

end Cert.DownIdeal.Mm

namespace Cert.Proof
open Idealize.ShloMosaic Idealize.ShloMosaic.TcCoe Idealize.SL.Sem

section
open Cert.DownRefIdeal Cert.DownRefIdeal.Gen
/-- The reference's product, entry by entry. -/
theorem down_ref (x : FVec Ideal S4096x2816 .f32) (w : FVec Ideal S2816x1024 .f32) (R : Fin 4096) (e : Fin 1024) :
    (truncf .bf16 (Host.dotGeneral dot_S4096x2816_S2816x1024_S4096x1024_1_0_0_1_n_n none x w) bitsLt_bf16_f32 : FVec Ideal S4096x1024 .bf16) (ix2 R e)
      = Cert.DownIdeal.Mm.tot x w R e := by
  pointwise [Cert.DownIdeal.Mm.tot]
/-- The reference's residual, entry by entry. -/
theorem down_res (x : FVec Ideal S4096x2816 .f32) (w : FVec Ideal S2816x1024 .f32) (h : FVec Ideal S4096x1024 .f32) (g : FVec Ideal S1024 .f32) (R : Fin 4096) (e : Fin 1024) :
    (addf h (mulf (broadcastInDim S4096x1024 ![0, 1] bcast_S1x1024_S4096x1024_0_1 (broadcastInDim S1x1024 ![1] bcast_S1024_S1x1024_1 g)) (Host.dotGeneral dot_S4096x2816_S2816x1024_S4096x1024_1_0_0_1_n_n none x w)) : FVec Ideal S4096x1024 .f32) (ix2 R e)
      = Cert.DownIdeal.Mm.res x w h g R e := by
  pointwise [Cert.DownIdeal.Mm.res, Cert.DownIdeal.Mm.tot]
end

/-- The kernel's two arrays are the reference's. -/
theorem down : Cert.algebraic_DownIdeal_DownRefIdeal := by
  intro m g m' g' _ hagree
  refine ⟨fun c => _, fun c => _, ?_, Cert.DownRefIdeal.Value.run (F := Ideal) m' g'⟩
  refine (θ_run _ _ _).mono (fun r h c => ⟨(h c).1.trans ?_, (h c).2.1.trans ?_, (h c).2.2⟩) (Cert.DownIdeal.Value.run (F := Ideal) m g)
  · obtain ⟨a0, a1, a2, a3⟩ := hagree c
    funext i
    exact ((Cert.DownIdeal.Mm.arr4 m c i).trans (congrArg₂ (fun x w => Cert.DownIdeal.Mm.tot x w (i 0) (i 1)) a0.symm a1.symm)).trans
      ((down_ref _ _ (i 0) (i 1)).symm.trans (congrArg _ (ix2_eta i)))
  · obtain ⟨a0, a1, a2, a3⟩ := hagree c
    funext i
    refine (Cert.DownIdeal.Mm.arr5 m c i).trans (Eq.trans ?_ ((down_res _ _ _ _ (i 0) (i 1)).symm.trans (congrArg _ (ix2_eta i))))
    exact (congrArg₂ (fun x w => Cert.DownIdeal.Mm.res x w _ _ (i 0) (i 1)) a0.symm a1.symm).trans
      (congrArg₂ (fun h g => Cert.DownIdeal.Mm.res _ _ h g (i 0) (i 1)) a2.symm a3.symm)

/-- The reference ends with its arguments as they were. -/
theorem frame_down : Cert.quiescent_DownRefIdeal := fun m g _ =>
  (θ_run _ _ _).mono (fun r h => ⟨fun c => (h c).2.2, sem_eq_zero_of_no_sems (by decide) r.2⟩) (Cert.DownRefIdeal.Value.run (F := Ideal) m g)

end Cert.Proof
-- ==== Proof.Out.lean ====
/- The attention's output projection: the kernel's product, block by block, is the reference's, and the residual it
   adds it to is the reference's. -/
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.OutIdeal.Mm
open Idealize.ShloMosaic Idealize.ShloMosaic.TcCoe Idealize.ShloMosaic.Tactic Idealize.SL.Sem
open Cert.OutIdeal Cert.OutIdeal.Gen

variable (m : (ℓ : Loc nD τ sig) → Buf (Elt Ideal) ℓ) (c : Dev nD)

theorem org : (![0, 0] : Fin 2 → ℕ) = fun _ => 0 := by
  funext i; fin_cases i <;> rfl

section Terms
variable (x0 x1 : Vec Ideal S1024x1024 .bf16) (x2 : Vec Ideal S1024x1024 .f32) (x3 : Vec Ideal S1x1024 .f32)

/-- What the body leaves in its first output: the product … -/
theorem out4 : out0_4 x0 x1 x2 x3 = truncf .bf16 (k0_pay1 x0 x1) bitsLt_bf16_f32 := by
  unfold out0_4
  rw [View.canon_unit_zero org]
  simp only [View.ld_unit_zero (S := S1024x1024) org]
  rfl
/-- … and in its second: the residual with the scaled product added. -/
theorem out5 : out0_5 x0 x1 x2 x3 = k0_pay3 x0 x1 x2 x3 := by
  unfold out0_5
  rw [View.canon_unit_zero org]
  simp only [View.ld_unit_zero (S := S1024x1024) org, View.ld_unit_zero (S := S1x1024) org]
end Terms

/-- The product of two blocks, entry by entry. -/
theorem prod (x0 x1 : Vec Ideal S1024x1024 .bf16) (r e : Fin 1024) :
    k0_pay1 x0 x1 (ix2 r e) = ∑ k : Fin 1024, x0 (ix2 r k) * x1 (ix2 k e) := by
  pointwise [k0_pay1]
/-- The residual with the scaled product added, entry by entry. -/
theorem resid (x0 x1 : Vec Ideal S1024x1024 .bf16) (x2 : Vec Ideal S1024x1024 .f32) (x3 : Vec Ideal S1x1024 .f32) (r e : Fin 1024) :
    k0_pay3 x0 x1 x2 x3 (ix2 r e) = x2 (ix2 r e) + x3 (ix2 (0 : Fin 1) e) * k0_pay1 x0 x1 (ix2 r e) := by
  unfold k0_pay3
  generalize k0_pay1 x0 x1 = p
  pointwise

/-- The windows' block numbers at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)
/-- Every point writes its blocks back. -/
theorem flush : ∀ t : Fin cfg0.N, (cfg0.win 4).flush t = true ∧ (cfg0.win 5).flush t = true :=
  (by decide +kernel : ∀ t : Fin grid0.N, (cfg0.win 4).flush t = true ∧ (cfg0.win 5).flush t = true)
theorem lt4 (t : Fin cfg0.N) : t.val < 4 := lt_of_lt_of_eq t.isLt N_0

/-- Row `r` of the point's row block. -/
def row (t : Fin cfg0.N) (r : Fin 1024) : Fin 4096 := ⟨1024 * t.val + r.val, by have := lt4 t; omega⟩
theorem rd0 (t : Fin cfg0.N) (r : Fin 1024) (k : Fin 1024) (X : Buf (Elt Ideal) ((c : Thread nD τ).loc main_v0)) :
    ((cfg0.win 0).blk t).view.read (Elt Ideal) X (ix2 r k) = X (ix2 (row t r) k) := by
  blk_ext [idx t, row]
theorem rd1 (t : Fin cfg0.N) (e : Fin 1024) (k : Fin 1024) (X : Buf (Elt Ideal) ((c : Thread nD τ).loc main_v1)) :
    ((cfg0.win 1).blk t).view.read (Elt Ideal) X (ix2 k e) = X (ix2 k e) := by
  blk_ext [idx t]
theorem rd2 (t : Fin cfg0.N) (r e : Fin 1024) (X : Buf (Elt Ideal) ((c : Thread nD τ).loc main_arg2)) :
    ((cfg0.win 2).blk t).view.read (Elt Ideal) X (ix2 r e) = X (ix2 (row t r) e) := by
  blk_ext [idx t, row]
theorem rd3 (t : Fin cfg0.N) (e : Fin 1024) (X : Buf (Elt Ideal) ((c : Thread nD τ).loc main_v2)) :
    ((cfg0.win 3).blk t).view.read (Elt Ideal) X (ix2 (0 : Fin 1) e) = X (ix2 (0 : Fin 1) e) := by
  blk_ext [idx t]
theorem rd4 (t : Fin cfg0.N) (r e : Fin 1024) (X : Buf (Elt Ideal) ((c : Thread nD τ).loc main_v3_0)) :
    ((cfg0.win 4).blk t).view.read (Elt Ideal) X (ix2 r e) = X (ix2 (row t r) e) := by
  blk_ext [idx t, row]
theorem rd5 (t : Fin cfg0.N) (r e : Fin 1024) (X : Buf (Elt Ideal) ((c : Thread nD τ).loc main_v3_1)) :
    ((cfg0.win 5).blk t).view.read (Elt Ideal) X (ix2 r e) = X (ix2 (row t r) e) := by
  blk_ext [idx t, row]
theorem V0 : V m c main_v0 = (truncf .bf16 (m ((c : Thread nD τ).loc main_arg0) : FVec Ideal S4096x1024 .f32) bitsLt_bf16_f32 : FVec Ideal S4096x1024 .bf16) := by
  after_reads_simp
theorem V1 : V m c main_v1 = (truncf .bf16 (m ((c : Thread nD τ).loc main_arg1) : FVec Ideal S1024x1024 .f32) bitsLt_bf16_f32 : FVec Ideal S1024x1024 .bf16) := by
  after_reads_simp
theorem V2 : V m c main_v2 = (shapeCast S1x1024 (m ((c : Thread nD τ).loc main_arg3) : FVec Ideal S1024 .f32) shapeCasts_S1024_S1x1024 : FVec Ideal S1x1024 .f32) := by
  after_reads_simp
  rfl
/-- The scale as a row, entry by entry. -/
theorem scale (g : FVec Ideal S1024 .f32) (e : Fin 1024) : (shapeCast S1x1024 g shapeCasts_S1024_S1x1024 : FVec Ideal S1x1024 .f32) (ix2 (0 : Fin 1) e) = g (ix1 e) := by
  pointwise
theorem blk0 (t : Fin cfg0.N) (r : Fin 1024) (k : Fin 1024) :
    iblk m c 0 t (ix2 r k) = (m ((c : Thread nD τ).loc main_arg0) : FVec Ideal S4096x1024 .f32) (ix2 (row t r) k) := by
  unfold iblk
  exact (rd0 c t r k _).trans (congrFun (V0 m c) _)
theorem blk1 (t : Fin cfg0.N) (e : Fin 1024) (k : Fin 1024) :
    iblk m c 1 t (ix2 k e) = (m ((c : Thread nD τ).loc main_arg1) : FVec Ideal S1024x1024 .f32) (ix2 k e) := by
  unfold iblk
  exact (rd1 c t e k _).trans (congrFun (V1 m c) _)
theorem blk2 (t : Fin cfg0.N) (r e : Fin 1024) :
    iblk m c 2 t (ix2 r e) = (m ((c : Thread nD τ).loc main_arg2) : FVec Ideal S4096x1024 .f32) (ix2 (row t r) e) := by
  unfold iblk
  exact (rd2 c t r e _).trans (congrFun (V_main_arg2 m c) _)
theorem blk3 (t : Fin cfg0.N) (e : Fin 1024) :
    iblk m c 3 t (ix2 (0 : Fin 1) e) = (m ((c : Thread nD τ).loc main_arg3) : FVec Ideal S1024 .f32) (ix1 e) := by
  unfold iblk
  exact (rd3 c t e _).trans ((congrFun (V2 m c) _).trans (scale _ e))

/-- An entry of the product: the sum over the inner axis. -/
def tot (x : FVec Ideal S4096x1024 .f32) (w : FVec Ideal S1024x1024 .f32) (R : Fin 4096) (e : Fin 1024) : EReal :=
  ∑ K : Fin 1024, x (ix2 R K) * w (ix2 K e)
/-- An entry of the residual with the scaled product added. -/
def res (x : FVec Ideal S4096x1024 .f32) (w : FVec Ideal S1024x1024 .f32) (h : FVec Ideal S4096x1024 .f32) (g : FVec Ideal S1024 .f32) (R : Fin 4096) (e : Fin 1024) : EReal :=
  h (ix2 R e) + g (ix1 e) * tot x w R e
theorem sum (t : Fin cfg0.N) (r e : Fin 1024) :
    k0_pay1 (F := Ideal) (iblk m c 0 t) (iblk m c 1 t) (ix2 r e)
      = tot (m ((c : Thread nD τ).loc main_arg0)) (m ((c : Thread nD τ).loc main_arg1)) (row t r) e := by
  refine (prod _ _ r e).trans (Finset.sum_congr rfl fun k _ => ?_)
  exact congrArg₂ (· * ·) (blk0 m c t r k) (blk1 m c t e k)
/-- What a point writes back of the product … -/
theorem pay4 (t : Fin cfg0.N) (r e : Fin 1024) :
    (dats m 0 c).flushed 4 t (ix2 r e) = tot (m ((c : Thread nD τ).loc main_arg0)) (m ((c : Thread nD τ).loc main_arg1)) (row t r) e := by
  rw [Value.flushed4, out4]
  exact sum m c t r e
/-- … and of the residual. -/
theorem pay5 (t : Fin cfg0.N) (r e : Fin 1024) :
    (dats m 0 c).flushed 5 t (ix2 r e) = res (m ((c : Thread nD τ).loc main_arg0)) (m ((c : Thread nD τ).loc main_arg1)) (m ((c : Thread nD τ).loc main_arg2)) (m ((c : Thread nD τ).loc main_arg3)) (row t r) e := by
  rw [Value.flushed5, out5]
  refine (resid _ _ _ _ r e).trans ?_
  exact congrArg₂ (· + ·) (blk2 m c t r e) (congrArg₂ (· * ·) (blk3 m c t e) (sum m c t r e))

/-- The kernel's first array: the product, whole. -/
theorem arr4 (i : S4096x1024.Idx) :
    ((dats m 0 c).arrAt 4 cfg0.N : Buf (Elt Ideal) ((c : Thread nD τ).loc main_v3_0)) i
      = tot (m ((c : Thread nD τ).loc main_arg0)) (m ((c : Thread nD τ).loc main_arg1)) (i 0) (i 1) := by
  have h0 : (i 0).val < 4096 := (i 0).isLt
  have hN : cfg0.N = 4 := N_0
  obtain ⟨t, ht⟩ : ∃ t : Fin cfg0.N, t.val = (i 0).val / 1024 := ⟨⟨_, by omega⟩, rfl⟩
  have e0 : row t ⟨(i 0).val % 1024, by omega⟩ = i 0 := Fin.ext (by
    show 1024 * t.val + (i 0).val % 1024 = (i 0).val
    omega)
  have hb := congrFun (Value.blocks4 m c t (flush t).1) (ix2 (⟨(i 0).val % 1024, by omega⟩ : Fin 1024) (i 1 : Fin 1024))
  have hr := (rd4 c t _ _ _).symm.trans (hb.trans (pay4 m c t _ _))
  rw [e0] at hr
  exact (congrArg _ (ix2_eta i).symm).trans hr

/-- The kernel's second array: the residual with the scaled product added. -/
theorem arr5 (i : S4096x1024.Idx) :
    ((dats m 0 c).arrAt 5 cfg0.N : Buf (Elt Ideal) ((c : Thread nD τ).loc main_v3_1)) i
      = res (m ((c : Thread nD τ).loc main_arg0)) (m ((c : Thread nD τ).loc main_arg1)) (m ((c : Thread nD τ).loc main_arg2)) (m ((c : Thread nD τ).loc main_arg3)) (i 0) (i 1) := by
  have h0 : (i 0).val < 4096 := (i 0).isLt
  have hN : cfg0.N = 4 := N_0
  obtain ⟨t, ht⟩ : ∃ t : Fin cfg0.N, t.val = (i 0).val / 1024 := ⟨⟨_, by omega⟩, rfl⟩
  have e0 : row t ⟨(i 0).val % 1024, by omega⟩ = i 0 := Fin.ext (by
    show 1024 * t.val + (i 0).val % 1024 = (i 0).val
    omega)
  have hb := congrFun (Value.blocks5 m c t (flush t).2) (ix2 (⟨(i 0).val % 1024, by omega⟩ : Fin 1024) (i 1 : Fin 1024))
  have hr := (rd5 c t _ _ _).symm.trans (hb.trans (pay5 m c t _ _))
  rw [e0] at hr
  exact (congrArg _ (ix2_eta i).symm).trans hr

end Cert.OutIdeal.Mm

namespace Cert.Proof
open Idealize.ShloMosaic Idealize.ShloMosaic.TcCoe Idealize.SL.Sem

section
open Cert.OutRefIdeal Cert.OutRefIdeal.Gen
/-- The reference's product, entry by entry. -/
theorem out_ref (x : FVec Ideal S4096x1024 .f32) (w : FVec Ideal S1024x1024 .f32) (R : Fin 4096) (e : Fin 1024) :
    (truncf .bf16 (Host.dotGeneral dot_S4096x1024_S1024x1024_S4096x1024_1_0_0_1_n_n none x w) bitsLt_bf16_f32 : FVec Ideal S4096x1024 .bf16) (ix2 R e)
      = Cert.OutIdeal.Mm.tot x w R e := by
  pointwise [Cert.OutIdeal.Mm.tot]
/-- The reference's residual, entry by entry. -/
theorem out_res (x : FVec Ideal S4096x1024 .f32) (w : FVec Ideal S1024x1024 .f32) (h : FVec Ideal S4096x1024 .f32) (g : FVec Ideal S1024 .f32) (R : Fin 4096) (e : Fin 1024) :
    (addf h (mulf (broadcastInDim S4096x1024 ![0, 1] bcast_S1x1024_S4096x1024_0_1 (broadcastInDim S1x1024 ![1] bcast_S1024_S1x1024_1 g)) (Host.dotGeneral dot_S4096x1024_S1024x1024_S4096x1024_1_0_0_1_n_n none x w)) : FVec Ideal S4096x1024 .f32) (ix2 R e)
      = Cert.OutIdeal.Mm.res x w h g R e := by
  pointwise [Cert.OutIdeal.Mm.res, Cert.OutIdeal.Mm.tot]
end

/-- The kernel's two arrays are the reference's. -/
theorem out : Cert.algebraic_OutIdeal_OutRefIdeal := by
  intro m g m' g' _ hagree
  refine ⟨fun c => _, fun c => _, ?_, Cert.OutRefIdeal.Value.run (F := Ideal) m' g'⟩
  refine (θ_run _ _ _).mono (fun r h c => ⟨(h c).1.trans ?_, (h c).2.1.trans ?_, (h c).2.2⟩) (Cert.OutIdeal.Value.run_blocks (F := Ideal) m g)
  · obtain ⟨a0, a1, a2, a3⟩ := hagree c
    funext i
    exact ((Cert.OutIdeal.Mm.arr4 m c i).trans (congrArg₂ (fun x w => Cert.OutIdeal.Mm.tot x w (i 0) (i 1)) a0.symm a1.symm)).trans
      ((out_ref _ _ (i 0) (i 1)).symm.trans (congrArg _ (ix2_eta i)))
  · obtain ⟨a0, a1, a2, a3⟩ := hagree c
    funext i
    refine (Cert.OutIdeal.Mm.arr5 m c i).trans (Eq.trans ?_ ((out_res _ _ _ _ (i 0) (i 1)).symm.trans (congrArg _ (ix2_eta i))))
    exact (congrArg₂ (fun x w => Cert.OutIdeal.Mm.res x w _ _ (i 0) (i 1)) a0.symm a1.symm).trans
      (congrArg₂ (fun h g => Cert.OutIdeal.Mm.res _ _ h g (i 0) (i 1)) a2.symm a3.symm)

/-- The reference ends with its arguments as they were. -/
theorem frame_out : Cert.quiescent_OutRefIdeal := fun m g _ =>
  (θ_run _ _ _).mono (fun r h => ⟨fun c => (h c).2.2, sem_eq_zero_of_no_sems (by decide) r.2⟩) (Cert.OutRefIdeal.Value.run (F := Ideal) m g)

end Cert.Proof
-- ==== Proof.OutDw.lean ====
/- The gradient of the attention's output projection in its weights: the kernel's sum over two halves of the rows is
   the reference's product. -/
module

public import proofs.«01_k».proof.Defs
public import proofs.«01_k».proof.Proof.Gen.OutDwIdeal.Value
public import proofs.«01_k».proof.Proof.Gen.OutDwRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.OutDwIdeal.Mm
open Idealize.ShloMosaic Idealize.ShloMosaic.TcCoe Idealize.ShloMosaic.Tactic Idealize.SL.Sem
open Cert.OutDwIdeal Cert.OutDwIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero org]
  unfold k0_pay2
  simp only [View.readAt_eq_ld, harg3.read_unread, harg4.read_unread, View.ld_unit_zero (S := S2048x1024) org, View.ld_unit_zero (S := S2048x1024) org, shapeCast_self]
/-- The last step writes the sum out. -/
theorem last (hc0 : ¬cond0_0 i) (hc1 : ¬cond0_1 i) (hc2 : cond0_2 i) :
    out0_B_2 c i arg3 harg3 arg4 harg4 arg5 harg5 arg6 harg6 hc0 hc1 hc2 x0 x1 xs = truncf .bf16 (addf xs (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero org]
  unfold k0_pay4
  simp only [View.readAt_eq_ld, harg3.read_unread, harg4.read_unread, harg6.read_unread, View.ld_unit_zero (S := S2048x1024) org, View.ld_unit_zero (S := S2048x1024) org, View.ld_unit_zero (S := S1024x1024) org, shapeCast_self]
end Terms

/-- The product of two blocks, entry by entry. -/
theorem prod (x0 : Vec Ideal S2048x1024 .bf16) (x1 : Vec Ideal S2048x1024 .bf16) (r : Fin 1024) (e : Fin 1024) :
    k0_pay1 x0 x1 (ix2 r e) = ∑ k : Fin 2048, x0 (ix2 k r) * x1 (ix2 k e) := by
  pointwise [k0_pay1]

/-- The windows' block numbers at a point. -/
theorem idx : ∀ t : Fin cfg0.N, win0_0.index t = ![t.val % 2, 0] ∧ win0_1.index t = ![t.val % 2, 0] :=
  (by decide +kernel : ∀ t : Fin grid0.N, _)
/-- Row `k` of half `s` of the 4096. -/
def inn (s : Fin 2) (k : Fin 2048) : Fin 4096 := ⟨2048 * s.val + k.val, by omega⟩
/-- The point's half. -/
def stp (t : Fin cfg0.N) : Fin 2 := ⟨t.val % 2, by omega⟩

theorem rd0 (t : Fin cfg0.N) (k : Fin 2048) (r : Fin 1024) (X : Buf (Elt Ideal) ((c : Thread nD τ).loc main_v0)) :
    ((cfg0.win 0).blk t).view.read (Elt Ideal) X (ix2 k r) = X (ix2 (inn (stp t) k) r) := by
  blk_ext [idx t, inn, stp]
theorem rd1 (t : Fin cfg0.N) (k : Fin 2048) (e : Fin 1024) (X : Buf (Elt Ideal) ((c : Thread nD τ).loc main_v1)) :
    ((cfg0.win 1).blk t).view.read (Elt Ideal) X (ix2 k e) = X (ix2 (inn (stp t) k) e) := by
  blk_ext [idx t, inn, stp]
theorem V0 : V m c main_v0 = (truncf .bf16 (m ((c : Thread nD τ).loc main_arg0) : FVec Ideal S4096x1024 .f32) bitsLt_bf16_f32 : FVec Ideal S4096x1024 .bf16) := by
  after_reads_simp
theorem V1 : V m c main_v1 = (truncf .bf16 (m ((c : Thread nD τ).loc main_arg2) : FVec Ideal S4096x1024 .f32) bitsLt_bf16_f32 : FVec Ideal S4096x1024 .bf16) := by
  after_reads_simp
theorem blk0 (t : Fin cfg0.N) (k : Fin 2048) (r : Fin 1024) :
    iblk m c 0 t (ix2 k r) = (m ((c : Thread nD τ).loc main_arg0) : FVec Ideal S4096x1024 .f32) (ix2 (inn (stp t) k) r) := by
  unfold iblk
  exact (rd0 c t k r _).trans (congrFun (V0 m c) _)
theorem blk1 (t : Fin cfg0.N) (k : Fin 2048) (e : Fin 1024) :
    iblk m c 1 t (ix2 k e) = (m ((c : Thread nD τ).loc main_arg2) : FVec Ideal S4096x1024 .f32) (ix2 (inn (stp t) k) e) := by
  unfold iblk
  exact (rd1 c t k e _).trans (congrFun (V1 m c) _)

/-- An entry of the product: the sum over the 4096 rows. -/
def tot (x : FVec Ideal S4096x1024 .f32) (y : FVec Ideal S4096x1024 .f32) (R : Fin 1024) (E : Fin 1024) : EReal :=
  ∑ K : Fin 4096, x (ix2 K R) * y (ix2 K E)
/-- The part of it that a half of the rows gives. -/
def part (x : FVec Ideal S4096x1024 .f32) (y : FVec Ideal S4096x1024 .f32) (s : Fin 2) (R : Fin 1024) (E : Fin 1024) : EReal :=
  ∑ k : Fin 2048, x (ix2 (inn s k) R) * y (ix2 (inn s k) E)
theorem part_sum (x : FVec Ideal S4096x1024 .f32) (y : FVec Ideal S4096x1024 .f32) (R : Fin 1024) (E : Fin 1024) :
    tot x y R E = ∑ s : Fin 2, part x y s R E := by
  unfold tot
  rw [Fin.sum_univ_tiles 2 2048 rfl fun K : Fin 4096 => x (ix2 K R) * y (ix2 K E)]
  refine Finset.sum_congr rfl fun s _ => Finset.sum_congr rfl fun k _ => ?_
  refine congrArg (fun K : Fin 4096 => x (ix2 K R) * y (ix2 K E)) (Fin.ext ?_)
  show s.val * 2048 + k.val = 2048 * s.val + k.val
  omega
theorem pay (t : Fin cfg0.N) (s : Fin 2) (hs : t.val % 2 = s.val) (r : Fin 1024) (e : Fin 1024) :
    k0_pay1 (F := Ideal) (iblk m c 0 t) (iblk m c 1 t) (ix2 r e)
      = part (m ((c : Thread nD τ).loc main_arg0)) (m ((c : Thread nD τ).loc main_arg2)) s r e := by
  obtain rfl : stp t = s := Fin.ext hs
  refine (prod _ _ r e).trans (Finset.sum_congr rfl fun k _ => ?_)
  exact congrArg₂ (· * ·) (blk0 m c t k r) (blk1 m c t k e)

/-- The scratch after the first step. -/
theorem sum1 (t : Fin cfg0.N) (s : Fin 2) (hs : t.val % 2 = s.val) (r : Fin 1024) (e : Fin 1024) (h : s.val = 0) :
    (outsAt0 m c t.val t.isLt).2 (ix2 r e) = part (m ((c : Thread nD τ).loc main_arg0)) (m ((c : Thread nD τ).loc main_arg2)) s r e := by
  rw [outsAt0_A m c t (by omega) (by omega)]
  dsimp only
  rw [first]
  exact pay m c t s hs r e
/-- What the last step writes. -/
theorem sum2 (t : Fin cfg0.N) (s : Fin 2) (hs : t.val % 2 = s.val) (r : Fin 1024) (e : Fin 1024) (h : s.val = 1) :
    (outsAt0 m c t.val t.isLt).1 (ix2 r e) = (outsAt0 m c (t.val - 1) (Nat.lt_of_le_of_lt (Nat.sub_le _ _) t.isLt)).2 (ix2 r e)
      + part (m ((c : Thread nD τ).loc main_arg0)) (m ((c : Thread nD τ).loc main_arg2)) s r e := by
  rw [outsAt0_B m c t (by omega) (by omega)]
  dsimp only
  rw [last]
  exact congrArg (_ + ·) (pay m c t s hs r e)

/-- The last point writes the whole sums. -/
theorem whole (b : ℕ) (hb : 2 * b + 1 < cfg0.N) (r : Fin 1024) (e : Fin 1024) :
    (outsAt0 m c (2 * b + 1) hb).1 (ix2 r e) = tot (m ((c : Thread nD τ).loc main_arg0)) (m ((c : Thread nD τ).loc main_arg2)) r e := by
  have e0 := sum1 m c ⟨2 * b, by omega⟩ 0 (by show 2 * b % 2 = 0; omega) r e rfl
  have e1 := sum2 m c ⟨2 * b + 1, hb⟩ 1 (by show (2 * b + 1) % 2 = 1; omega) r e rfl
  rw [part_sum, Fin.sum_univ_two]
  exact e1.trans (congrArg (· + _) e0)

/-- The kernel's array: the product, whole. -/
theorem arr (i : S1024x1024.Idx) :
    Value.G2 m c i = tot (m ((c : Thread nD τ).loc main_arg0)) (m ((c : Thread nD τ).loc main_arg2)) (i 0) (i 1) := by
  have h0 : (i 0).val < 1024 := (i 0).isLt
  have h1 : (i 1).val < 1024 := (i 1).isLt
  have hN : cfg0.N = 2 := N_0
  have hp : Value.pt2Of i < cfg0.N := by
    show 2 * (1 * ((i 0).val / 1024 - 0) + 1 * ((i 1).val / 1024 - 0)) + 1 < cfg0.N
    omega
  unfold Value.G2
  rw [dif_pos hp, ← Value.outsAt0_sweep m c _ hp]
  have hl : Value.loc2Of i = ix2 (i 0 : Fin 1024) (i 1 : Fin 1024) := by
    funext a
    match a with
    | ⟨0, _⟩ => exact Fin.ext (Nat.mod_eq_of_lt h0)
    | ⟨1, _⟩ => exact Fin.ext (Nat.mod_eq_of_lt h1)
  rw [hl]
  exact whole m c (Value.run2Of i) hp (i 0) (i 1)

end Cert.OutDwIdeal.Mm

namespace Cert.Proof
open Idealize.ShloMosaic Idealize.ShloMosaic.TcCoe Idealize.SL.Sem

section
open Cert.OutDwRefIdeal Cert.OutDwRefIdeal.Gen
/-- The reference's product, entry by entry: its factors come in the other order. -/
theorem outDw_ref (x : FVec Ideal S4096x1024 .f32) (y : FVec Ideal S4096x1024 .f32) (R : Fin 1024) (E : Fin 1024) :
    (truncf .bf16 (transpose S1024x1024 [1, 0] (Host.dotGeneral dot_S4096x1024_S4096x1024_S1024x1024_0_0_1_1_n_n none y x) transposes_S1024x1024_S1024x1024_1_0) bitsLt_bf16_f32 : FVec Ideal S1024x1024 .bf16) (ix2 R E)
      = Cert.OutDwIdeal.Mm.tot x y R E := by
  unfold Cert.OutDwIdeal.Mm.tot
  simp only [mul_comm (x _)]
  pointwise
end

/-- The kernel's gradient is the reference's. -/
theorem outDw : Cert.algebraic_OutDwIdeal_OutDwRefIdeal := by
  intro m g m' g' _ hagree
  refine ⟨fun c => _, ?_, Cert.OutDwRefIdeal.Value.run (F := Ideal) m' g'⟩
  refine (θ_run _ _ _).mono (fun r h c => ⟨(h c).1.trans ?_, (h c).2⟩) (Cert.OutDwIdeal.Value.run (F := Ideal) m g)
  obtain ⟨a0, a1, a2⟩ := hagree c
  funext i
  exact ((Cert.OutDwIdeal.Mm.arr m c i).trans (congrArg₂ (fun x y => Cert.OutDwIdeal.Mm.tot x y (i 0) (i 1)) a0.symm a2.symm)).trans
    ((outDw_ref _ _ (i 0) (i 1)).symm.trans (congrArg _ (ix2_eta i)))

/-- The reference ends with its arguments as they were. -/
theorem frame_outDw : Cert.quiescent_OutDwRefIdeal := fun m g _ =>
  (θ_run _ _ _).mono (fun r h => ⟨fun c => (h c).2, sem_eq_zero_of_no_sems (by decide) r.2⟩) (Cert.OutDwRefIdeal.Value.run (F := Ideal) m g)

end Cert.Proof
-- ==== Proof.Lat.lean ====
/- The query's down projection: the kernel's product, block by block, is the reference's. -/
module

public import proofs.«01_k».proof.Defs
public import proofs.«01_k».proof.Proof.Gen.LatIdeal.Value
public import proofs.«01_k».proof.Proof.Gen.LatRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.LatIdeal.Mm
open Idealize.ShloMosaic Idealize.ShloMosaic.TcCoe Idealize.ShloMosaic.Tactic Idealize.SL.Sem
open Cert.LatIdeal Cert.LatIdeal.Gen

variable (m : (ℓ : Loc nD τ sig) → Buf (Elt Ideal) ℓ) (c : Dev nD)

theorem org : (![0, 0] : Fin 2 → ℕ) = fun _ => 0 := by
  funext i; fin_cases i <;> rfl

/-- What the body leaves of two blocks: their product. -/
theorem out (x0 : Vec Ideal S1024x1024 .bf16) (x1 : Vec Ideal S1024x384 .bf16) : out0_2 x0 x1 = k0_pay1 x0 x1 := by
  unfold out0_2
  rw [View.canon_unit_zero org]
  simp only [View.ld_unit_zero (S := S1024x1024) org, View.ld_unit_zero (S := S1024x384) org]
/-- The product of two blocks, entry by entry. -/
theorem prod (x0 : Vec Ideal S1024x1024 .bf16) (x1 : Vec Ideal S1024x384 .bf16) (r : Fin 1024) (e : Fin 384) :
    k0_pay1 x0 x1 (ix2 r e) = ∑ k : Fin 1024, x0 (ix2 r k) * x1 (ix2 k e) := by
  pointwise [k0_pay1]

/-- The windows' block numbers at a point. -/
theorem idx : ∀ t : Fin cfg0.N, win0_0.index t = ![t.val, 0] ∧ win0_1.index t = ![0, 0] ∧ win0_2.index t = ![t.val, 0] :=
  (by decide +kernel : ∀ t : Fin grid0.N, _)
/-- Every point writes its block back. -/
theorem flush : ∀ t : Fin cfg0.N, (cfg0.win 2).flush t = true :=
  (by decide +kernel : ∀ t : Fin grid0.N, (cfg0.win 2).flush t = true)
theorem ltN (t : Fin cfg0.N) : t.val < 4 := lt_of_lt_of_eq t.isLt N_0

/-- Row `r` of the point's row block. -/
def row (t : Fin cfg0.N) (r : Fin 1024) : Fin 4096 := ⟨1024 * t.val + r.val, by have := ltN t; omega⟩
theorem rd0 (t : Fin cfg0.N) (r : Fin 1024) (k : Fin 1024) (X : Buf (Elt Ideal) ((c : Thread nD τ).loc main_v0)) :
    ((cfg0.win 0).blk t).view.read (Elt Ideal) X (ix2 r k) = X (ix2 (row t r) k) := by
  blk_ext [idx t, row]
theorem rd1 (t : Fin cfg0.N) (e : Fin 384) (k : Fin 1024) (X : Buf (Elt Ideal) ((c : Thread nD τ).loc main_v1)) :
    ((cfg0.win 1).blk t).view.read (Elt Ideal) X (ix2 k e) = X (ix2 k e) := by
  blk_ext [idx t]
theorem rd2 (t : Fin cfg0.N) (r : Fin 1024) (e : Fin 384) (X : Buf (Elt Ideal) ((c : Thread nD τ).loc main_v2)) :
    ((cfg0.win 2).blk t).view.read (Elt Ideal) X (ix2 r e) = X (ix2 (row t r) e) := by
  blk_ext [idx t, row]
theorem V0 : V m c main_v0 = (truncf .bf16 (m ((c : Thread nD τ).loc main_arg0) : FVec Ideal S4096x1024 .f32) bitsLt_bf16_f32 : FVec Ideal S4096x1024 .bf16) := by
  after_reads_simp
theorem V1 : V m c main_v1 = (truncf .bf16 (m ((c : Thread nD τ).loc main_arg1) : FVec Ideal S1024x384 .f32) bitsLt_bf16_f32 : FVec Ideal S1024x384 .bf16) := by
  after_reads_simp
theorem blk0 (t : Fin cfg0.N) (r : Fin 1024) (k : Fin 1024) :
    iblk m c 0 t (ix2 r k) = (m ((c : Thread nD τ).loc main_arg0) : FVec Ideal S4096x1024 .f32) (ix2 (row t r) k) := by
  unfold iblk
  exact (rd0 c t r k _).trans (congrFun (V0 m c) _)
theorem blk1 (t : Fin cfg0.N) (e : Fin 384) (k : Fin 1024) :
    iblk m c 1 t (ix2 k e) = (m ((c : Thread nD τ).loc main_arg1) : FVec Ideal S1024x384 .f32) (ix2 k e) := by
  unfold iblk
  exact (rd1 c t e k _).trans (congrFun (V1 m c) _)

/-- An entry of the product: the sum over the inner axis. -/
def tot (x : FVec Ideal S4096x1024 .f32) (w : FVec Ideal S1024x384 .f32) (R : Fin 4096) (e : Fin 384) : EReal :=
  ∑ k : Fin 1024, x (ix2 R k) * w (ix2 k e)
/-- What a point writes back, entry by entry. -/
theorem pay (t : Fin cfg0.N) (r : Fin 1024) (e : Fin 384) :
    (dats m 0 c).flushed 2 t (ix2 r e)
      = tot (m ((c : Thread nD τ).loc main_arg0)) (m ((c : Thread nD τ).loc main_arg1)) (row t r) e := by
  rw [Value.flushed2, out]
  refine (prod _ _ r e).trans (Finset.sum_congr rfl fun k _ => ?_)
  exact congrArg₂ (· * ·) (blk0 m c t r k) (blk1 m c t e k)

/-- The kernel's array: the product, whole. -/
theorem arr (i : S4096x384.Idx) :
    ((dats m 0 c).arrAt 2 cfg0.N : Buf (Elt Ideal) ((c : Thread nD τ).loc main_v2)) i
      = tot (m ((c : Thread nD τ).loc main_arg0)) (m ((c : Thread nD τ).loc main_arg1)) (i 0) (i 1) := by
  have h0 : (i 0).val < 4096 := (i 0).isLt
  have h1 : (i 1).val < 384 := (i 1).isLt
  have hN : cfg0.N = 4 := N_0
  obtain ⟨t, ht⟩ : ∃ t : Fin cfg0.N, t.val = (i 0).val / 1024 := ⟨⟨_, by omega⟩, rfl⟩
  have e0 : row t ⟨(i 0).val % 1024, by omega⟩ = i 0 := Fin.ext (by
    show 1024 * t.val + (i 0).val % 1024 = (i 0).val
    omega)
  have hb := congrFun (Value.blocks2 m c t (flush t)) (ix2 (⟨(i 0).val % 1024, by omega⟩ : Fin 1024) (i 1 : Fin 384))
  have hr := (rd2 c t _ _ _).symm.trans (hb.trans (pay m c t _ _))
  rw [e0] at hr
  exact (congrArg _ (ix2_eta i).symm).trans hr

end Cert.LatIdeal.Mm

namespace Cert.Proof
open Idealize.ShloMosaic Idealize.ShloMosaic.TcCoe Idealize.SL.Sem

section
open Cert.LatRefIdeal Cert.LatRefIdeal.Gen
/-- The reference's product, entry by entry. -/
theorem lat_ref (x : FVec Ideal S4096x1024 .f32) (w : FVec Ideal S1024x384 .f32) (R : Fin 4096) (e : Fin 384) :
    (Host.dotGeneral dot_S4096x1024_S1024x384_S4096x384_1_0_0_1_n_n none x w : FVec Ideal S4096x384 .f32) (ix2 R e)
      = Cert.LatIdeal.Mm.tot x w R e := by
  pointwise [Cert.LatIdeal.Mm.tot]
end

/-- The kernel's product is the reference's. -/
theorem lat : Cert.algebraic_LatIdeal_LatRefIdeal := by
  intro m g m' g' _ hagree
  refine ⟨fun c => _, ?_, Cert.LatRefIdeal.Value.run (F := Ideal) m' g'⟩
  refine (θ_run _ _ _).mono (fun r h c => ⟨(h c).1.trans ?_, (h c).2⟩) (Cert.LatIdeal.Value.run_blocks (F := Ideal) m g)
  obtain ⟨a0, a1⟩ := hagree c
  funext i
  exact ((Cert.LatIdeal.Mm.arr m c i).trans (congrArg₂ (fun x w => Cert.LatIdeal.Mm.tot x w (i 0) (i 1)) a0.symm a1.symm)).trans
    ((lat_ref _ _ (i 0) (i 1)).symm.trans (congrArg _ (ix2_eta i)))

/-- The reference ends with its arguments as they were. -/
theorem frame_lat : Cert.quiescent_LatRefIdeal := fun m g _ =>
  (θ_run _ _ _).mono (fun r h => ⟨fun c => (h c).2, sem_eq_zero_of_no_sems (by decide) r.2⟩) (Cert.LatRefIdeal.Value.run (F := Ideal) m g)

end Cert.Proof
-- ==== Proof.LatDx.lean ====
/- The gradient of the query's down projection in its input: the kernel's product, block by block, is the reference's. -/
module

public import proofs.«01_k».proof.Defs
public import proofs.«01_k».proof.Proof.Gen.LatDxIdeal.Value
public import proofs.«01_k».proof.Proof.Gen.LatDxRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.LatDxIdeal.Mm
open Idealize.ShloMosaic Idealize.ShloMosaic.TcCoe Idealize.ShloMosaic.Tactic Idealize.SL.Sem
open Cert.LatDxIdeal Cert.LatDxIdeal.Gen

variable (m : (ℓ : Loc nD τ sig) → Buf (Elt Ideal) ℓ) (c : Dev nD)

theorem org : (![0, 0] : Fin 2 → ℕ) = fun _ => 0 := by
  funext i; fin_cases i <;> rfl

/-- What the body leaves of two blocks: their product. -/
theorem out (x0 : Vec Ideal S1024x384 .f32) (x1 : Vec Ideal S1024x384 .bf16) : out0_2 x0 x1 = k0_pay1 x0 x1 := by
  unfold out0_2
  rw [View.canon_unit_zero org]
  simp only [View.ld_unit_zero (S := S1024x384) org, View.ld_unit_zero (S := S1024x384) org]
/-- The product of two blocks, entry by entry. -/
theorem prod (x0 : Vec Ideal S1024x384 .f32) (x1 : Vec Ideal S1024x384 .bf16) (r : Fin 1024) (e : Fin 1024) :
    k0_pay1 x0 x1 (ix2 r e) = ∑ k : Fin 384, x0 (ix2 r k) * x1 (ix2 e k) := by
  pointwise [k0_pay1]

/-- The windows' block numbers at a point. -/
theorem idx : ∀ t : Fin cfg0.N, win0_0.index t = ![t.val, 0] ∧ win0_1.index t = ![0, 0] ∧ win0_2.index t = ![t.val, 0] :=
  (by decide +kernel : ∀ t : Fin grid0.N, _)
/-- Every point writes its block back. -/
theorem flush : ∀ t : Fin cfg0.N, (cfg0.win 2).flush t = true :=
  (by decide +kernel : ∀ t : Fin grid0.N, (cfg0.win 2).flush t = true)
theorem ltN (t : Fin cfg0.N) : t.val < 4 := lt_of_lt_of_eq t.isLt N_0

/-- Row `r` of the point's row block. -/
def row (t : Fin cfg0.N) (r : Fin 1024) : Fin 4096 := ⟨1024 * t.val + r.val, by have := ltN t; omega⟩
theorem rd0 (t : Fin cfg0.N) (r : Fin 1024) (k : Fin 384) (X : Buf (Elt Ideal) ((c : Thread nD τ).loc main_arg2)) :
    ((cfg0.win 0).blk t).view.read (Elt Ideal) X (ix2 r k) = X (ix2 (row t r) k) := by
  blk_ext [idx t, row]
theorem rd1 (t : Fin cfg0.N) (e : Fin 1024) (k : Fin 384) (X : Buf (Elt Ideal) ((c : Thread nD τ).loc main_v0)) :
    ((cfg0.win 1).blk t).view.read (Elt Ideal) X (ix2 e k) = X (ix2 e k) := by
  blk_ext [idx t]
theorem rd2 (t : Fin cfg0.N) (r : Fin 1024) (e : Fin 1024) (X : Buf (Elt Ideal) ((c : Thread nD τ).loc main_v1)) :
    ((cfg0.win 2).blk t).view.read (Elt Ideal) X (ix2 r e) = X (ix2 (row t r) e) := by
  blk_ext [idx t, row]
theorem V1 : V m c main_v0 = (truncf .bf16 (m ((c : Thread nD τ).loc main_arg1) : FVec Ideal S1024x384 .f32) bitsLt_bf16_f32 : FVec Ideal S1024x384 .bf16) := by
  after_reads_simp
theorem blk0 (t : Fin cfg0.N) (r : Fin 1024) (k : Fin 384) :
    iblk m c 0 t (ix2 r k) = (m ((c : Thread nD τ).loc main_arg2) : FVec Ideal S4096x384 .f32) (ix2 (row t r) k) := by
  unfold iblk
  exact (rd0 c t r k _).trans (congrFun (V_main_arg2 m c) _)
theorem blk1 (t : Fin cfg0.N) (e : Fin 1024) (k : Fin 384) :
    iblk m c 1 t (ix2 e k) = (m ((c : Thread nD τ).loc main_arg1) : FVec Ideal S1024x384 .f32) (ix2 e k) := by
  unfold iblk
  exact (rd1 c t e k _).trans (congrFun (V1 m c) _)

/-- An entry of the product: the sum over the inner axis. -/
def tot (x : FVec Ideal S4096x384 .f32) (w : FVec Ideal S1024x384 .f32) (R : Fin 4096) (e : Fin 1024) : EReal :=
  ∑ k : Fin 384, x (ix2 R k) * w (ix2 e k)
/-- What a point writes back, entry by entry. -/
theorem pay (t : Fin cfg0.N) (r : Fin 1024) (e : Fin 1024) :
    (dats m 0 c).flushed 2 t (ix2 r e)
      = tot (m ((c : Thread nD τ).loc main_arg2)) (m ((c : Thread nD τ).loc main_arg1)) (row t r) e := by
  rw [Value.flushed2, out]
  refine (prod _ _ r e).trans (Finset.sum_congr rfl fun k _ => ?_)
  exact congrArg₂ (· * ·) (blk0 m c t r k) (blk1 m c t e k)

/-- The kernel's array: the product, whole. -/
theorem arr (i : S4096x1024.Idx) :
    ((dats m 0 c).arrAt 2 cfg0.N : Buf (Elt Ideal) ((c : Thread nD τ).loc main_v1)) i
      = tot (m ((c : Thread nD τ).loc main_arg2)) (m ((c : Thread nD τ).loc main_arg1)) (i 0) (i 1) := by
  have h0 : (i 0).val < 4096 := (i 0).isLt
  have h1 : (i 1).val < 1024 := (i 1).isLt
  have hN : cfg0.N = 4 := N_0
  obtain ⟨t, ht⟩ : ∃ t : Fin cfg0.N, t.val = (i 0).val / 1024 := ⟨⟨_, by omega⟩, rfl⟩
  have e0 : row t ⟨(i 0).val % 1024, by omega⟩ = i 0 := Fin.ext (by
    show 1024 * t.val + (i 0).val % 1024 = (i 0).val
    omega)
  have hb := congrFun (Value.blocks2 m c t (flush t)) (ix2 (⟨(i 0).val % 1024, by omega⟩ : Fin 1024) (i 1 : Fin 1024))
  have hr := (rd2 c t _ _ _).symm.trans (hb.trans (pay m c t _ _))
  rw [e0] at hr
  exact (congrArg _ (ix2_eta i).symm).trans hr

end Cert.LatDxIdeal.Mm

namespace Cert.Proof
open Idealize.ShloMosaic Idealize.ShloMosaic.TcCoe Idealize.SL.Sem

section
open Cert.LatDxRefIdeal Cert.LatDxRefIdeal.Gen
/-- The reference's product, entry by entry. -/
theorem latDx_ref (x : FVec Ideal S4096x384 .f32) (w : FVec Ideal S1024x384 .f32) (R : Fin 4096) (e : Fin 1024) :
    (truncf .bf16 (Host.dotGeneral dot_S4096x384_S1024x384_S4096x1024_1_1_0_0_n_n none x w) bitsLt_bf16_f32 : FVec Ideal S4096x1024 .bf16) (ix2 R e)
      = Cert.LatDxIdeal.Mm.tot x w R e := by
  pointwise [Cert.LatDxIdeal.Mm.tot]
end

/-- The kernel's product is the reference's. -/
theorem latDx : Cert.algebraic_LatDxIdeal_LatDxRefIdeal := by
  intro m g m' g' _ hagree
  refine ⟨fun c => _, ?_, Cert.LatDxRefIdeal.Value.run (F := Ideal) m' g'⟩
  refine (θ_run _ _ _).mono (fun r h c => ⟨(h c).1.trans ?_, (h c).2⟩) (Cert.LatDxIdeal.Value.run_blocks (F := Ideal) m g)
  obtain ⟨a0, a1, a2⟩ := hagree c
  funext i
  exact ((Cert.LatDxIdeal.Mm.arr m c i).trans (congrArg₂ (fun x w => Cert.LatDxIdeal.Mm.tot x w (i 0) (i 1)) a2.symm a1.symm)).trans
    ((latDx_ref _ _ (i 0) (i 1)).symm.trans (congrArg _ (ix2_eta i)))

/-- The reference ends with its arguments as they were. -/
theorem frame_latDx : Cert.quiescent_LatDxRefIdeal := fun m g _ =>
  (θ_run _ _ _).mono (fun r h => ⟨fun c => (h c).2, sem_eq_zero_of_no_sems (by decide) r.2⟩) (Cert.LatDxRefIdeal.Value.run (F := Ideal) m g)

end Cert.Proof
-- ==== Proof.LatDw.lean ====
/- The gradient of the query's down projection in its weights: the kernel's sum over two halves of the rows is the
   reference's product. -/
module

public import proofs.«01_k».proof.Defs
public import proofs.«01_k».proof.Proof.Gen.LatDwIdeal.Value
public import proofs.«01_k».proof.Proof.Gen.LatDwRefIdeal.Run
public import Idealize.ShloMosaic.Lib.Pipeline.ValueKit
public import Idealize.ShloMosaic.Lib.Pointwise
public import Idealize.ShloMosaic.Lib.StableHlo.RunRead
public import Idealize.ShloMosaic.Lib.Claim

@[expose] public section
set_option maxRecDepth 16384
noncomputable section
namespace Cert.LatDwIdeal.Mm
open Idealize.ShloMosaic Idealize.ShloMosaic.TcCoe Idealize.ShloMosaic.Tactic Idealize.SL.Sem
open Cert.LatDwIdeal Cert.LatDwIdeal.Gen

variable (m : (ℓ : Loc nD τ sig) → Buf (Elt Ideal) ℓ) (c : Dev nD)

theorem org : (![0, 0] : Fin 2 → ℕ) = fun _ => 0 := by
  funext i; fin_cases i <;> rfl

section Terms
variable (i : grid0.Coords) (arg3 : Memref sig .tc .vmem S2048x1024 .bf16) (harg3 : arg3.IsWhole) (arg4 : Memref sig .tc .vmem S2048x384 .f32) (harg4 : arg4.IsWhole) (arg5 : Memref sig .tc .vmem S1024x384 .bf16) (harg5 : arg5.IsWhole) (arg6 : Memref sig .tc .vmem S1024x384 .f32) (harg6 : arg6.IsWhole)
  (x0 : Vec Ideal S2048x1024 .bf16) (x1 : Vec Ideal S2048x384 .f32) (xs : Vec Ideal S1024x384 .f32)

/-- The first step leaves the product of its blocks in the scratch. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero org]
  unfold k0_pay2
  simp only [View.readAt_eq_ld, harg3.read_unread, harg4.read_unread, View.ld_unit_zero (S := S2048x1024) org, View.ld_unit_zero (S := S2048x384) org, shapeCast_self]
/-- The last step writes the sum out. -/
theorem last (hc0 : ¬cond0_0 i) (hc1 : ¬cond0_1 i) (hc2 : cond0_2 i) :
    out0_B_2 c i arg3 harg3 arg4 harg4 arg5 harg5 arg6 harg6 hc0 hc1 hc2 x0 x1 xs = truncf .bf16 (addf xs (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs)]
  unfold kernelRun0_B
  dsimp only
  rw [View.canon_unit_zero org]
  unfold k0_pay4
  simp only [View.readAt_eq_ld, harg3.read_unread, harg4.read_unread, harg6.read_unread, View.ld_unit_zero (S := S2048x1024) org, View.ld_unit_zero (S := S2048x384) org, View.ld_unit_zero (S := S1024x384) org, shapeCast_self]
end Terms

/-- The product of two blocks, entry by entry. -/
theorem prod (x0 : Vec Ideal S2048x1024 .bf16) (x1 : Vec Ideal S2048x384 .f32) (r : Fin 1024) (e : Fin 384) :
    k0_pay1 x0 x1 (ix2 r e) = ∑ k : Fin 2048, x0 (ix2 k r) * x1 (ix2 k e) := by
  pointwise [k0_pay1]

/-- The windows' block numbers at a point. -/
theorem idx : ∀ t : Fin cfg0.N, win0_0.index t = ![t.val % 2, 0] ∧ win0_1.index t = ![t.val % 2, 0] :=
  (by decide +kernel : ∀ t : Fin grid0.N, _)
/-- Row `k` of half `s` of the 4096. -/
def inn (s : Fin 2) (k : Fin 2048) : Fin 4096 := ⟨2048 * s.val + k.val, by omega⟩
/-- The point's half. -/
def stp (t : Fin cfg0.N) : Fin 2 := ⟨t.val % 2, by omega⟩

theorem rd0 (t : Fin cfg0.N) (k : Fin 2048) (r : Fin 1024) (X : Buf (Elt Ideal) ((c : Thread nD τ).loc main_v0)) :
    ((cfg0.win 0).blk t).view.read (Elt Ideal) X (ix2 k r) = X (ix2 (inn (stp t) k) r) := by
  blk_ext [idx t, inn, stp]
theorem rd1 (t : Fin cfg0.N) (k : Fin 2048) (e : Fin 384) (X : Buf (Elt Ideal) ((c : Thread nD τ).loc main_arg2)) :
    ((cfg0.win 1).blk t).view.read (Elt Ideal) X (ix2 k e) = X (ix2 (inn (stp t) k) e) := by
  blk_ext [idx t, inn, stp]
theorem V0 : V m c main_v0 = (truncf .bf16 (m ((c : Thread nD τ).loc main_arg0) : FVec Ideal S4096x1024 .f32) bitsLt_bf16_f32 : FVec Ideal S4096x1024 .bf16) := by
  after_reads_simp
theorem blk0 (t : Fin cfg0.N) (k : Fin 2048) (r : Fin 1024) :
    iblk m c 0 t (ix2 k r) = (m ((c : Thread nD τ).loc main_arg0) : FVec Ideal S4096x1024 .f32) (ix2 (inn (stp t) k) r) := by
  unfold iblk
  exact (rd0 c t k r _).trans (congrFun (V0 m c) _)
theorem blk1 (t : Fin cfg0.N) (k : Fin 2048) (e : Fin 384) :
    iblk m c 1 t (ix2 k e) = (m ((c : Thread nD τ).loc main_arg2) : FVec Ideal S4096x384 .f32) (ix2 (inn (stp t) k) e) := by
  unfold iblk
  exact (rd1 c t k e _).trans (congrFun (V_main_arg2 m c) _)

/-- An entry of the product: the sum over the 4096 rows. -/
def tot (x : FVec Ideal S4096x1024 .f32) (y : FVec Ideal S4096x384 .f32) (R : Fin 1024) (E : Fin 384) : EReal :=
  ∑ K : Fin 4096, x (ix2 K R) * y (ix2 K E)
/-- The part of it that a half of the rows gives. -/
def part (x : FVec Ideal S4096x1024 .f32) (y : FVec Ideal S4096x384 .f32) (s : Fin 2) (R : Fin 1024) (E : Fin 384) : EReal :=
  ∑ k : Fin 2048, x (ix2 (inn s k) R) * y (ix2 (inn s k) E)
theorem part_sum (x : FVec Ideal S4096x1024 .f32) (y : FVec Ideal S4096x384 .f32) (R : Fin 1024) (E : Fin 384) :
    tot x y R E = ∑ s : Fin 2, part x y s R E := by
  unfold tot
  rw [Fin.sum_univ_tiles 2 2048 rfl fun K : Fin 4096 => x (ix2 K R) * y (ix2 K E)]
  refine Finset.sum_congr rfl fun s _ => Finset.sum_congr rfl fun k _ => ?_
  refine congrArg (fun K : Fin 4096 => x (ix2 K R) * y (ix2 K E)) (Fin.ext ?_)
  show s.val * 2048 + k.val = 2048 * s.val + k.val
  omega
theorem pay (t : Fin cfg0.N) (s : Fin 2) (hs : t.val % 2 = s.val) (r : Fin 1024) (e : Fin 384) :
    k0_pay1 (F := Ideal) (iblk m c 0 t) (iblk m c 1 t) (ix2 r e)
      = part (m ((c : Thread nD τ).loc main_arg0)) (m ((c : Thread nD τ).loc main_arg2)) s r e := by
  obtain rfl : stp t = s := Fin.ext hs
  refine (prod _ _ r e).trans (Finset.sum_congr rfl fun k _ => ?_)
  exact congrArg₂ (· * ·) (blk0 m c t k r) (blk1 m c t k e)

/-- The scratch after the first step. -/
theorem sum1 (t : Fin cfg0.N) (s : Fin 2) (hs : t.val % 2 = s.val) (r : Fin 1024) (e : Fin 384) (h : s.val = 0) :
    (outsAt0 m c t.val t.isLt).2 (ix2 r e) = part (m ((c : Thread nD τ).loc main_arg0)) (m ((c : Thread nD τ).loc main_arg2)) s r e := by
  rw [outsAt0_A m c t (by omega) (by omega)]
  dsimp only
  rw [first]
  exact pay m c t s hs r e
/-- What the last step writes. -/
theorem sum2 (t : Fin cfg0.N) (s : Fin 2) (hs : t.val % 2 = s.val) (r : Fin 1024) (e : Fin 384) (h : s.val = 1) :
    (outsAt0 m c t.val t.isLt).1 (ix2 r e) = (outsAt0 m c (t.val - 1) (Nat.lt_of_le_of_lt (Nat.sub_le _ _) t.isLt)).2 (ix2 r e)
      + part (m ((c : Thread nD τ).loc main_arg0)) (m ((c : Thread nD τ).loc main_arg2)) s r e := by
  rw [outsAt0_B m c t (by omega) (by omega)]
  dsimp only
  rw [last]
  exact congrArg (_ + ·) (pay m c t s hs r e)

/-- The last point writes the whole sums. -/
theorem whole (b : ℕ) (hb : 2 * b + 1 < cfg0.N) (r : Fin 1024) (e : Fin 384) :
    (outsAt0 m c (2 * b + 1) hb).1 (ix2 r e) = tot (m ((c : Thread nD τ).loc main_arg0)) (m ((c : Thread nD τ).loc main_arg2)) r e := by
  have e0 := sum1 m c ⟨2 * b, by omega⟩ 0 (by show 2 * b % 2 = 0; omega) r e rfl
  have e1 := sum2 m c ⟨2 * b + 1, hb⟩ 1 (by show (2 * b + 1) % 2 = 1; omega) r e rfl
  rw [part_sum, Fin.sum_univ_two]
  exact e1.trans (congrArg (· + _) e0)

/-- The kernel's array: the product, whole. -/
theorem arr (i : S1024x384.Idx) :
    Value.G2 m c i = tot (m ((c : Thread nD τ).loc main_arg0)) (m ((c : Thread nD τ).loc main_arg2)) (i 0) (i 1) := by
  have h0 : (i 0).val < 1024 := (i 0).isLt
  have h1 : (i 1).val < 384 := (i 1).isLt
  have hN : cfg0.N = 2 := N_0
  have hp : Value.pt2Of i < cfg0.N := by
    show 2 * (1 * ((i 0).val / 1024 - 0) + 1 * ((i 1).val / 384 - 0)) + 1 < cfg0.N
    omega
  unfold Value.G2
  rw [dif_pos hp, ← Value.outsAt0_sweep m c _ hp]
  have hl : Value.loc2Of i = ix2 (i 0 : Fin 1024) (i 1 : Fin 384) := by
    funext a
    match a with
    | ⟨0, _⟩ => exact Fin.ext (Nat.mod_eq_of_lt h0)
    | ⟨1, _⟩ => exact Fin.ext (Nat.mod_eq_of_lt h1)
  rw [hl]
  exact whole m c (Value.run2Of i) hp (i 0) (i 1)

end Cert.LatDwIdeal.Mm

namespace Cert.Proof
open Idealize.ShloMosaic Idealize.ShloMosaic.TcCoe Idealize.SL.Sem

section
open Cert.LatDwRefIdeal Cert.LatDwRefIdeal.Gen
/-- The reference's product, entry by entry: its factors come in the other order. -/
theorem latDw_ref (x : FVec Ideal S4096x1024 .f32) (y : FVec Ideal S4096x384 .f32) (R : Fin 1024) (E : Fin 384) :
    (truncf .bf16 (transpose S1024x384 [1, 0] (Host.dotGeneral dot_S4096x384_S4096x1024_S384x1024_0_0_1_1_n_n none y x) transposes_S384x1024_S1024x384_1_0) bitsLt_bf16_f32 : FVec Ideal S1024x384 .bf16) (ix2 R E)
      = Cert.LatDwIdeal.Mm.tot x y R E := by
  unfold Cert.LatDwIdeal.Mm.tot
  simp only [mul_comm (x _)]
  pointwise
end

/-- The kernel's gradient is the reference's. -/
theorem latDw : Cert.algebraic_LatDwIdeal_LatDwRefIdeal := by
  intro m g m' g' _ hagree
  refine ⟨fun c => _, ?_, Cert.LatDwRefIdeal.Value.run (F := Ideal) m' g'⟩
  refine (θ_run _ _ _).mono (fun r h c => ⟨(h c).1.trans ?_, (h c).2⟩) (Cert.LatDwIdeal.Value.run (F := Ideal) m g)
  obtain ⟨a0, a1, a2⟩ := hagree c
  funext i
  exact ((Cert.LatDwIdeal.Mm.arr m c i).trans (congrArg₂ (fun x y => Cert.LatDwIdeal.Mm.tot x y (i 0) (i 1)) a0.symm a2.symm)).trans
    ((latDw_ref _ _ (i 0) (i 1)).symm.trans (congrArg _ (ix2_eta i)))

/-- The reference ends with its arguments as they were. -/
theorem frame_latDw : Cert.quiescent_LatDwRefIdeal := fun m g _ =>
  (θ_run _ _ _).mono (fun r h => ⟨fun c => (h c).2, sem_eq_zero_of_no_sems (by decide) r.2⟩) (Cert.LatDwRefIdeal.Value.run (F := Ideal) m g)

end Cert.Proof
-- ==== Proof.Words.lean ====
/- The kernel on machine words: it runs to its end from any memory, leaves its arguments alone and its counters at
   zero. Nothing is said here of what the three gradients hold, so the output blocks pass through a grid point at any
   contents. -/
module

public import proofs.«01_k».proof.Proof.Gen.Kernel.Frame
public import proofs.«01_k».proof.Proof.Gen.Kernel.Loops
public import Idealize.ShloMosaic.Lib.Pipeline.ValueKit
public import Idealize.ShloMosaic.Lib.Claim

@[expose] public section
set_option maxRecDepth 16384
noncomputable section
namespace Cert.Kernel.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)
open Cert.Kernel Cert.Kernel.Gen
variable {F : FTy → Type} [FloatOps F]
local notation "𝕄" => MT nD τ sig Unit (Elt F) ℕ (UR sig nD τ) ℕ
/-- The body's test whether the key block is the first. -/
abbrev cond0_0 (i : grid0.Coords) : Prop := (Scalar.cmpi .ne (Scalar.extui (Scalar.cmpi .eq (BitVec.ofNat 32 (i 1).val) 0#32)) 0#32) = 1#1

set_option maxHeartbeats 400000 in
/-- The body at the first key block: its inputs stay, its outputs end at some contents. -/
theorem runA (c : Dev nD) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole) (hc0 : cond0_0 i)
    (x0 : Vec F S4096x512 .bf16) (x1 : Vec F S4096x256 .bf16) (x2 : Vec F S2x1x4096 .f32) (x3 : Vec F S2x1x4096 .f32) (x4 : Vec F S512x512 .bf16) (x5 : Vec F S512x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    skip
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexists _; isplitr; swap; · iexact H6
      ipureintro; rfl
    isplitl [H7]
    · iexists _; iexists _; isplitr; swap; · iexact H7
      ipureintro; rfl
    iexists _; iexists _; isplitr; swap; · iexact H8
    ipureintro; rfl
set_option maxHeartbeats 400000 in
/-- The body at a later key block, likewise. -/
theorem runB (c : Dev nD) (i : grid0.Coords) (arg2 : Memref sig .tc .vmem S4096x512 .bf16) (harg2 : arg2.IsWhole) (arg3 : Memref sig .tc .vmem S4096x256 .bf16) (harg3 : arg3.IsWhole) (arg4 : Memref sig .tc .vmem S2x1x4096 .f32) (harg4 : arg4.IsWhole) (arg5 : Memref sig .tc .vmem S2x1x4096 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x256 .f32) (harg10 : arg10.IsWhole) (hc0 : ¬ cond0_0 i)
    (x0 : Vec F S4096x512 .bf16) (x1 : Vec F S4096x256 .bf16) (x2 : Vec F S2x1x4096 .f32) (x3 : Vec F S2x1x4096 .f32) (x4 : Vec F S512x512 .bf16) (x5 : Vec F S512x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K := by
    intro E K
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    skip
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexists _; isplitr; swap; · iexact H6
      ipureintro; rfl
    isplitl [H7]
    · iexists _; iexists _; isplitr; swap; · iexact H7
      ipureintro; rfl
    iexists _; iexists _; isplitr; swap; · iexact H8
    ipureintro; rfl

abbrev ms0_0 (t : Fin cfg0.N) : Memref sig .tc .vmem S4096x512 .bf16 := win0_0.stage (cfg0.slots t 0)
abbrev ms0_1 (t : Fin cfg0.N) : Memref sig .tc .vmem S4096x256 .bf16 := win0_1.stage (cfg0.slots t 1)
abbrev ms0_2 (t : Fin cfg0.N) : Memref sig .tc .vmem S2x1x4096 .f32 := win0_2.stage (cfg0.slots t 2)
abbrev ms0_3 (t : Fin cfg0.N) : Memref sig .tc .vmem S2x1x4096 .f32 := win0_3.stage (cfg0.slots t 3)
abbrev ms0_4 (t : Fin cfg0.N) : Memref sig .tc .vmem S512x512 .bf16 := win0_4.stage (cfg0.slots t 4)
abbrev ms0_5 (t : Fin cfg0.N) : Memref sig .tc .vmem S512x512 .bf16 := win0_5.stage (cfg0.slots t 5)
abbrev ms0_6 (t : Fin cfg0.N) : Memref sig .tc .vmem S4096x512 .f32 := win0_6.stage (cfg0.slots t 6)
abbrev ms0_7 (t : Fin cfg0.N) : Memref sig .tc .vmem S512x512 .f32 := win0_7.stage (cfg0.slots t 7)
abbrev ms0_8 (t : Fin cfg0.N) : Memref sig .tc .vmem S512x256 .f32 := win0_8.stage (cfg0.slots t 8)

variable (m : (ℓ : Loc nD τ sig) → Buf (Elt F) ℓ) (ρ : Dev nD → PrngReg)

/-- What each buffer holds point by point; an output's contents are not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0
/-- The output windows, forgotten. -/
def outs : Fin cfg0.W → Bool := fun w => decide (6 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t := before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t := before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t := before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t := before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t := before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t := before0_5_of m (dats m 0 c) (A_eq m c 5) (after0_5 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 800000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : cond0_0 (grid0.coords t)
  · iintro ⟨HΦ, Ho, ⟨%d0, H0⟩, ⟨%d1, H1⟩, ⟨%d2, H2⟩, ⟨%d3, H3⟩, ⟨%d4, H4⟩, ⟨%d5, H5⟩, H6, H7, H8⟩
    iapply ((runA c (grid0.coords t) _ _ _ _ _ _ _ _ _ _ _ _ _ _ _ _ _ _ h0 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨HΦ, Ho, ⟨%d0, H0⟩, ⟨%d1, H1⟩, ⟨%d2, H2⟩, ⟨%d3, H3⟩, ⟨%d4, H4⟩, ⟨%d5, H5⟩, H6, H7, H8⟩
    iapply ((runB c (grid0.coords t) _ _ _ _ _ _ _ _ _ _ _ _ _ _ _ _ _ _ h0 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The whole program runs, and ends with every buffer the launch does not write as it found it. -/
theorem run_main : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

end Cert.Kernel.Att
end
end
-- ==== Proof.lean ====
/- The certificate: each claim from the module that proves it. The kernel's frame on machine words is Proof/Words.lean's,
   on exact numbers Proof/Launch.lean's; the idealization rewrites nothing; the reference's run and the equality of the gradients are
   Proof/Algebraic.lean's. The eleven other products have a module each for their values; their frames
   are the generated ones. -/
module

public import proofs.«01_k».proof.Defs
public import proofs.«01_k».proof.Proof.Gen.UpDxIdeal.Value
public import proofs.«01_k».proof.Proof.Gen.UpDxRefIdeal.Run
public import proofs.«01_k».proof.Proof.Gen.UpDx.Frame
public import proofs.«01_k».proof.Proof.Gen.UpDwIdeal.Value
public import proofs.«01_k».proof.Proof.Gen.UpDwRefIdeal.Run
public import proofs.«01_k».proof.Proof.Gen.UpDw.Frame
public import proofs.«01_k».proof.Proof.Gen.DownDxIdeal.Value
public import proofs.«01_k».proof.Proof.Gen.DownDxRefIdeal.Run
public import proofs.«01_k».proof.Proof.Gen.DownDx.Frame
public import proofs.«01_k».proof.Proof.Gen.DownDwIdeal.Value
public import proofs.«01_k».proof.Proof.Gen.DownDwRefIdeal.Run
public import proofs.«01_k».proof.Proof.Gen.DownDw.Frame
public import proofs.«01_k».proof.Proof.Gen.UpIdeal.Value
public import proofs.«01_k».proof.Proof.Gen.UpRefIdeal.Run
public import proofs.«01_k».proof.Proof.Gen.Up.Frame
public import proofs.«01_k».proof.Proof.Gen.DownIdeal.Value
public import proofs.«01_k».proof.Proof.Gen.DownRefIdeal.Run
public import proofs.«01_k».proof.Proof.Gen.Down.Frame
public import proofs.«01_k».proof.Proof.Gen.OutIdeal.Value
public import proofs.«01_k».proof.Proof.Gen.OutRefIdeal.Run
public import proofs.«01_k».proof.Proof.Gen.Out.Frame
public import proofs.«01_k».proof.Proof.Gen.OutDwIdeal.Value
public import proofs.«01_k».proof.Proof.Gen.OutDwRefIdeal.Run
public import proofs.«01_k».proof.Proof.Gen.OutDw.Frame
public import proofs.«01_k».proof.Proof.Gen.LatIdeal.Value
public import proofs.«01_k».proof.Proof.Gen.LatRefIdeal.Run
public import proofs.«01_k».proof.Proof.Gen.Lat.Frame
public import proofs.«01_k».proof.Proof.Gen.LatDxIdeal.Value
public import proofs.«01_k».proof.Proof.Gen.LatDxRefIdeal.Run
public import proofs.«01_k».proof.Proof.Gen.LatDx.Frame
public import proofs.«01_k».proof.Proof.Gen.LatDwIdeal.Value
public import proofs.«01_k».proof.Proof.Gen.LatDwRefIdeal.Run
public import proofs.«01_k».proof.Proof.Gen.LatDw.Frame
public import proofs.«01_k».proof.Proof.Algebraic
public import proofs.«01_k».proof.Proof.UpDx
public import proofs.«01_k».proof.Proof.UpDw
public import proofs.«01_k».proof.Proof.DownDx
public import proofs.«01_k».proof.Proof.DownDw
public import proofs.«01_k».proof.Proof.Up
public import proofs.«01_k».proof.Proof.Down
public import proofs.«01_k».proof.Proof.Out
public import proofs.«01_k».proof.Proof.OutDw
public import proofs.«01_k».proof.Proof.Lat
public import proofs.«01_k».proof.Proof.LatDx
public import proofs.«01_k».proof.Proof.LatDw
public import proofs.«01_k».proof.Proof.Words
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.ReferenceIdeal
public import proofs.«01_k».proof.Proof.Gen.ReferenceIdeal.Run
public import proofs.«01_k».proof.Proof.Gen.Pre_finite
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.OutDw.Gen.facts, Cert.OutDwIdeal.Gen.facts, Cert.OutDwRefIdeal.Gen.facts,
  Cert.Lat.Gen.facts, Cert.LatIdeal.Gen.facts, Cert.LatRefIdeal.Gen.facts,
  Cert.LatDx.Gen.facts, Cert.LatDxIdeal.Gen.facts, Cert.LatDxRefIdeal.Gen.facts,
  Cert.LatDw.Gen.facts, Cert.LatDwIdeal.Gen.facts, Cert.LatDwRefIdeal.Gen.facts,
  Cert.Pre_finite.Gen.facts,
  fun m g _ => Cert.Kernel.Att.frame m g, fun m g _ => Cert.KernelIdeal.Att.frame m g, fun m g _ => Cert.KernelIdeal.Att.frame m g,
  frame_r, fun m g _ => frame_r m g trivial,
  fun m g _ => Cert.UpDx.Gen.frame m g, fun m g _ => Cert.UpDxIdeal.Gen.frame m g, frame_upDx,
  fun m g _ => Cert.UpDw.Gen.frame m g, fun m g _ => Cert.UpDwIdeal.Gen.frame m g, frame_upDw,
  fun m g _ => Cert.DownDx.Gen.frame m g, fun m g _ => Cert.DownDxIdeal.Gen.frame m g, frame_downDx,
  fun m g _ => Cert.DownDw.Gen.frame m g, fun m g _ => Cert.DownDwIdeal.Gen.frame m g, frame_downDw,
  fun m g _ => Cert.Up.Gen.frame m g, fun m g _ => Cert.UpIdeal.Gen.frame m g, frame_up,
  fun m g _ => Cert.Down.Gen.frame m g, fun m g _ => Cert.DownIdeal.Gen.frame m g, frame_down,
  fun m g _ => Cert.Out.Gen.frame m g, fun m g _ => Cert.OutIdeal.Gen.frame m g, frame_out,
  fun m g _ => Cert.OutDw.Gen.frame m g, fun m g _ => Cert.OutDwIdeal.Gen.frame m g, frame_outDw,
  fun m g _ => Cert.Lat.Gen.frame m g, fun m g _ => Cert.LatIdeal.Gen.frame m g, frame_lat,
  fun m g _ => Cert.LatDx.Gen.frame m g, fun m g _ => Cert.LatDxIdeal.Gen.frame m g, frame_latDx,
  fun m g _ => Cert.LatDw.Gen.frame m g, fun m g _ => Cert.LatDwIdeal.Gen.frame m g, frame_latDw,
  trivial, algebraic,
  trivial, upDx,
  trivial, upDw,
  trivial, downDx,
  trivial, downDw,
  trivial, up,
  trivial, down,
  trivial, out,
  trivial, outDw,
  trivial, lat,
  trivial, latDx,
  trivial, latDw⟩

end Cert.Proof

end
